-- ==== Defs.lean ====
def Pre_Kernel [hPre_rows_named : Cert.Pre_rows_named.Facts] (m : (ℓ : Loc Cert.Kernel.nD Cert.Kernel.τ Cert.Kernel.sig) → Buf (Elt Bits) ℓ) : Prop :=
  ∀ c : Dev Cert.Kernel.nD,
    (Cert.Pre_rows_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_rows_named : Cert.Pre_rows_named.Facts] (m : (ℓ : Loc Cert.KernelIdeal.nD Cert.KernelIdeal.τ Cert.KernelIdeal.sig) → Buf (Elt Ideal) ℓ) : Prop :=
  ∀ c : Dev Cert.KernelIdeal.nD,
    (Cert.Pre_rows_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_rows_named : Cert.Pre_rows_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_rows_named : Cert.Pre_rows_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_rows_named : Cert.Pre_rows_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_rows_named : Cert.Pre_rows_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_t" .f32 0x41649249#32 ((134217728 / 9395241 : ℝ) : EReal)
  ∧ IdealRules.named_const.Statement Cert.KernelIdeal.κ "c" .f32 0x3A05FB57#32 ((71930929045 / 140737488355328 : ℝ) : EReal)
  ∧ IdealRules.named_const.Statement Cert.KernelIdeal.κ "log_mpn" .f32 0xC0F28853#32 ((Real.log (8778913 / 17179869184) : ℝ) : EReal)

def algebraic_KernelIdeal_ReferenceIdeal [hKernelIdeal : Cert.KernelIdeal.Facts] [hReferenceIdeal : Cert.ReferenceIdeal.Facts] [hPre_rows_named : Cert.Pre_rows_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_rows_named : Cert.Pre_rows_named.Facts),
    quiescent_Kernel (hKernel := hKernel) (hPre_rows_named := hPre_rows_named)
    ∧ quiescent_KernelIdeal (hKernelIdeal := hKernelIdeal) (hPre_rows_named := hPre_rows_named)
    ∧ quiescent_ReferenceIdeal (hReferenceIdeal := hReferenceIdeal) (hPre_rows_named := hPre_rows_named)
    ∧ preserves_Kernel_KernelIdeal
    ∧ algebraic_KernelIdeal_ReferenceIdeal (hKernelIdeal := hKernelIdeal) (hReferenceIdeal := hReferenceIdeal) (hPre_rows_named := hPre_rows_named)
-- ==== Pre_rows_named.lean ====
abbrev S1024x128 : Shape := ⟨2, ![1024, 128]⟩
abbrev S1024 : Shape := ⟨1, ![1024]⟩
abbrev S1024x512 : Shape := ⟨2, ![1024, 512]⟩
abbrev S1000000x128 : Shape := ⟨2, ![1000000, 128]⟩
abbrev S_ : Shape := ⟨0, ![]⟩

class Facts : Prop where
  bcast_S_S1024x512 : S_.BroadcastsInDim S1024x512 (![] : Fin 0 → Fin S1024x512.rank)

variable [Facts]

def fn {F : FTy → Type} [FloatOps F] (main_arg0 : FVec F S1024x128 .f32) (main_arg1 : FVec F S1024x128 .f32) (main_arg2 : IVec S1024 32) (main_arg3 : IVec S1024x512 32) (main_arg4 : FVec F S1000000x128 .f32) (main_arg5 : FVec F S1000000x128 .f32) : IVec S1024x512 1 :=
  let main_c : IVec S_ 32 := constantI S_ 32 0#32
  let main_v0 : IVec S1024x512 32 := broadcastInDim S1024x512 ![] bcast_S_S1024x512 main_c
  let main_v1 : IVec S1024x512 1 := cmpi .sge main_arg3 main_v0
  let main_c_0 : IVec S_ 32 := constantI S_ 32 1000000#32
  let main_v2 : IVec S1024x512 32 := broadcastInDim S1024x512 ![] bcast_S_S1024x512 main_c_0
  let main_v3 : IVec S1024x512 1 := cmpi .slt main_arg3 main_v2
  let main_v4 : IVec S1024x512 1 := andi main_v1 main_v3
  main_v4
-- ==== Kernel.lean ====
abbrev S1024x128 : Shape := ⟨2, ![1024, 128]⟩
abbrev S1024 : Shape := ⟨1, ![1024]⟩
abbrev S1024x512 : Shape := ⟨2, ![1024, 512]⟩
abbrev S1000000x128 : Shape := ⟨2, ![1000000, 128]⟩
abbrev S128x128 : Shape := ⟨2, ![128, 128]⟩
abbrev S524288 : Shape := ⟨1, ![524288]⟩
abbrev S8388608 : Shape := ⟨1, ![8388608]⟩
abbrev S16384 : Shape := ⟨1, ![16384]⟩
abbrev S32x128 : Shape := ⟨2, ![32, 128]⟩
abbrev S2x128x128 : Shape := ⟨3, ![2, 128, 128]⟩
abbrev S2048 : Shape := ⟨1, ![2048]⟩
abbrev S_ : Shape := ⟨0, ![]⟩
abbrev S1x128x128 : Shape := ⟨3, ![1, 128, 128]⟩
abbrev S128 : Shape := ⟨1, ![128]⟩
abbrev S16 : Shape := ⟨1, ![16]⟩
abbrev S1x16 : Shape := ⟨2, ![1, 16]⟩
abbrev S65536x128 : Shape := ⟨2, ![65536, 128]⟩
abbrev S1x1 : Shape := ⟨2, ![1, 1]⟩
abbrev S16384x128 : Shape := ⟨2, ![16384, 128]⟩
abbrev S2 : Shape := ⟨1, ![2]⟩
abbrev S1 : Shape := ⟨1, ![1]⟩
abbrev S1x16384x128 : Shape := ⟨3, ![1, 16384, 128]⟩
abbrev S1x1x1 : Shape := ⟨3, ![1, 1, 1]⟩

abbrev nBuf : Table → Nat
  | .hbm => 14
  | .local .tc .vmem => 6
  | .local .tc .smem => 1
  | .local .scVector .vmem => 9
  | _ => 0

abbrev bufTy : (tb : Table) → Fin (nBuf tb) → BufTy
  | .hbm, ⟨0, _⟩ => ⟨S1024x128, .f32⟩
  | .hbm, ⟨1, _⟩ => ⟨S1024x128, .f32⟩
  | .hbm, ⟨2, _⟩ => ⟨S1024, .i32⟩
  | .hbm, ⟨3, _⟩ => ⟨S1024x512, .i32⟩
  | .hbm, ⟨4, _⟩ => ⟨S1000000x128, .f32⟩
  | .hbm, ⟨5, _⟩ => ⟨S1000000x128, .f32⟩
  | .hbm, ⟨6, _⟩ => ⟨S128x128, .f32⟩
  | .hbm, ⟨7, _⟩ => ⟨S524288, .i32⟩
  | .hbm, ⟨8, _⟩ => ⟨S8388608, .f32⟩
  | .hbm, ⟨9, _⟩ => ⟨S8388608, .f32⟩
  | .hbm, ⟨10, _⟩ => ⟨S65536x128, .f32⟩
  | .hbm, ⟨11, _⟩ => ⟨S65536x128, .f32⟩
  | .hbm, ⟨12, _⟩ => ⟨S1x1, .f32⟩
  | .hbm, ⟨13, _⟩ => ⟨S1, .f32⟩
  | .local .tc .vmem, ⟨0, _⟩ => ⟨S16384x128, .f32⟩
  | .local .tc .vmem, ⟨1, _⟩ => ⟨S16384x128, .f32⟩
  | .local .tc .vmem, ⟨2, _⟩ => ⟨S16384x128, .f32⟩
  | .local .tc .vmem, ⟨3, _⟩ => ⟨S16384x128, .f32⟩
  | .local .tc .vmem, ⟨4, _⟩ => ⟨S128x128, .f32⟩
  | .local .tc .vmem, ⟨5, _⟩ => ⟨S1x1, .f32⟩
  | .local .tc .smem, ⟨0, _⟩ => ⟨S2, .f32⟩
  | .local .scVector .vmem, ⟨0, _⟩ => ⟨S16384, .i32⟩
  | .local .scVector .vmem, ⟨1, _⟩ => ⟨S32x128, .f32⟩
  | .local .scVector .vmem, ⟨2, _⟩ => ⟨S32x128, .f32⟩
  | .local .scVector .vmem, ⟨3, _⟩ => ⟨S2x128x128, .f32⟩
  | .local .scVector .vmem, ⟨4, _⟩ => ⟨S2x128x128, .f32⟩
  | .local .scVector .vmem, ⟨5, _⟩ => ⟨S2048, .f32⟩
  | .local .scVector .vmem, ⟨6, _⟩ => ⟨S2048, .f32⟩
  | .local .scVector .vmem, ⟨7, _⟩ => ⟨S2048, .f32⟩
  | .local .scVector .vmem, ⟨8, _⟩ => ⟨S2048, .f32⟩
  | _, _ => ⟨S1024x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_arg4_scv : Ref sig .scVector := ⟨.hbm, 4, rfl⟩
abbrev main_arg5_scv : Ref sig .scVector := ⟨.hbm, 5, rfl⟩
abbrev main_v0_scv : Ref sig .scVector := ⟨.hbm, 7, rfl⟩
abbrev main_arg1_scv : Ref sig .scVector := ⟨.hbm, 1, rfl⟩
abbrev main_arg0_scv : Ref sig .scVector := ⟨.hbm, 0, rfl⟩
abbrev main_v1_0_scv : Ref sig .scVector := ⟨.hbm, 8, rfl⟩
abbrev main_v1_1_scv : Ref sig .scVector := ⟨.hbm, 9, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_scratch0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let c0_i32_25_r1 : BitVec 32 := 0#32
  ![v3.toNat, 0]
@[reducible] def k0_t1_loop : Scf.Loop 32 :=
  let c0_i32_22 : BitVec 32 := 0#32
  let c64_i32 : BitVec 32 := 64#32
  let v21 : BitVec 32 := Scalar.addi c0_i32_22 c64_i32
  let c1_i32_23 : BitVec 32 := 1#32
  ⟨c0_i32_22, v21, c1_i32_23⟩
def k0_off3 (k0_t1 : Fin k0_t1_loop.trips) : Fin 1 → Nat :=
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c128_i32_27 : BitVec 32 := 128#32
  let v33 : BitVec 32 := Scalar.muli v32 c128_i32_27
  ![v33.toNat]
def k0_off4 (k0_t1 : Fin k0_t1_loop.trips) : Fin 2 → Nat :=
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c0_i32_38 : BitVec 32 := 0#32
  let v43 : BitVec 1 := Scalar.cmpi .sgt v32 c0_i32_38
  let v44 : BitVec 32 := Scalar.extui v43
  let c0_i32_39 : BitVec 32 := 0#32
  let v45 : BitVec 1 := Scalar.cmpi .slt v32 c0_i32_39
  let v46 : BitVec 32 := Scalar.extui v45
  let v47 : BitVec 32 := Scalar.subi v44 v46
  let c4_i32 : BitVec 32 := 4#32
  let c0_i32_40 : BitVec 32 := 0#32
  let v48 : BitVec 1 := Scalar.cmpi .sgt c4_i32 c0_i32_40
  let v49 : BitVec 32 := Scalar.extui v48
  let c0_i32_41 : BitVec 32 := 0#32
  let v50 : BitVec 1 := Scalar.cmpi .slt c4_i32 c0_i32_41
  let v51 : BitVec 32 := Scalar.extui v50
  let v52 : BitVec 32 := Scalar.subi v49 v51
  let v53 : BitVec 1 := Scalar.cmpi .ne v47 v52
  let v54 : BitVec 32 := Scalar.remsi v32 c4_i32
  let c0_i32_42 : BitVec 32 := 0#32
  let v55 : BitVec 1 := Scalar.cmpi .ne v54 c0_i32_42
  let v56 : BitVec 1 := Scalar.andi v53 v55
  let v42 : BitVec 32 := Scalar.divsi v32 c4_i32
  let c1_i32_43 : BitVec 32 := 1#32
  let v57 : BitVec 32 := Scalar.subi v42 c1_i32_43
  let v58 : BitVec 32 := Scalar.select v56 v57 v42
  let v59 : Index := Scalar.indexCast v58
  let c0 : Index := 0#32
  ![v59.toNat, 0]
def k0_off5 (k0_t1 : Fin k0_t1_loop.trips) : Fin 2 → Nat :=
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c0_i32_38 : BitVec 32 := 0#32
  let v43 : BitVec 1 := Scalar.cmpi .sgt v32 c0_i32_38
  let v44 : BitVec 32 := Scalar.extui v43
  let c0_i32_39 : BitVec 32 := 0#32
  let v45 : BitVec 1 := Scalar.cmpi .slt v32 c0_i32_39
  let v46 : BitVec 32 := Scalar.extui v45
  let v47 : BitVec 32 := Scalar.subi v44 v46
  let c4_i32 : BitVec 32 := 4#32
  let c0_i32_40 : BitVec 32 := 0#32
  let v48 : BitVec 1 := Scalar.cmpi .sgt c4_i32 c0_i32_40
  let v49 : BitVec 32 := Scalar.extui v48
  let c0_i32_41 : BitVec 32 := 0#32
  let v50 : BitVec 1 := Scalar.cmpi .slt c4_i32 c0_i32_41
  let v51 : BitVec 32 := Scalar.extui v50
  let v52 : BitVec 32 := Scalar.subi v49 v51
  let v53 : BitVec 1 := Scalar.cmpi .ne v47 v52
  let v54 : BitVec 32 := Scalar.remsi v32 c4_i32
  let c0_i32_42 : BitVec 32 := 0#32
  let v55 : BitVec 1 := Scalar.cmpi .ne v54 c0_i32_42
  let v56 : BitVec 1 := Scalar.andi v53 v55
  let v42 : BitVec 32 := Scalar.divsi v32 c4_i32
  let c1_i32_43 : BitVec 32 := 1#32
  let v57 : BitVec 32 := Scalar.subi v42 c1_i32_43
  let v58 : BitVec 32 := Scalar.select v56 v57 v42
  let v61 : Index := Scalar.indexCast v58
  let c16 : Index := 16#32
  ![v61.toNat, 16]
def k0_off6 (k0_t1 : Fin k0_t1_loop.trips) : Fin 2 → Nat :=
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c0_i32_38 : BitVec 32 := 0#32
  let v43 : BitVec 1 := Scalar.cmpi .sgt v32 c0_i32_38
  let v44 : BitVec 32 := Scalar.extui v43
  let c0_i32_39 : BitVec 32 := 0#32
  let v45 : BitVec 1 := Scalar.cmpi .slt v32 c0_i32_39
  let v46 : BitVec 32 := Scalar.extui v45
  let v47 : BitVec 32 := Scalar.subi v44 v46
  let c4_i32 : BitVec 32 := 4#32
  let c0_i32_40 : BitVec 32 := 0#32
  let v48 : BitVec 1 := Scalar.cmpi .sgt c4_i32 c0_i32_40
  let v49 : BitVec 32 := Scalar.extui v48
  let c0_i32_41 : BitVec 32 := 0#32
  let v50 : BitVec 1 := Scalar.cmpi .slt c4_i32 c0_i32_41
  let v51 : BitVec 32 := Scalar.extui v50
  let v52 : BitVec 32 := Scalar.subi v49 v51
  let v53 : BitVec 1 := Scalar.cmpi .ne v47 v52
  let v54 : BitVec 32 := Scalar.remsi v32 c4_i32
  let c0_i32_42 : BitVec 32 := 0#32
  let v55 : BitVec 1 := Scalar.cmpi .ne v54 c0_i32_42
  let v56 : BitVec 1 := Scalar.andi v53 v55
  let v42 : BitVec 32 := Scalar.divsi v32 c4_i32
  let c1_i32_43 : BitVec 32 := 1#32
  let v57 : BitVec 32 := Scalar.subi v42 c1_i32_43
  let v58 : BitVec 32 := Scalar.select v56 v57 v42
  let v63 : Index := Scalar.indexCast v58
  let c32 : Index := 32#32
  ![v63.toNat, 32]
def k0_off7 (k0_t1 : Fin k0_t1_loop.trips) : Fin 2 → Nat :=
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c0_i32_38 : BitVec 32 := 0#32
  let v43 : BitVec 1 := Scalar.cmpi .sgt v32 c0_i32_38
  let v44 : BitVec 32 := Scalar.extui v43
  let c0_i32_39 : BitVec 32 := 0#32
  let v45 : BitVec 1 := Scalar.cmpi .slt v32 c0_i32_39
  let v46 : BitVec 32 := Scalar.extui v45
  let v47 : BitVec 32 := Scalar.subi v44 v46
  let c4_i32 : BitVec 32 := 4#32
  let c0_i32_40 : BitVec 32 := 0#32
  let v48 : BitVec 1 := Scalar.cmpi .sgt c4_i32 c0_i32_40
  let v49 : BitVec 32 := Scalar.extui v48
  let c0_i32_41 : BitVec 32 := 0#32
  let v50 : BitVec 1 := Scalar.cmpi .slt c4_i32 c0_i32_41
  let v51 : BitVec 32 := Scalar.extui v50
  let v52 : BitVec 32 := Scalar.subi v49 v51
  let v53 : BitVec 1 := Scalar.cmpi .ne v47 v52
  let v54 : BitVec 32 := Scalar.remsi v32 c4_i32
  let c0_i32_42 : BitVec 32 := 0#32
  let v55 : BitVec 1 := Scalar.cmpi .ne v54 c0_i32_42
  let v56 : BitVec 1 := Scalar.andi v53 v55
  let v42 : BitVec 32 := Scalar.divsi v32 c4_i32
  let c1_i32_43 : BitVec 32 := 1#32
  let v57 : BitVec 32 := Scalar.subi v42 c1_i32_43
  let v58 : BitVec 32 := Scalar.select v56 v57 v42
  let v65 : Index := Scalar.indexCast v58
  let c48 : Index := 48#32
  ![v65.toNat, 48]
def k0_off8 (k0_t1 : Fin k0_t1_loop.trips) : Fin 2 → Nat :=
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c0_i32_38 : BitVec 32 := 0#32
  let v43 : BitVec 1 := Scalar.cmpi .sgt v32 c0_i32_38
  let v44 : BitVec 32 := Scalar.extui v43
  let c0_i32_39 : BitVec 32 := 0#32
  let v45 : BitVec 1 := Scalar.cmpi .slt v32 c0_i32_39
  let v46 : BitVec 32 := Scalar.extui v45
  let v47 : BitVec 32 := Scalar.subi v44 v46
  let c4_i32 : BitVec 32 := 4#32
  let c0_i32_40 : BitVec 32 := 0#32
  let v48 : BitVec 1 := Scalar.cmpi .sgt c4_i32 c0_i32_40
  let v49 : BitVec 32 := Scalar.extui v48
  let c0_i32_41 : BitVec 32 := 0#32
  let v50 : BitVec 1 := Scalar.cmpi .slt c4_i32 c0_i32_41
  let v51 : BitVec 32 := Scalar.extui v50
  let v52 : BitVec 32 := Scalar.subi v49 v51
  let v53 : BitVec 1 := Scalar.cmpi .ne v47 v52
  let v54 : BitVec 32 := Scalar.remsi v32 c4_i32
  let c0_i32_42 : BitVec 32 := 0#32
  let v55 : BitVec 1 := Scalar.cmpi .ne v54 c0_i32_42
  let v56 : BitVec 1 := Scalar.andi v53 v55
  let v42 : BitVec 32 := Scalar.divsi v32 c4_i32
  let c1_i32_43 : BitVec 32 := 1#32
  let v57 : BitVec 32 := Scalar.subi v42 c1_i32_43
  let v58 : BitVec 32 := Scalar.select v56 v57 v42
  let v67 : Index := Scalar.indexCast v58
  let c64 : Index := 64#32
  ![v67.toNat, 64]
def k0_off9 (k0_t1 : Fin k0_t1_loop.trips) : Fin 2 → Nat :=
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c0_i32_38 : BitVec 32 := 0#32
  let v43 : BitVec 1 := Scalar.cmpi .sgt v32 c0_i32_38
  let v44 : BitVec 32 := Scalar.extui v43
  let c0_i32_39 : BitVec 32 := 0#32
  let v45 : BitVec 1 := Scalar.cmpi .slt v32 c0_i32_39
  let v46 : BitVec 32 := Scalar.extui v45
  let v47 : BitVec 32 := Scalar.subi v44 v46
  let c4_i32 : BitVec 32 := 4#32
  let c0_i32_40 : BitVec 32 := 0#32
  let v48 : BitVec 1 := Scalar.cmpi .sgt c4_i32 c0_i32_40
  let v49 : BitVec 32 := Scalar.extui v48
  let c0_i32_41 : BitVec 32 := 0#32
  let v50 : BitVec 1 := Scalar.cmpi .slt c4_i32 c0_i32_41
  let v51 : BitVec 32 := Scalar.extui v50
  let v52 : BitVec 32 := Scalar.subi v49 v51
  let v53 : BitVec 1 := Scalar.cmpi .ne v47 v52
  let v54 : BitVec 32 := Scalar.remsi v32 c4_i32
  let c0_i32_42 : BitVec 32 := 0#32
  let v55 : BitVec 1 := Scalar.cmpi .ne v54 c0_i32_42
  let v56 : BitVec 1 := Scalar.andi v53 v55
  let v42 : BitVec 32 := Scalar.divsi v32 c4_i32
  let c1_i32_43 : BitVec 32 := 1#32
  let v57 : BitVec 32 := Scalar.subi v42 c1_i32_43
  let v58 : BitVec 32 := Scalar.select v56 v57 v42
  let v69 : Index := Scalar.indexCast v58
  let c80 : Index := 80#32
  ![v69.toNat, 80]
def k0_off10 (k0_t1 : Fin k0_t1_loop.trips) : Fin 2 → Nat :=
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c0_i32_38 : BitVec 32 := 0#32
  let v43 : BitVec 1 := Scalar.cmpi .sgt v32 c0_i32_38
  let v44 : BitVec 32 := Scalar.extui v43
  let c0_i32_39 : BitVec 32 := 0#32
  let v45 : BitVec 1 := Scalar.cmpi .slt v32 c0_i32_39
  let v46 : BitVec 32 := Scalar.extui v45
  let v47 : BitVec 32 := Scalar.subi v44 v46
  let c4_i32 : BitVec 32 := 4#32
  let c0_i32_40 : BitVec 32 := 0#32
  let v48 : BitVec 1 := Scalar.cmpi .sgt c4_i32 c0_i32_40
  let v49 : BitVec 32 := Scalar.extui v48
  let c0_i32_41 : BitVec 32 := 0#32
  let v50 : BitVec 1 := Scalar.cmpi .slt c4_i32 c0_i32_41
  let v51 : BitVec 32 := Scalar.extui v50
  let v52 : BitVec 32 := Scalar.subi v49 v51
  let v53 : BitVec 1 := Scalar.cmpi .ne v47 v52
  let v54 : BitVec 32 := Scalar.remsi v32 c4_i32
  let c0_i32_42 : BitVec 32 := 0#32
  let v55 : BitVec 1 := Scalar.cmpi .ne v54 c0_i32_42
  let v56 : BitVec 1 := Scalar.andi v53 v55
  let v42 : BitVec 32 := Scalar.divsi v32 c4_i32
  let c1_i32_43 : BitVec 32 := 1#32
  let v57 : BitVec 32 := Scalar.subi v42 c1_i32_43
  let v58 : BitVec 32 := Scalar.select v56 v57 v42
  let v71 : Index := Scalar.indexCast v58
  let c96 : Index := 96#32
  ![v71.toNat, 96]
def k0_off11 (k0_t1 : Fin k0_t1_loop.trips) : Fin 2 → Nat :=
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c0_i32_38 : BitVec 32 := 0#32
  let v43 : BitVec 1 := Scalar.cmpi .sgt v32 c0_i32_38
  let v44 : BitVec 32 := Scalar.extui v43
  let c0_i32_39 : BitVec 32 := 0#32
  let v45 : BitVec 1 := Scalar.cmpi .slt v32 c0_i32_39
  let v46 : BitVec 32 := Scalar.extui v45
  let v47 : BitVec 32 := Scalar.subi v44 v46
  let c4_i32 : BitVec 32 := 4#32
  let c0_i32_40 : BitVec 32 := 0#32
  let v48 : BitVec 1 := Scalar.cmpi .sgt c4_i32 c0_i32_40
  let v49 : BitVec 32 := Scalar.extui v48
  let c0_i32_41 : BitVec 32 := 0#32
  let v50 : BitVec 1 := Scalar.cmpi .slt c4_i32 c0_i32_41
  let v51 : BitVec 32 := Scalar.extui v50
  let v52 : BitVec 32 := Scalar.subi v49 v51
  let v53 : BitVec 1 := Scalar.cmpi .ne v47 v52
  let v54 : BitVec 32 := Scalar.remsi v32 c4_i32
  let c0_i32_42 : BitVec 32 := 0#32
  let v55 : BitVec 1 := Scalar.cmpi .ne v54 c0_i32_42
  let v56 : BitVec 1 := Scalar.andi v53 v55
  let v42 : BitVec 32 := Scalar.divsi v32 c4_i32
  let c1_i32_43 : BitVec 32 := 1#32
  let v57 : BitVec 32 := Scalar.subi v42 c1_i32_43
  let v58 : BitVec 32 := Scalar.select v56 v57 v42
  let v73 : Index := Scalar.indexCast v58
  let c112 : Index := 112#32
  ![v73.toNat, 112]
def k0_cond1 (k0_t1 : Fin k0_t1_loop.trips) : BitVec 1 :=
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c2_i32_54 : BitVec 32 := 2#32
  let v94 : BitVec 1 := Scalar.cmpi .sge v32 c2_i32_54
  let v95 : BitVec 32 := Scalar.extui v94
  let c0_i32_55 : BitVec 32 := 0#32
  let v96 : BitVec 1 := Scalar.cmpi .ne v95 c0_i32_55
  v96

def k0_off12 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c128_i32_52 : BitVec 32 := 128#32
  let v91 : BitVec 32 := Scalar.muli v32 c128_i32_52
  let v92 : BitVec 32 := Scalar.addi v2 v91
  let c16_i32_53 : BitVec 32 := 16#32
  let v93 : BitVec 32 := Scalar.muli v92 c16_i32_53
  ![v93.toNat]
@[reducible] def k0_t2_loop : Scf.Loop 32 :=
  let c0_i32_58 : BitVec 32 := 0#32
  let c128_i32_59 : BitVec 32 := 128#32
  let v97 : BitVec 32 := Scalar.addi c0_i32_58 c128_i32_59
  let c1_i32_60 : BitVec 32 := 1#32
  ⟨c0_i32_58, v97, c1_i32_60⟩
def k0_off13 (k0_t2 : Fin k0_t2_loop.trips) : Fin 2 → Nat :=
  let c0_i32_114 : BitVec 32 := 0#32
  let c0_i32_58 : BitVec 32 := 0#32
  let c1_i32_60 : BitVec 32 := 1#32
  let arg27 : BitVec 32 := Scf.iv c0_i32_58 c1_i32_60 k0_t2
  let c1_i32_113 : BitVec 32 := 1#32
  let v180 : BitVec 32 := Scalar.muli arg27 c1_i32_113
  let v181 : BitVec 32 := Scalar.addi c0_i32_114 v180
  let v184 : Index := Scalar.indexCast v181
  let c0_117 : Index := 0#32
  ![v184.toNat, 0]
def k0_off14 (k0_t2 : Fin k0_t2_loop.trips) : Fin 2 → Nat :=
  let c0_i32_114 : BitVec 32 := 0#32
  let c0_i32_58 : BitVec 32 := 0#32
  let c1_i32_60 : BitVec 32 := 1#32
  let arg27 : BitVec 32 := Scf.iv c0_i32_58 c1_i32_60 k0_t2
  let c1_i32_113 : BitVec 32 := 1#32
  let v180 : BitVec 32 := Scalar.muli arg27 c1_i32_113
  let v181 : BitVec 32 := Scalar.addi c0_i32_114 v180
  let v194 : Index := Scalar.indexCast v181
  let c16_123 : Index := 16#32
  ![v194.toNat, 16]
def k0_off15 (k0_t2 : Fin k0_t2_loop.trips) : Fin 2 → Nat :=
  let c0_i32_114 : BitVec 32 := 0#32
  let c0_i32_58 : BitVec 32 := 0#32
  let c1_i32_60 : BitVec 32 := 1#32
  let arg27 : BitVec 32 := Scf.iv c0_i32_58 c1_i32_60 k0_t2
  let c1_i32_113 : BitVec 32 := 1#32
  let v180 : BitVec 32 := Scalar.muli arg27 c1_i32_113
  let v181 : BitVec 32 := Scalar.addi c0_i32_114 v180
  let v206 : Index := Scalar.indexCast v181
  let c32_129 : Index := 32#32
  ![v206.toNat, 32]
def k0_off16 (k0_t2 : Fin k0_t2_loop.trips) : Fin 2 → Nat :=
  let c0_i32_114 : BitVec 32 := 0#32
  let c0_i32_58 : BitVec 32 := 0#32
  let c1_i32_60 : BitVec 32 := 1#32
  let arg27 : BitVec 32 := Scf.iv c0_i32_58 c1_i32_60 k0_t2
  let c1_i32_113 : BitVec 32 := 1#32
  let v180 : BitVec 32 := Scalar.muli arg27 c1_i32_113
  let v181 : BitVec 32 := Scalar.addi c0_i32_114 v180
  let v218 : Index := Scalar.indexCast v181
  let c48_135 : Index := 48#32
  ![v218.toNat, 48]
def k0_off17 (k0_t2 : Fin k0_t2_loop.trips) : Fin 2 → Nat :=
  let c0_i32_114 : BitVec 32 := 0#32
  let c0_i32_58 : BitVec 32 := 0#32
  let c1_i32_60 : BitVec 32 := 1#32
  let arg27 : BitVec 32 := Scf.iv c0_i32_58 c1_i32_60 k0_t2
  let c1_i32_113 : BitVec 32 := 1#32
  let v180 : BitVec 32 := Scalar.muli arg27 c1_i32_113
  let v181 : BitVec 32 := Scalar.addi c0_i32_114 v180
  let v230 : Index := Scalar.indexCast v181
  let c64_141 : Index := 64#32
  ![v230.toNat, 64]
def k0_off18 (k0_t2 : Fin k0_t2_loop.trips) : Fin 2 → Nat :=
  let c0_i32_114 : BitVec 32 := 0#32
  let c0_i32_58 : BitVec 32 := 0#32
  let c1_i32_60 : BitVec 32 := 1#32
  let arg27 : BitVec 32 := Scf.iv c0_i32_58 c1_i32_60 k0_t2
  let c1_i32_113 : BitVec 32 := 1#32
  let v180 : BitVec 32 := Scalar.muli arg27 c1_i32_113
  let v181 : BitVec 32 := Scalar.addi c0_i32_114 v180
  let v242 : Index := Scalar.indexCast v181
  let c80_147 : Index := 80#32
  ![v242.toNat, 80]
def k0_off19 (k0_t2 : Fin k0_t2_loop.trips) : Fin 2 → Nat :=
  let c0_i32_114 : BitVec 32 := 0#32
  let c0_i32_58 : BitVec 32 := 0#32
  let c1_i32_60 : BitVec 32 := 1#32
  let arg27 : BitVec 32 := Scf.iv c0_i32_58 c1_i32_60 k0_t2
  let c1_i32_113 : BitVec 32 := 1#32
  let v180 : BitVec 32 := Scalar.muli arg27 c1_i32_113
  let v181 : BitVec 32 := Scalar.addi c0_i32_114 v180
  let v254 : Index := Scalar.indexCast v181
  let c96_153 : Index := 96#32
  ![v254.toNat, 96]
def k0_off20 (k0_t2 : Fin k0_t2_loop.trips) : Fin 2 → Nat :=
  let c0_i32_114 : BitVec 32 := 0#32
  let c0_i32_58 : BitVec 32 := 0#32
  let c1_i32_60 : BitVec 32 := 1#32
  let arg27 : BitVec 32 := Scf.iv c0_i32_58 c1_i32_60 k0_t2
  let c1_i32_113 : BitVec 32 := 1#32
  let v180 : BitVec 32 := Scalar.muli arg27 c1_i32_113
  let v181 : BitVec 32 := Scalar.addi c0_i32_114 v180
  let v266 : Index := Scalar.indexCast v181
  let c112_159 : Index := 112#32
  ![v266.toNat, 112]
def k0_off21 (k0_t2 : Fin k0_t2_loop.trips) : Fin 1 → Nat :=
  let c0_i32_114 : BitVec 32 := 0#32
  let c0_i32_58 : BitVec 32 := 0#32
  let c1_i32_60 : BitVec 32 := 1#32
  let arg27 : BitVec 32 := Scf.iv c0_i32_58 c1_i32_60 k0_t2
  let c1_i32_113 : BitVec 32 := 1#32
  let v180 : BitVec 32 := Scalar.muli arg27 c1_i32_113
  let v181 : BitVec 32 := Scalar.addi c0_i32_114 v180
  let c16_i32_163 : BitVec 32 := 16#32
  let v276 : BitVec 32 := Scalar.muli v181 c16_i32_163
  let v277 : Index := Scalar.indexCast v276
  ![v277.toNat]
def k0_off22 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c128_i32_52 : BitVec 32 := 128#32
  let v91 : BitVec 32 := Scalar.muli v32 c128_i32_52
  let v92 : BitVec 32 := Scalar.addi v2 v91
  let c16_i32_53 : BitVec 32 := 16#32
  let v93 : BitVec 32 := Scalar.muli v92 c16_i32_53
  ![v93.toNat]
def k0_cond2 (k0_t1 : Fin k0_t1_loop.trips) : BitVec 1 :=
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c2_i32_62 : BitVec 32 := 2#32
  let v102 : BitVec 32 := Scalar.addi v32 c2_i32_62
  let c128_i32_63 : BitVec 32 := 128#32
  let v103 : BitVec 1 := Scalar.cmpi .slt v102 c128_i32_63
  let v104 : BitVec 32 := Scalar.extui v103
  let c0_i32_64 : BitVec 32 := 0#32
  let v105 : BitVec 1 := Scalar.cmpi .ne v104 c0_i32_64
  v105

def k0_off23 (k0_t1 : Fin k0_t1_loop.trips) : Fin 1 → Nat :=
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c2_i32_113 : BitVec 32 := 2#32
  let v180 : BitVec 32 := Scalar.addi v32 c2_i32_113
  let c128_i32_114 : BitVec 32 := 128#32
  let v181 : BitVec 32 := Scalar.muli v180 c128_i32_114
  ![v181.toNat]
def k0_off24 (k0_t1 : Fin k0_t1_loop.trips) : Fin 1 → Nat :=
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c1_i32_65 : BitVec 32 := 1#32
  let v106 : BitVec 32 := Scalar.addi v32 c1_i32_65
  let c128_i32_66 : BitVec 32 := 128#32
  let v107 : BitVec 32 := Scalar.muli v106 c128_i32_66
  ![v107.toNat]
def k0_off25 (k0_t1 : Fin k0_t1_loop.trips) : Fin 2 → Nat :=
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c1_i32_65 : BitVec 32 := 1#32
  let v106 : BitVec 32 := Scalar.addi v32 c1_i32_65
  let c0_i32_78 : BitVec 32 := 0#32
  let v117 : BitVec 1 := Scalar.cmpi .sgt v106 c0_i32_78
  let v118 : BitVec 32 := Scalar.extui v117
  let c0_i32_79 : BitVec 32 := 0#32
  let v119 : BitVec 1 := Scalar.cmpi .slt v106 c0_i32_79
  let v120 : BitVec 32 := Scalar.extui v119
  let v121 : BitVec 32 := Scalar.subi v118 v120
  let c4_i32_77 : BitVec 32 := 4#32
  let c0_i32_80 : BitVec 32 := 0#32
  let v122 : BitVec 1 := Scalar.cmpi .sgt c4_i32_77 c0_i32_80
  let v123 : BitVec 32 := Scalar.extui v122
  let c0_i32_81 : BitVec 32 := 0#32
  let v124 : BitVec 1 := Scalar.cmpi .slt c4_i32_77 c0_i32_81
  let v125 : BitVec 32 := Scalar.extui v124
  let v126 : BitVec 32 := Scalar.subi v123 v125
  let v127 : BitVec 1 := Scalar.cmpi .ne v121 v126
  let v128 : BitVec 32 := Scalar.remsi v106 c4_i32_77
  let c0_i32_82 : BitVec 32 := 0#32
  let v129 : BitVec 1 := Scalar.cmpi .ne v128 c0_i32_82
  let v130 : BitVec 1 := Scalar.andi v127 v129
  let v116 : BitVec 32 := Scalar.divsi v106 c4_i32_77
  let c1_i32_83 : BitVec 32 := 1#32
  let v131 : BitVec 32 := Scalar.subi v116 c1_i32_83
  let v132 : BitVec 32 := Scalar.select v130 v131 v116
  let v133 : Index := Scalar.indexCast v132
  let c0_84 : Index := 0#32
  ![v133.toNat, 0]
def k0_off26 (k0_t1 : Fin k0_t1_loop.trips) : Fin 2 → Nat :=
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c1_i32_65 : BitVec 32 := 1#32
  let v106 : BitVec 32 := Scalar.addi v32 c1_i32_65
  let c0_i32_78 : BitVec 32 := 0#32
  let v117 : BitVec 1 := Scalar.cmpi .sgt v106 c0_i32_78
  let v118 : BitVec 32 := Scalar.extui v117
  let c0_i32_79 : BitVec 32 := 0#32
  let v119 : BitVec 1 := Scalar.cmpi .slt v106 c0_i32_79
  let v120 : BitVec 32 := Scalar.extui v119
  let v121 : BitVec 32 := Scalar.subi v118 v120
  let c4_i32_77 : BitVec 32 := 4#32
  let c0_i32_80 : BitVec 32 := 0#32
  let v122 : BitVec 1 := Scalar.cmpi .sgt c4_i32_77 c0_i32_80
  let v123 : BitVec 32 := Scalar.extui v122
  let c0_i32_81 : BitVec 32 := 0#32
  let v124 : BitVec 1 := Scalar.cmpi .slt c4_i32_77 c0_i32_81
  let v125 : BitVec 32 := Scalar.extui v124
  let v126 : BitVec 32 := Scalar.subi v123 v125
  let v127 : BitVec 1 := Scalar.cmpi .ne v121 v126
  let v128 : BitVec 32 := Scalar.remsi v106 c4_i32_77
  let c0_i32_82 : BitVec 32 := 0#32
  let v129 : BitVec 1 := Scalar.cmpi .ne v128 c0_i32_82
  let v130 : BitVec 1 := Scalar.andi v127 v129
  let v116 : BitVec 32 := Scalar.divsi v106 c4_i32_77
  let c1_i32_83 : BitVec 32 := 1#32
  let v131 : BitVec 32 := Scalar.subi v116 c1_i32_83
  let v132 : BitVec 32 := Scalar.select v130 v131 v116
  let v135 : Index := Scalar.indexCast v132
  let c16_85 : Index := 16#32
  ![v135.toNat, 16]
def k0_off27 (k0_t1 : Fin k0_t1_loop.trips) : Fin 2 → Nat :=
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c1_i32_65 : BitVec 32 := 1#32
  let v106 : BitVec 32 := Scalar.addi v32 c1_i32_65
  let c0_i32_78 : BitVec 32 := 0#32
  let v117 : BitVec 1 := Scalar.cmpi .sgt v106 c0_i32_78
  let v118 : BitVec 32 := Scalar.extui v117
  let c0_i32_79 : BitVec 32 := 0#32
  let v119 : BitVec 1 := Scalar.cmpi .slt v106 c0_i32_79
  let v120 : BitVec 32 := Scalar.extui v119
  let v121 : BitVec 32 := Scalar.subi v118 v120
  let c4_i32_77 : BitVec 32 := 4#32
  let c0_i32_80 : BitVec 32 := 0#32
  let v122 : BitVec 1 := Scalar.cmpi .sgt c4_i32_77 c0_i32_80
  let v123 : BitVec 32 := Scalar.extui v122
  let c0_i32_81 : BitVec 32 := 0#32
  let v124 : BitVec 1 := Scalar.cmpi .slt c4_i32_77 c0_i32_81
  let v125 : BitVec 32 := Scalar.extui v124
  let v126 : BitVec 32 := Scalar.subi v123 v125
  let v127 : BitVec 1 := Scalar.cmpi .ne v121 v126
  let v128 : BitVec 32 := Scalar.remsi v106 c4_i32_77
  let c0_i32_82 : BitVec 32 := 0#32
  let v129 : BitVec 1 := Scalar.cmpi .ne v128 c0_i32_82
  let v130 : BitVec 1 := Scalar.andi v127 v129
  let v116 : BitVec 32 := Scalar.divsi v106 c4_i32_77
  let c1_i32_83 : BitVec 32 := 1#32
  let v131 : BitVec 32 := Scalar.subi v116 c1_i32_83
  let v132 : BitVec 32 := Scalar.select v130 v131 v116
  let v137 : Index := Scalar.indexCast v132
  let c32_86 : Index := 32#32
  ![v137.toNat, 32]
def k0_off28 (k0_t1 : Fin k0_t1_loop.trips) : Fin 2 → Nat :=
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c1_i32_65 : BitVec 32 := 1#32
  let v106 : BitVec 32 := Scalar.addi v32 c1_i32_65
  let c0_i32_78 : BitVec 32 := 0#32
  let v117 : BitVec 1 := Scalar.cmpi .sgt v106 c0_i32_78
  let v118 : BitVec 32 := Scalar.extui v117
  let c0_i32_79 : BitVec 32 := 0#32
  let v119 : BitVec 1 := Scalar.cmpi .slt v106 c0_i32_79
  let v120 : BitVec 32 := Scalar.extui v119
  let v121 : BitVec 32 := Scalar.subi v118 v120
  let c4_i32_77 : BitVec 32 := 4#32
  let c0_i32_80 : BitVec 32 := 0#32
  let v122 : BitVec 1 := Scalar.cmpi .sgt c4_i32_77 c0_i32_80
  let v123 : BitVec 32 := Scalar.extui v122
  let c0_i32_81 : BitVec 32 := 0#32
  let v124 : BitVec 1 := Scalar.cmpi .slt c4_i32_77 c0_i32_81
  let v125 : BitVec 32 := Scalar.extui v124
  let v126 : BitVec 32 := Scalar.subi v123 v125
  let v127 : BitVec 1 := Scalar.cmpi .ne v121 v126
  let v128 : BitVec 32 := Scalar.remsi v106 c4_i32_77
  let c0_i32_82 : BitVec 32 := 0#32
  let v129 : BitVec 1 := Scalar.cmpi .ne v128 c0_i32_82
  let v130 : BitVec 1 := Scalar.andi v127 v129
  let v116 : BitVec 32 := Scalar.divsi v106 c4_i32_77
  let c1_i32_83 : BitVec 32 := 1#32
  let v131 : BitVec 32 := Scalar.subi v116 c1_i32_83
  let v132 : BitVec 32 := Scalar.select v130 v131 v116
  let v139 : Index := Scalar.indexCast v132
  let c48_87 : Index := 48#32
  ![v139.toNat, 48]
def k0_off29 (k0_t1 : Fin k0_t1_loop.trips) : Fin 2 → Nat :=
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c1_i32_65 : BitVec 32 := 1#32
  let v106 : BitVec 32 := Scalar.addi v32 c1_i32_65
  let c0_i32_78 : BitVec 32 := 0#32
  let v117 : BitVec 1 := Scalar.cmpi .sgt v106 c0_i32_78
  let v118 : BitVec 32 := Scalar.extui v117
  let c0_i32_79 : BitVec 32 := 0#32
  let v119 : BitVec 1 := Scalar.cmpi .slt v106 c0_i32_79
  let v120 : BitVec 32 := Scalar.extui v119
  let v121 : BitVec 32 := Scalar.subi v118 v120
  let c4_i32_77 : BitVec 32 := 4#32
  let c0_i32_80 : BitVec 32 := 0#32
  let v122 : BitVec 1 := Scalar.cmpi .sgt c4_i32_77 c0_i32_80
  let v123 : BitVec 32 := Scalar.extui v122
  let c0_i32_81 : BitVec 32 := 0#32
  let v124 : BitVec 1 := Scalar.cmpi .slt c4_i32_77 c0_i32_81
  let v125 : BitVec 32 := Scalar.extui v124
  let v126 : BitVec 32 := Scalar.subi v123 v125
  let v127 : BitVec 1 := Scalar.cmpi .ne v121 v126
  let v128 : BitVec 32 := Scalar.remsi v106 c4_i32_77
  let c0_i32_82 : BitVec 32 := 0#32
  let v129 : BitVec 1 := Scalar.cmpi .ne v128 c0_i32_82
  let v130 : BitVec 1 := Scalar.andi v127 v129
  let v116 : BitVec 32 := Scalar.divsi v106 c4_i32_77
  let c1_i32_83 : BitVec 32 := 1#32
  let v131 : BitVec 32 := Scalar.subi v116 c1_i32_83
  let v132 : BitVec 32 := Scalar.select v130 v131 v116
  let v141 : Index := Scalar.indexCast v132
  let c64_88 : Index := 64#32
  ![v141.toNat, 64]
def k0_off30 (k0_t1 : Fin k0_t1_loop.trips) : Fin 2 → Nat :=
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c1_i32_65 : BitVec 32 := 1#32
  let v106 : BitVec 32 := Scalar.addi v32 c1_i32_65
  let c0_i32_78 : BitVec 32 := 0#32
  let v117 : BitVec 1 := Scalar.cmpi .sgt v106 c0_i32_78
  let v118 : BitVec 32 := Scalar.extui v117
  let c0_i32_79 : BitVec 32 := 0#32
  let v119 : BitVec 1 := Scalar.cmpi .slt v106 c0_i32_79
  let v120 : BitVec 32 := Scalar.extui v119
  let v121 : BitVec 32 := Scalar.subi v118 v120
  let c4_i32_77 : BitVec 32 := 4#32
  let c0_i32_80 : BitVec 32 := 0#32
  let v122 : BitVec 1 := Scalar.cmpi .sgt c4_i32_77 c0_i32_80
  let v123 : BitVec 32 := Scalar.extui v122
  let c0_i32_81 : BitVec 32 := 0#32
  let v124 : BitVec 1 := Scalar.cmpi .slt c4_i32_77 c0_i32_81
  let v125 : BitVec 32 := Scalar.extui v124
  let v126 : BitVec 32 := Scalar.subi v123 v125
  let v127 : BitVec 1 := Scalar.cmpi .ne v121 v126
  let v128 : BitVec 32 := Scalar.remsi v106 c4_i32_77
  let c0_i32_82 : BitVec 32 := 0#32
  let v129 : BitVec 1 := Scalar.cmpi .ne v128 c0_i32_82
  let v130 : BitVec 1 := Scalar.andi v127 v129
  let v116 : BitVec 32 := Scalar.divsi v106 c4_i32_77
  let c1_i32_83 : BitVec 32 := 1#32
  let v131 : BitVec 32 := Scalar.subi v116 c1_i32_83
  let v132 : BitVec 32 := Scalar.select v130 v131 v116
  let v143 : Index := Scalar.indexCast v132
  let c80_89 : Index := 80#32
  ![v143.toNat, 80]
def k0_off31 (k0_t1 : Fin k0_t1_loop.trips) : Fin 2 → Nat :=
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c1_i32_65 : BitVec 32 := 1#32
  let v106 : BitVec 32 := Scalar.addi v32 c1_i32_65
  let c0_i32_78 : BitVec 32 := 0#32
  let v117 : BitVec 1 := Scalar.cmpi .sgt v106 c0_i32_78
  let v118 : BitVec 32 := Scalar.extui v117
  let c0_i32_79 : BitVec 32 := 0#32
  let v119 : BitVec 1 := Scalar.cmpi .slt v106 c0_i32_79
  let v120 : BitVec 32 := Scalar.extui v119
  let v121 : BitVec 32 := Scalar.subi v118 v120
  let c4_i32_77 : BitVec 32 := 4#32
  let c0_i32_80 : BitVec 32 := 0#32
  let v122 : BitVec 1 := Scalar.cmpi .sgt c4_i32_77 c0_i32_80
  let v123 : BitVec 32 := Scalar.extui v122
  let c0_i32_81 : BitVec 32 := 0#32
  let v124 : BitVec 1 := Scalar.cmpi .slt c4_i32_77 c0_i32_81
  let v125 : BitVec 32 := Scalar.extui v124
  let v126 : BitVec 32 := Scalar.subi v123 v125
  let v127 : BitVec 1 := Scalar.cmpi .ne v121 v126
  let v128 : BitVec 32 := Scalar.remsi v106 c4_i32_77
  let c0_i32_82 : BitVec 32 := 0#32
  let v129 : BitVec 1 := Scalar.cmpi .ne v128 c0_i32_82
  let v130 : BitVec 1 := Scalar.andi v127 v129
  let v116 : BitVec 32 := Scalar.divsi v106 c4_i32_77
  let c1_i32_83 : BitVec 32 := 1#32
  let v131 : BitVec 32 := Scalar.subi v116 c1_i32_83
  let v132 : BitVec 32 := Scalar.select v130 v131 v116
  let v145 : Index := Scalar.indexCast v132
  let c96_90 : Index := 96#32
  ![v145.toNat, 96]
def k0_off32 (k0_t1 : Fin k0_t1_loop.trips) : Fin 2 → Nat :=
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c1_i32_65 : BitVec 32 := 1#32
  let v106 : BitVec 32 := Scalar.addi v32 c1_i32_65
  let c0_i32_78 : BitVec 32 := 0#32
  let v117 : BitVec 1 := Scalar.cmpi .sgt v106 c0_i32_78
  let v118 : BitVec 32 := Scalar.extui v117
  let c0_i32_79 : BitVec 32 := 0#32
  let v119 : BitVec 1 := Scalar.cmpi .slt v106 c0_i32_79
  let v120 : BitVec 32 := Scalar.extui v119
  let v121 : BitVec 32 := Scalar.subi v118 v120
  let c4_i32_77 : BitVec 32 := 4#32
  let c0_i32_80 : BitVec 32 := 0#32
  let v122 : BitVec 1 := Scalar.cmpi .sgt c4_i32_77 c0_i32_80
  let v123 : BitVec 32 := Scalar.extui v122
  let c0_i32_81 : BitVec 32 := 0#32
  let v124 : BitVec 1 := Scalar.cmpi .slt c4_i32_77 c0_i32_81
  let v125 : BitVec 32 := Scalar.extui v124
  let v126 : BitVec 32 := Scalar.subi v123 v125
  let v127 : BitVec 1 := Scalar.cmpi .ne v121 v126
  let v128 : BitVec 32 := Scalar.remsi v106 c4_i32_77
  let c0_i32_82 : BitVec 32 := 0#32
  let v129 : BitVec 1 := Scalar.cmpi .ne v128 c0_i32_82
  let v130 : BitVec 1 := Scalar.andi v127 v129
  let v116 : BitVec 32 := Scalar.divsi v106 c4_i32_77
  let c1_i32_83 : BitVec 32 := 1#32
  let v131 : BitVec 32 := Scalar.subi v116 c1_i32_83
  let v132 : BitVec 32 := Scalar.select v130 v131 v116
  let v147 : Index := Scalar.indexCast v132
  let c112_91 : Index := 112#32
  ![v147.toNat, 112]
def k0_cond3 (k0_t1 : Fin k0_t1_loop.trips) : BitVec 1 :=
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c1_i32_65 : BitVec 32 := 1#32
  let v106 : BitVec 32 := Scalar.addi v32 c1_i32_65
  let c2_i32_102 : BitVec 32 := 2#32
  let v168 : BitVec 1 := Scalar.cmpi .sge v106 c2_i32_102
  let v169 : BitVec 32 := Scalar.extui v168
  let c0_i32_103 : BitVec 32 := 0#32
  let v170 : BitVec 1 := Scalar.cmpi .ne v169 c0_i32_103
  v170

def k0_off33 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c1_i32_65 : BitVec 32 := 1#32
  let v106 : BitVec 32 := Scalar.addi v32 c1_i32_65
  let c128_i32_100 : BitVec 32 := 128#32
  let v165 : BitVec 32 := Scalar.muli v106 c128_i32_100
  let v166 : BitVec 32 := Scalar.addi v2 v165
  let c16_i32_101 : BitVec 32 := 16#32
  let v167 : BitVec 32 := Scalar.muli v166 c16_i32_101
  ![v167.toNat]
@[reducible] def k0_t3_loop : Scf.Loop 32 :=
  let c0_i32_106 : BitVec 32 := 0#32
  let c128_i32_107 : BitVec 32 := 128#32
  let v171 : BitVec 32 := Scalar.addi c0_i32_106 c128_i32_107
  let c1_i32_108 : BitVec 32 := 1#32
  ⟨c0_i32_106, v171, c1_i32_108⟩
def k0_off34 (k0_t3 : Fin k0_t3_loop.trips) : Fin 2 → Nat :=
  let c0_i32_114 : BitVec 32 := 0#32
  let c0_i32_106 : BitVec 32 := 0#32
  let c1_i32_108 : BitVec 32 := 1#32
  let arg27 : BitVec 32 := Scf.iv c0_i32_106 c1_i32_108 k0_t3
  let c1_i32_113 : BitVec 32 := 1#32
  let v180 : BitVec 32 := Scalar.muli arg27 c1_i32_113
  let v181 : BitVec 32 := Scalar.addi c0_i32_114 v180
  let v184 : Index := Scalar.indexCast v181
  let c0_117 : Index := 0#32
  ![v184.toNat, 0]
def k0_off35 (k0_t3 : Fin k0_t3_loop.trips) : Fin 2 → Nat :=
  let c0_i32_114 : BitVec 32 := 0#32
  let c0_i32_106 : BitVec 32 := 0#32
  let c1_i32_108 : BitVec 32 := 1#32
  let arg27 : BitVec 32 := Scf.iv c0_i32_106 c1_i32_108 k0_t3
  let c1_i32_113 : BitVec 32 := 1#32
  let v180 : BitVec 32 := Scalar.muli arg27 c1_i32_113
  let v181 : BitVec 32 := Scalar.addi c0_i32_114 v180
  let v194 : Index := Scalar.indexCast v181
  let c16_123 : Index := 16#32
  ![v194.toNat, 16]
def k0_off36 (k0_t3 : Fin k0_t3_loop.trips) : Fin 2 → Nat :=
  let c0_i32_114 : BitVec 32 := 0#32
  let c0_i32_106 : BitVec 32 := 0#32
  let c1_i32_108 : BitVec 32 := 1#32
  let arg27 : BitVec 32 := Scf.iv c0_i32_106 c1_i32_108 k0_t3
  let c1_i32_113 : BitVec 32 := 1#32
  let v180 : BitVec 32 := Scalar.muli arg27 c1_i32_113
  let v181 : BitVec 32 := Scalar.addi c0_i32_114 v180
  let v206 : Index := Scalar.indexCast v181
  let c32_129 : Index := 32#32
  ![v206.toNat, 32]
def k0_off37 (k0_t3 : Fin k0_t3_loop.trips) : Fin 2 → Nat :=
  let c0_i32_114 : BitVec 32 := 0#32
  let c0_i32_106 : BitVec 32 := 0#32
  let c1_i32_108 : BitVec 32 := 1#32
  let arg27 : BitVec 32 := Scf.iv c0_i32_106 c1_i32_108 k0_t3
  let c1_i32_113 : BitVec 32 := 1#32
  let v180 : BitVec 32 := Scalar.muli arg27 c1_i32_113
  let v181 : BitVec 32 := Scalar.addi c0_i32_114 v180
  let v218 : Index := Scalar.indexCast v181
  let c48_135 : Index := 48#32
  ![v218.toNat, 48]
def k0_off38 (k0_t3 : Fin k0_t3_loop.trips) : Fin 2 → Nat :=
  let c0_i32_114 : BitVec 32 := 0#32
  let c0_i32_106 : BitVec 32 := 0#32
  let c1_i32_108 : BitVec 32 := 1#32
  let arg27 : BitVec 32 := Scf.iv c0_i32_106 c1_i32_108 k0_t3
  let c1_i32_113 : BitVec 32 := 1#32
  let v180 : BitVec 32 := Scalar.muli arg27 c1_i32_113
  let v181 : BitVec 32 := Scalar.addi c0_i32_114 v180
  let v230 : Index := Scalar.indexCast v181
  let c64_141 : Index := 64#32
  ![v230.toNat, 64]
def k0_off39 (k0_t3 : Fin k0_t3_loop.trips) : Fin 2 → Nat :=
  let c0_i32_114 : BitVec 32 := 0#32
  let c0_i32_106 : BitVec 32 := 0#32
  let c1_i32_108 : BitVec 32 := 1#32
  let arg27 : BitVec 32 := Scf.iv c0_i32_106 c1_i32_108 k0_t3
  let c1_i32_113 : BitVec 32 := 1#32
  let v180 : BitVec 32 := Scalar.muli arg27 c1_i32_113
  let v181 : BitVec 32 := Scalar.addi c0_i32_114 v180
  let v242 : Index := Scalar.indexCast v181
  let c80_147 : Index := 80#32
  ![v242.toNat, 80]
def k0_off40 (k0_t3 : Fin k0_t3_loop.trips) : Fin 2 → Nat :=
  let c0_i32_114 : BitVec 32 := 0#32
  let c0_i32_106 : BitVec 32 := 0#32
  let c1_i32_108 : BitVec 32 := 1#32
  let arg27 : BitVec 32 := Scf.iv c0_i32_106 c1_i32_108 k0_t3
  let c1_i32_113 : BitVec 32 := 1#32
  let v180 : BitVec 32 := Scalar.muli arg27 c1_i32_113
  let v181 : BitVec 32 := Scalar.addi c0_i32_114 v180
  let v254 : Index := Scalar.indexCast v181
  let c96_153 : Index := 96#32
  ![v254.toNat, 96]
def k0_off41 (k0_t3 : Fin k0_t3_loop.trips) : Fin 2 → Nat :=
  let c0_i32_114 : BitVec 32 := 0#32
  let c0_i32_106 : BitVec 32 := 0#32
  let c1_i32_108 : BitVec 32 := 1#32
  let arg27 : BitVec 32 := Scf.iv c0_i32_106 c1_i32_108 k0_t3
  let c1_i32_113 : BitVec 32 := 1#32
  let v180 : BitVec 32 := Scalar.muli arg27 c1_i32_113
  let v181 : BitVec 32 := Scalar.addi c0_i32_114 v180
  let v266 : Index := Scalar.indexCast v181
  let c112_159 : Index := 112#32
  ![v266.toNat, 112]
def k0_off42 (k0_t3 : Fin k0_t3_loop.trips) : Fin 1 → Nat :=
  let c0_i32_114 : BitVec 32 := 0#32
  let c0_i32_106 : BitVec 32 := 0#32
  let c1_i32_108 : BitVec 32 := 1#32
  let arg27 : BitVec 32 := Scf.iv c0_i32_106 c1_i32_108 k0_t3
  let c1_i32_113 : BitVec 32 := 1#32
  let v180 : BitVec 32 := Scalar.muli arg27 c1_i32_113
  let v181 : BitVec 32 := Scalar.addi c0_i32_114 v180
  let c16_i32_163 : BitVec 32 := 16#32
  let v276 : BitVec 32 := Scalar.muli v181 c16_i32_163
  let v277 : Index := Scalar.indexCast v276
  ![v277.toNat]
def k0_off43 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c1_i32_65 : BitVec 32 := 1#32
  let v106 : BitVec 32 := Scalar.addi v32 c1_i32_65
  let c128_i32_100 : BitVec 32 := 128#32
  let v165 : BitVec 32 := Scalar.muli v106 c128_i32_100
  let v166 : BitVec 32 := Scalar.addi v2 v165
  let c16_i32_101 : BitVec 32 := 16#32
  let v167 : BitVec 32 := Scalar.muli v166 c16_i32_101
  ![v167.toNat]
def k0_cond4 (k0_t1 : Fin k0_t1_loop.trips) : BitVec 1 :=
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c1_i32_65 : BitVec 32 := 1#32
  let v106 : BitVec 32 := Scalar.addi v32 c1_i32_65
  let c2_i32_110 : BitVec 32 := 2#32
  let v176 : BitVec 32 := Scalar.addi v106 c2_i32_110
  let c128_i32_111 : BitVec 32 := 128#32
  let v177 : BitVec 1 := Scalar.cmpi .slt v176 c128_i32_111
  let v178 : BitVec 32 := Scalar.extui v177
  let c0_i32_112 : BitVec 32 := 0#32
  let v179 : BitVec 1 := Scalar.cmpi .ne v178 c0_i32_112
  v179

def k0_off44 (k0_t1 : Fin k0_t1_loop.trips) : Fin 1 → Nat :=
  let c0_i32_26 : BitVec 32 := 0#32
  let c0_i32_22 : BitVec 32 := 0#32
  let c1_i32_23 : BitVec 32 := 1#32
  let arg26 : BitVec 32 := Scf.iv c0_i32_22 c1_i32_23 k0_t1
  let c2_i32_25 : BitVec 32 := 2#32
  let v31 : BitVec 32 := Scalar.muli arg26 c2_i32_25
  let v32 : BitVec 32 := Scalar.addi c0_i32_26 v31
  let c1_i32_65 : BitVec 32 := 1#32
  let v106 : BitVec 32 := Scalar.addi v32 c1_i32_65
  let c2_i32_113 : BitVec 32 := 2#32
  let v180 : BitVec 32 := Scalar.addi v106 c2_i32_113
  let c128_i32_114 : BitVec 32 := 128#32
  let v181 : BitVec 32 := Scalar.muli v180 c128_i32_114
  ![v181.toNat]
def k0_off45 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let c16_i32 : BitVec 32 := 16#32
  let v22 : BitVec 32 := Scalar.muli v2 c16_i32
  ![v22.toNat]
abbrev grid1 : Pipeline.Grid := ⟨2, ![2, 4], ![false, false]⟩

def k1_cond1 (i : grid1.Coords) : BitVec 1 :=
  let arg0 : BitVec 32 := BitVec.ofNat 32 (i 0).val
  let c0_i32_21 : BitVec 32 := 0#32
  let v55 : BitVec 1 := Scalar.cmpi .eq arg0 c0_i32_21
  let arg1 : BitVec 32 := BitVec.ofNat 32 (i 1).val
  let c0_i32_22 : BitVec 32 := 0#32
  let v56 : BitVec 1 := Scalar.cmpi .eq arg1 c0_i32_22
  let v57 : BitVec 1 := Scalar.andi v55 v56
  let v58 : BitVec 32 := Scalar.extui v57
  let c0_i32_23 : BitVec 32 := 0#32
  let v59 : BitVec 1 := Scalar.cmpi .ne v58 c0_i32_23
  v59

def k1_cond3 (i : grid1.Coords) : BitVec 1 :=
  let arg0 : BitVec 32 := BitVec.ofNat 32 (i 0).val
  let c1_i32_26 : BitVec 32 := 1#32
  let v63 : BitVec 1 := Scalar.cmpi .eq arg0 c1_i32_26
  let v64 : BitVec 32 := Scalar.extui v63
  let c0_i32_27 : BitVec 32 := 0#32
  let v65 : BitVec 1 := Scalar.cmpi .ne v64 c0_i32_27
  v65

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16384x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S16384x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "c" => some ((71930929045 / 140737488355328 : ℝ) : EReal)
  | "inv_t" => some ((134217728 / 9395241 : ℝ) : EReal)
  | "log_mpn" => some ((Real.log (8778913 / 17179869184) : ℝ) : EReal)
  | _ => none
-- ==== ReferenceIdeal.lean ====
abbrev S1024x128 : Shape := ⟨2, ![1024, 128]⟩
abbrev S1024 : Shape := ⟨1, ![1024]⟩
abbrev S1024x512 : Shape := ⟨2, ![1024, 512]⟩
abbrev S1000000x128 : Shape := ⟨2, ![1000000, 128]⟩
abbrev S524288 : Shape := ⟨1, ![524288]⟩
abbrev S_ : Shape := ⟨0, ![]⟩
abbrev S524288x1 : Shape := ⟨2, ![524288, 1]⟩
abbrev S1 : Shape := ⟨1, ![1]⟩
abbrev S1x1 : Shape := ⟨2, ![1, 1]⟩
abbrev S524288x128 : Shape := ⟨2, ![524288, 128]⟩
abbrev S1024x512x128 : Shape := ⟨3, ![1024, 512, 128]⟩
abbrev S1024x512x1 : Shape := ⟨3, ![1024, 512, 1]⟩
abbrev S1024x1x1 : Shape := ⟨3, ![1024, 1, 1]⟩
abbrev S1024x1 : Shape := ⟨2, ![1024, 1]⟩
abbrev S1024x511x1 : Shape := ⟨3, ![1024, 511, 1]⟩
abbrev S523264x1 : Shape := ⟨2, ![523264, 1]⟩

abbrev nBuf : Space → Nat
  | .hbm => 146
  | .vmem => 0
  | .smem => 0
  | _ => 0

abbrev hbmTy0_0 (i : Nat) : BufTy := match i % 128 with
  | 0 => ⟨S1024x128, .f32⟩
  | 1 => ⟨S1024x128, .f32⟩
  | 2 => ⟨S1024, .i32⟩
  | 3 => ⟨S1024x512, .i32⟩
  | 4 => ⟨S1000000x128, .f32⟩
  | 5 => ⟨S1000000x128, .f32⟩
  | 6 => ⟨S524288, .i32⟩
  | 7 => ⟨S_, .i32⟩
  | 8 => ⟨S524288, .i32⟩
  | 9 => ⟨S524288, .i1⟩
  | 10 => ⟨S_, .i32⟩
  | 11 => ⟨S524288, .i32⟩
  | 12 => ⟨S524288, .i32⟩
  | 13 => ⟨S524288, .i32⟩
  | 14 => ⟨S524288x1, .i32⟩
  | 15 => ⟨S1, .i32⟩
  | 16 => ⟨S_, .i32⟩
  | 17 => ⟨S524288x1, .i32⟩
  | 18 => ⟨S524288x1, .i1⟩
  | 19 => ⟨S1x1, .i32⟩
  | 20 => ⟨S524288x1, .i32⟩
  | 21 => ⟨S524288x1, .i1⟩
  | 22 => ⟨S524288x1, .i1⟩
  | 23 => ⟨S_, .i1⟩
  | 24 => ⟨S524288, .i1⟩
  | 25 => ⟨S524288x128, .f32⟩
  | 26 => ⟨S524288x128, .i1⟩
  | 27 => ⟨S_, .f32⟩
  | 28 => ⟨S524288x128, .f32⟩
  | 29 => ⟨S524288x128, .f32⟩
  | 30 => ⟨S1024x512x128, .f32⟩
  | 31 => ⟨S1024x512, .f32⟩
  | 32 => ⟨S1024x512x1, .f32⟩
  | 33 => ⟨S_, .f32⟩
  | 34 => ⟨S1024x512x1, .f32⟩
  | 35 => ⟨S1024x512x1, .f32⟩
  | 36 => ⟨S1024x512x1, .f32⟩
  | 37 => ⟨S_, .i32⟩
  | 38 => ⟨S524288, .i32⟩
  | 39 => ⟨S524288, .i1⟩
  | 40 => ⟨S_, .i32⟩
  | 41 => ⟨S524288, .i32⟩
  | 42 => ⟨S524288, .i32⟩
  | 43 => ⟨S524288, .i32⟩
  | 44 => ⟨S524288x1, .i32⟩
  | 45 => ⟨S1, .i32⟩
  | 46 => ⟨S_, .i32⟩
  | 47 => ⟨S524288x1, .i32⟩
  | 48 => ⟨S524288x1, .i1⟩
  | 49 => ⟨S1x1, .i32⟩
  | 50 => ⟨S524288x1, .i32⟩
  | 51 => ⟨S524288x1, .i1⟩
  | 52 => ⟨S524288x1, .i1⟩
  | 53 => ⟨S_, .i1⟩
  | 54 => ⟨S524288, .i1⟩
  | 55 => ⟨S524288x128, .f32⟩
  | 56 => ⟨S524288x128, .i1⟩
  | 57 => ⟨S_, .f32⟩
  | 58 => ⟨S524288x128, .f32⟩
  | 59 => ⟨S524288x128, .f32⟩
  | 60 => ⟨S1024x512x128, .f32⟩
  | 61 => ⟨S1024x512, .f32⟩
  | 62 => ⟨S1024x512x1, .f32⟩
  | 63 => ⟨S_, .f32⟩
  | 64 => ⟨S1024x512x1, .f32⟩
  | 65 => ⟨S1024x512x1, .f32⟩
  | 66 => ⟨S1024x512x1, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S1024x512x1, .f32⟩
  | 80 => ⟨S1024x512x1, .f32⟩
  | 81 => ⟨S1024x512x1, .f32⟩
  | 82 => ⟨S1024x512x1, .f32⟩
  | 83 => ⟨S1024x1x1, .f32⟩
  | 84 => ⟨S1024x1, .f32⟩
  | 85 => ⟨S_, .f32⟩
  | 86 => ⟨S1024x1, .f32⟩
  | 87 => ⟨S1024x1, .f32⟩
  | 88 => ⟨S_, .f32⟩
  | 89 => ⟨S1024x1, .f32⟩
  | 90 => ⟨S1024x1, .f32⟩
  | 91 => ⟨S1024x1, .f32⟩
  | 92 => ⟨S1024x1, .f32⟩
  | 93 => ⟨S1024x511x1, .f32⟩
  | 94 => ⟨S_, .f32⟩
  | 95 => ⟨S1024x511x1, .f32⟩
  | 96 => ⟨S1024x511x1, .f32⟩
  | 97 => ⟨S_, .f32⟩
  | 98 => ⟨S1024x511x1, .f32⟩
  | 99 => ⟨S1024x511x1, .f32⟩
  | 100 => ⟨S_, .f32⟩
  | 101 => ⟨S1024x511x1, .f32⟩
  | 102 => ⟨S1024x511x1, .f32⟩
  | 103 => ⟨S1024x511x1, .f32⟩
  | 104 => ⟨S_, .f32⟩
  | 105 => ⟨S1, .f32⟩
  | 106 => ⟨S523264x1, .f32⟩
  | 107 => ⟨S_, .f32⟩
  | 108 => ⟨S1, .f32⟩
  | 109 => ⟨S1, .f32⟩
  | 110 => ⟨S1, .f32⟩
  | 111 => ⟨S_, .f32⟩
  | 112 => ⟨S1, .f32⟩
  | 113 => ⟨S1, .f32⟩
  | 114 => ⟨S1024x1x1, .f32⟩
  | 115 => ⟨S1024x1, .f32⟩
  | 116 => ⟨S_, .f32⟩
  | 117 => ⟨S1024x1, .f32⟩
  | 118 => ⟨S1024x1, .f32⟩
  | 119 => ⟨S_, .f32⟩
  | 120 => ⟨S1024x1, .f32⟩
  | 121 => ⟨S1024x1, .f32⟩
  | 122 => ⟨S1024x1, .f32⟩
  | 123 => ⟨S1024x1, .f32⟩
  | 124 => ⟨S1024x511x1, .f32⟩
  | 125 => ⟨S_, .f32⟩
  | 126 => ⟨S1024x511x1, .f32⟩
  | 127 => ⟨S1024x511x1, .f32⟩
  | _ => ⟨S1024x128, .f32⟩

abbrev hbmTy0_1 (i : Nat) : BufTy := match i % 128 with
  | 0 => ⟨S_, .f32⟩
  | 1 => ⟨S1024x511x1, .f32⟩
  | 2 => ⟨S1024x511x1, .f32⟩
  | 3 => ⟨S_, .f32⟩
  | 4 => ⟨S1024x511x1, .f32⟩
  | 5 => ⟨S1024x511x1, .f32⟩
  | 6 => ⟨S1024x511x1, .f32⟩
  | 7 => ⟨S_, .f32⟩
  | 8 => ⟨S1, .f32⟩
  | 9 => ⟨S523264x1, .f32⟩
  | 10 => ⟨S_, .f32⟩
  | 11 => ⟨S1, .f32⟩
  | 12 => ⟨S1, .f32⟩
  | 13 => ⟨S1, .f32⟩
  | 14 => ⟨S_, .f32⟩
  | 15 => ⟨S1, .f32⟩
  | 16 => ⟨S1, .f32⟩
  | 17 => ⟨S1, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_cst : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_cst_0 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_cst_1 : Ref sig .tc := ⟨.hbm, 67, rfl⟩
abbrev main_v15 : Ref sig .tc := ⟨.hbm, 68, rfl⟩
abbrev main_cst_2 : Ref sig .tc := ⟨.hbm, 69, rfl⟩
abbrev main_v16 : Ref sig .tc := ⟨.hbm, 70, rfl⟩
abbrev main_cst_3 : Ref sig .tc := ⟨.hbm, 71, rfl⟩
abbrev main_v17 : Ref sig .tc := ⟨.hbm, 72, rfl⟩
abbrev main_cst_4 : Ref sig .tc := ⟨.hbm, 73, rfl⟩
abbrev main_v18 : Ref sig .tc := ⟨.hbm, 74, rfl⟩
abbrev main_cst_5 : Ref sig .tc := ⟨.hbm, 75, rfl⟩
abbrev main_v19 : Ref sig .tc := ⟨.hbm, 76, rfl⟩
abbrev main_cst_6 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_cst_7 : Ref sig .tc := ⟨.hbm, 85, rfl⟩
abbrev main_v27 : Ref sig .tc := ⟨.hbm, 86, rfl⟩
abbrev main_v28 : Ref sig .tc := ⟨.hbm, 87, rfl⟩
abbrev main_cst_8 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_cst_9 : Ref sig .tc := ⟨.hbm, 94, rfl⟩
abbrev main_v34 : Ref sig .tc := ⟨.hbm, 95, rfl⟩
abbrev main_v35 : Ref sig .tc := ⟨.hbm, 96, rfl⟩
abbrev main_cst_10 : Ref sig .tc := ⟨.hbm, 97, rfl⟩
abbrev main_v36 : Ref sig .tc := ⟨.hbm, 98, rfl⟩
abbrev main_v37 : Ref sig .tc := ⟨.hbm, 99, rfl⟩
abbrev main_cst_11 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_cst_12 : Ref sig .tc := ⟨.hbm, 104, rfl⟩
abbrev main_v41 : Ref sig .tc := ⟨.hbm, 105, rfl⟩
abbrev main_v42 : Ref sig .tc := ⟨.hbm, 106, rfl⟩
abbrev main_cst_13 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_cst_14 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_cst_15 : Ref sig .tc := ⟨.hbm, 116, rfl⟩
abbrev main_v50 : Ref sig .tc := ⟨.hbm, 117, rfl⟩
abbrev main_v51 : Ref sig .tc := ⟨.hbm, 118, rfl⟩
abbrev main_cst_16 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_cst_17 : Ref sig .tc := ⟨.hbm, 125, rfl⟩
abbrev main_v57 : Ref sig .tc := ⟨.hbm, 126, rfl⟩
abbrev main_v58 : Ref sig .tc := ⟨.hbm, 127, rfl⟩
abbrev main_cst_18 : Ref sig .tc := ⟨.hbm, 128, rfl⟩
abbrev main_v59 : Ref sig .tc := ⟨.hbm, 129, rfl⟩
abbrev main_v60 : Ref sig .tc := ⟨.hbm, 130, rfl⟩
abbrev main_cst_19 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_cst_20 : Ref sig .tc := ⟨.hbm, 135, rfl⟩
abbrev main_v64 : Ref sig .tc := ⟨.hbm, 136, rfl⟩
abbrev main_v65 : Ref sig .tc := ⟨.hbm, 137, rfl⟩
abbrev main_cst_21 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_cst_22 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩

abbrev nD : Nat := 1
abbrev τ : Topo := Topo.v7x

variable {F : FTy → Type} [FloatOps F]
-- ==== Proof.K.Frame.lean ====
/-
  The run of the program under the stated precondition: every argument array ends as it began and every semaphore at zero.
-/
module

public import proofs.«01_k».proof.Defs
public import proofs.«01_k».proof.Proof.Gen.Pre_rows_named
public import proofs.«01_k».proof.Proof.K.Launch

@[expose] public section

noncomputable section

namespace Cert.Proof.K

open Cert.Kernel Cert.Kernel.Gen
open Idealize.ShloMosaic Idealize.ShloMosaic.TcCoe Idealize.SL.Sem

/-- The precondition, elementwise: a word that is non-negative and below a million as a signed word is its own value. -/
theorem word_lt (v : BitVec 32) (e : IntOp.andi (IntOp.cmpi .sge v 0#32) (IntOp.cmpi .slt v 1000000#32) = 1#1) : v.toNat < 1000000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem rows_lt (m : (ℓ : Loc nD τ sig) → Buf (Elt Bits) ℓ) (h : Cert.Pre_Kernel m) (d : Dev nD) (j : S1024x512.Idx) :
    (m (d, dr main_arg3) j : BitVec 32).toNat < 1000000 := by
  have e := congrFun (h d) j
  simp only [Pre_rows_named.fn, andi, cmpi, broadcastInDim, constantI] at e
  exact word_lt _ e

/-- The flattened index array as the launch's host step leaves it. -/
theorem V1_v0 {F : FTy → Type} [FloatOps F] (m : (ℓ : Loc nD τ sig) → Buf (Elt F) ℓ) (d : Dev nD) :
    V1 m d (dr main_v0) = (shapeCast S524288 (m (d, dr main_arg3) : S1024x512.Idx → BitVec 32) shapeCasts_S1024x512_S524288 : S524288.Idx → BitVec 32) := by
  unfold V1
  rw [StableHlo.reshape_result, StableHlo.nullary_result_ne _ _ _ _ (by decide)]
  rfl

theorem ok_of_pre (m : (ℓ : Loc nD τ sig) → Buf (Elt Bits) ℓ) (h : Cert.Pre_Kernel m) :
    ∀ d x, (V1 m d (dr main_v0) x : BitVec 32).toNat < 1000000 := by
  intro d x
  rw [V1_v0]
  exact rows_lt m h d _

/-- The launch's run with the contents of every array named. -/
theorem run_pre (m : (ℓ : Loc nD τ sig) → Buf (Elt Bits) ℓ) (ρ : Dev nD → PrngReg) (h : Cert.Pre_Kernel m) :
    θ_run (Cert.Kernel.defs (F := Bits)) (Cert.Kernel.threads (F := Bits)) ⟨m, fun _ => 0, ρ⟩ (QC m) :=
  haveI : ∀ e, Nonempty (Elt Bits e) := fun e => by
    cases e <;> first | exact ⟨(0 : BitVec _)⟩ | exact ⟨FloatOps.ofBits (F := Bits) .f32 0⟩ | exact ⟨FloatOps.ofBits (F := Bits) .bf16 0⟩ | exact ⟨FloatOps.ofBits (F := Bits) .f16 0⟩ | exact ⟨FloatOps.ofBits (F := Bits) .fp8e4m3 0⟩ | exact ⟨FloatOps.ofBits (F := Bits) .fp8e5m2 0⟩
  run_main m ρ (ok_of_pre m h)

theorem arg_mem {m : (ℓ : Loc nD τ sig) → Buf (Elt Bits) ℓ} {r} (h : QC m r) (c : Dev nD) (b : Ref sig .tc) (hb : dr b ∈ ucRefs)
    (hn : b ∉ [main_cst, main_v0, main_v1_0, main_v1_1, main_v2, main_v3, main_v4, main_v5]) : r.2.mem (c, dr b) = m (c, dr b) :=
  (h.1 c b hb).trans (V5_arg m c b hn)

theorem frame : Cert.quiescent_Kernel := fun m ρ hpre =>
  (θ_run Cert.Kernel.defs _ _).mono (fun _ h =>
    ⟨fun c => ⟨arg_mem h c main_arg0 (by decide) (by decide), arg_mem h c main_arg1 (by decide) (by decide),
      arg_mem h c main_arg2 (by decide) (by decide), arg_mem h c main_arg3 (by decide) (by decide),
      arg_mem h c main_arg4 (by decide) (by decide), arg_mem h c main_arg5 (by decide) (by decide)⟩, h.2⟩) (run_pre m ρ hpre)

end Cert.Proof.K

end
-- ==== Proof.KI.Base.lean ====
/-
  The launch set-up of the kernel's program, the buffers and the element sets its tiles own, and the values its tiles
  compute, as plain functions of the launch memory.
-/
module

public import proofs.«01_k».proof.Defs
public import Idealize.ShloMosaic.Lib.SparseCore.Quiescent
public import Idealize.ShloMosaic.Lib.SparseCore.Stream
public import Idealize.ShloMosaic.Lib.ShareLeaves
public import Idealize.ShloMosaic.Lib.ViewIndex
public import Idealize.ShloMosaic.Lib.ValueIdxCore
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves
open Idealize.ShloMosaic.ValueIdx

variable {F : FTy → Type} [FloatOps F] [Named F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL

/-- The TensorCore region's staging rounds, the second component. -/
def EP : Emb (UR sig nD τ) (MT nD τ sig (HIx 1) (Elt F) ℕ UU ℕ) := (Emb.inl : Emb (UR sig nD τ) (UR sig nD τ × Counters)).trans embR

instance : Emb.LandsIn (EP (F := F)) (upEmb (nD := nD) (τ := τ) (sig := sig) (Ix := HIx 1) (Val := Elt F) (Name := ℕ) (U := UU) (Lvl := ℕ)) := by
  unfold EP; infer_instance

/-! ## The values a tile computes -/

/-- One lane of the eight partial products of a row with a feature row: lanes `l, 16 + l, …, 112 + l` multiplied and
    added from the left. -/
def dot8 (r f : Fin 128 → F .f32) (l : Fin 16) : F .f32 :=
  FloatOps.addf (FloatOps.addf (FloatOps.addf (FloatOps.addf (FloatOps.addf (FloatOps.addf (FloatOps.addf
    (FloatOps.mulf (r ⟨l.val, by omega⟩) (f ⟨l.val, by omega⟩))
    (FloatOps.mulf (r ⟨16 + l.val, by omega⟩) (f ⟨16 + l.val, by omega⟩)))
    (FloatOps.mulf (r ⟨32 + l.val, by omega⟩) (f ⟨32 + l.val, by omega⟩)))
    (FloatOps.mulf (r ⟨48 + l.val, by omega⟩) (f ⟨48 + l.val, by omega⟩)))
    (FloatOps.mulf (r ⟨64 + l.val, by omega⟩) (f ⟨64 + l.val, by omega⟩)))
    (FloatOps.mulf (r ⟨80 + l.val, by omega⟩) (f ⟨80 + l.val, by omega⟩)))
    (FloatOps.mulf (r ⟨96 + l.val, by omega⟩) (f ⟨96 + l.val, by omega⟩)))
    (FloatOps.mulf (r ⟨112 + l.val, by omega⟩) (f ⟨112 + l.val, by omega⟩))

/-- What a tile leaves in a buffer of 2048 words for a block of 128 rows against one feature row: word `16·j + l` is
    lane `l` of row `j`. -/
def dotBlk (R : S128x128.Idx → F .f32) (f : Fin 128 → F .f32) : S2048.Idx → F .f32 := fun x =>
  dot8 (fun a => R (ix2 (⟨(x 0).val / 16, by have := (x 0).isLt; change (x 0).val < 2048 at this; omega⟩ : Fin 128) a)) f ⟨(x 0).val % 16, Nat.mod_lt _ (by omega)⟩

end Cert.Proof.KI

end
-- ==== Proof.KI.Inner.lean ====
/-
  The two inner loops of a tile's task: one trip computes a row's sixteen lanes for each of the two tables.
-/
module

public import proofs.«01_k».proof.Proof.KI.Base
public import Idealize.ShloMosaic.Lib.WritesUnit

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves
open Idealize.ShloMosaic.ValueIdx

variable {F : FTy → Type} [FloatOps F] [Named F]

local notation "𝕄" => MT nD τ sig (HIx 1) (Elt F) ℕ UU ℕ

local notation "m1V" => (Memref.whole Cert.KernelIdeal.main_arg4_scv : Memref Cert.KernelIdeal.sig Kind.scVector Space.hbm Cert.KernelIdeal.S1000000x128 EltTy.f32)
local notation "m2V" => (Memref.whole Cert.KernelIdeal.main_arg5_scv : Memref Cert.KernelIdeal.sig Kind.scVector Space.hbm Cert.KernelIdeal.S1000000x128 EltTy.f32)
local notation "ixV" => (Memref.whole Cert.KernelIdeal.main_v0_scv : Memref Cert.KernelIdeal.sig Kind.scVector Space.hbm Cert.KernelIdeal.S524288 EltTy.i32)
local notation "ftV" => (Memref.whole Cert.KernelIdeal.main_arg1_scv : Memref Cert.KernelIdeal.sig Kind.scVector Space.hbm Cert.KernelIdeal.S1024x128 EltTy.f32)
local notation "fsV" => (Memref.whole Cert.KernelIdeal.main_arg0_scv : Memref Cert.KernelIdeal.sig Kind.scVector Space.hbm Cert.KernelIdeal.S1024x128 EltTy.f32)
local notation "daV" => (Memref.whole Cert.KernelIdeal.main_v1_0_scv : Memref Cert.KernelIdeal.sig Kind.scVector Space.hbm Cert.KernelIdeal.S8388608 EltTy.f32)
local notation "dbV" => (Memref.whole Cert.KernelIdeal.main_v1_1_scv : Memref Cert.KernelIdeal.sig Kind.scVector Space.hbm Cert.KernelIdeal.S8388608 EltTy.f32)
local notation "lV" => (Memref.whole Cert.KernelIdeal.cc0_scratch0 : Memref Cert.KernelIdeal.sig Kind.scVector Space.vmem Cert.KernelIdeal.S16384 EltTy.i32)
local notation "aV" => (Memref.whole Cert.KernelIdeal.cc0_scratch1 : Memref Cert.KernelIdeal.sig Kind.scVector Space.vmem Cert.KernelIdeal.S32x128 EltTy.f32)
local notation "bV" => (Memref.whole Cert.KernelIdeal.cc0_scratch2 : Memref Cert.KernelIdeal.sig Kind.scVector Space.vmem Cert.KernelIdeal.S32x128 EltTy.f32)
local notation "r1V" => (Memref.whole Cert.KernelIdeal.cc0_scratch3 : Memref Cert.KernelIdeal.sig Kind.scVector Space.vmem Cert.KernelIdeal.S2x128x128 EltTy.f32)
local notation "r2V" => (Memref.whole Cert.KernelIdeal.cc0_scratch4 : Memref Cert.KernelIdeal.sig Kind.scVector Space.vmem Cert.KernelIdeal.S2x128x128 EltTy.f32)
local notation "p1V" => (Memref.whole Cert.KernelIdeal.cc0_scratch5 : Memref Cert.KernelIdeal.sig Kind.scVector Space.vmem Cert.KernelIdeal.S2048 EltTy.f32)
local notation "p2V" => (Memref.whole Cert.KernelIdeal.cc0_scratch6 : Memref Cert.KernelIdeal.sig Kind.scVector Space.vmem Cert.KernelIdeal.S2048 EltTy.f32)
local notation "q1V" => (Memref.whole Cert.KernelIdeal.cc0_scratch7 : Memref Cert.KernelIdeal.sig Kind.scVector Space.vmem Cert.KernelIdeal.S2048 EltTy.f32)
local notation "q2V" => (Memref.whole Cert.KernelIdeal.cc0_scratch8 : Memref Cert.KernelIdeal.sig Kind.scVector Space.vmem Cert.KernelIdeal.S2048 EltTy.f32)
abbrev cV (L : grid0.Coords) : Fin τ.nSC := (L 0).castLE hcore0
abbrev jV (L : grid0.Coords) : Fin τ.nSub := (L 1).castLE hsub0

abbrev r1s0 : Memref sig .scVector .vmem S128x128 .f32 := ((r1V).slice (Rect.unit (s := S2x128x128) ![0, 0, 0] S1x128x128.size inb_S2x128x128_S1x128x128_0_0_0) (fun _ => rfl)).squeeze S128x128 squeezes_S1x128x128_S128x128
abbrev r2s0 : Memref sig .scVector .vmem S128x128 .f32 := ((r2V).slice (Rect.unit (s := S2x128x128) ![0, 0, 0] S1x128x128.size inb_S2x128x128_S1x128x128_0_0_0) (fun _ => rfl)).squeeze S128x128 squeezes_S1x128x128_S128x128
abbrev r1s1 : Memref sig .scVector .vmem S128x128 .f32 := ((r1V).slice (Rect.unit (s := S2x128x128) ![1, 0, 0] S1x128x128.size inb_S2x128x128_S1x128x128_1_0_0) (fun _ => rfl)).squeeze S128x128 squeezes_S1x128x128_S128x128
abbrev r2s1 : Memref sig .scVector .vmem S128x128 .f32 := ((r2V).slice (Rect.unit (s := S2x128x128) ![1, 0, 0] S1x128x128.size inb_S2x128x128_S1x128x128_1_0_0) (fun _ => rfl)).squeeze S128x128 squeezes_S1x128x128_S128x128

/-! ## Sixteen lanes of a row, as loaded -/

/-- Lanes `16·c … 16·c + 15` of a row of 128. -/
def seg (f : Fin 128 → F .f32) (c : Fin 8) : Vec F S16 .f32 := fun x =>
  f ⟨16 * c.val + (x 0).val, by have := (x 0).isLt; change (x 0).val < 16 at this; omega⟩

/-- Sixteen lanes loaded from row `j` of a two-axis buffer, cast to a vector, are that segment of the row. -/
theorem ld_seg {κ : Kind} {sp : Space} {n : ℕ} (v : View sig κ sp ⟨2, ![n, 128]⟩ .f32) (f : v.ty.Contents (Elt F)) (off : Fin 2 → ℕ) (j : Fin n) (c : Fin 8)
    (hoff : off = ![j.val, 16 * c.val]) (inb : ∀ a : Fin 2, off a + S1x16.size a ≤ (⟨2, ![n, 128]⟩ : Shape).size a) :
    shapeCast S16 (View.readAt (Elt F) v (Rect.unit (s := ⟨2, ![n, 128]⟩) off S1x16.size inb).toLoadRect f) shapeCasts_S1x16_S16
      = seg (fun a => v.read (Elt F) f (ix2 j a)) c := by
  subst hoff
  funext x
  have hx : (x 0).val < 16 := (x 0).isLt
  refine (shapeCast_apply _ shapeCasts_S1x16_S16 x (ix2 (0 : Fin 1) (⟨(x 0).val, hx⟩ : Fin 16)) ?_).trans ?_
  · rw [Shape.rowMajor_val_two, Shape.rowMajor_val_one]; simp
  · rw [View.readAt_apply]; unfold seg
    refine congrArg _ ?_
    funext a
    match a with
    | ⟨0, _⟩ => apply Fin.ext; simp [LoadRect.idx, Rect.toLoadRect, Rect.unit]
    | ⟨1, _⟩ => apply Fin.ext; simp [LoadRect.idx, Rect.toLoadRect, Rect.unit]

/-- The value a trip of the first loop stores for the first table: the eight products of a row with a feature row, lane by lane. -/
theorem pay1 (f g : Fin 128 → F .f32) (a b c e a' b' h i : Vec F S1x16 .f32)
    (h0 : shapeCast S16 a shapeCasts_S1x16_S16 = seg f 0) (h1 : shapeCast S16 b shapeCasts_S1x16_S16 = seg f 1)
    (h2 : shapeCast S16 c shapeCasts_S1x16_S16 = seg f 2) (h3 : shapeCast S16 e shapeCasts_S1x16_S16 = seg f 3)
    (h4 : shapeCast S16 a' shapeCasts_S1x16_S16 = seg f 4) (h5 : shapeCast S16 b' shapeCasts_S1x16_S16 = seg f 5)
    (h6 : shapeCast S16 h shapeCasts_S1x16_S16 = seg f 6) (h7 : shapeCast S16 i shapeCasts_S1x16_S16 = seg f 7) :
    k0_pay29 (seg g 6) (seg g 7) (k0_pay8 (seg g 3) (seg g 4) (seg g 5) (k0_pay6 (seg g 0) (seg g 1) (seg g 2) a b c) e a' b') h i
      = fun x => dot8 f g (x 0) := by
  unfold k0_pay29 k0_pay8 k0_pay6
  simp only [h0, h1, h2, h3, h4, h5, h6, h7]
  funext x
  simp [dot8, seg, addf, mulf]

/-- The value a trip of the first loop stores for the second table. -/
theorem pay2 (f g : Fin 128 → F .f32) (a b c e a' b' h i : Vec F S1x16 .f32)
    (h0 : shapeCast S16 a shapeCasts_S1x16_S16 = seg f 0) (h1 : shapeCast S16 b shapeCasts_S1x16_S16 = seg f 1)
    (h2 : shapeCast S16 c shapeCasts_S1x16_S16 = seg f 2) (h3 : shapeCast S16 e shapeCasts_S1x16_S16 = seg f 3)
    (h4 : shapeCast S16 a' shapeCasts_S1x16_S16 = seg f 4) (h5 : shapeCast S16 b' shapeCasts_S1x16_S16 = seg f 5)
    (h6 : shapeCast S16 h shapeCasts_S1x16_S16 = seg f 6) (h7 : shapeCast S16 i shapeCasts_S1x16_S16 = seg f 7) :
    k0_pay30 (seg g 5) (seg g 6) (seg g 7) (k0_pay7 (seg g 2) (seg g 3) (seg g 4) (k0_pay5 (seg g 0) (seg g 1) a b) c e a') b' h i
      = fun x => dot8 f g (x 0) := by
  unfold k0_pay30 k0_pay7 k0_pay5
  simp only [h0, h1, h2, h3, h4, h5, h6, h7]
  funext x
  simp [dot8, seg, addf, mulf]

/-- The value a trip of the second loop stores for the first table. -/
theorem pay3 (f g : Fin 128 → F .f32) (a b c e a' b' h i : Vec F S1x16 .f32)
    (h0 : shapeCast S16 a shapeCasts_S1x16_S16 = seg f 0) (h1 : shapeCast S16 b shapeCasts_S1x16_S16 = seg f 1)
    (h2 : shapeCast S16 c shapeCasts_S1x16_S16 = seg f 2) (h3 : shapeCast S16 e shapeCasts_S1x16_S16 = seg f 3)
    (h4 : shapeCast S16 a' shapeCasts_S1x16_S16 = seg f 4) (h5 : shapeCast S16 b' shapeCasts_S1x16_S16 = seg f 5)
    (h6 : shapeCast S16 h shapeCasts_S1x16_S16 = seg f 6) (h7 : shapeCast S16 i shapeCasts_S1x16_S16 = seg f 7) :
    k0_pay3 (seg g 6) (seg g 7) (k0_pay12 (seg g 3) (seg g 4) (seg g 5) (k0_pay10 (seg g 0) (seg g 1) (seg g 2) a b c) e a' b') h i
      = fun x => dot8 f g (x 0) := by
  unfold k0_pay3 k0_pay12 k0_pay10
  simp only [h0, h1, h2, h3, h4, h5, h6, h7]
  funext x
  simp [dot8, seg, addf, mulf]

/-- The value a trip of the second loop stores for the second table, the last five segments of the feature row as loaded. -/
theorem pay4 (f g : Fin 128 → F .f32) (a b c e a' b' h i : Vec F S1x16 .f32) (u3 u4 u5 u6 u7 : Vec F S1x16 .f32)
    (h0 : shapeCast S16 a shapeCasts_S1x16_S16 = seg f 0) (h1 : shapeCast S16 b shapeCasts_S1x16_S16 = seg f 1)
    (h2 : shapeCast S16 c shapeCasts_S1x16_S16 = seg f 2) (h3 : shapeCast S16 e shapeCasts_S1x16_S16 = seg f 3)
    (h4 : shapeCast S16 a' shapeCasts_S1x16_S16 = seg f 4) (h5 : shapeCast S16 b' shapeCasts_S1x16_S16 = seg f 5)
    (h6 : shapeCast S16 h shapeCasts_S1x16_S16 = seg f 6) (h7 : shapeCast S16 i shapeCasts_S1x16_S16 = seg f 7)
    (g3 : shapeCast S16 u3 shapeCasts_S1x16_S16 = seg g 3) (g4 : shapeCast S16 u4 shapeCasts_S1x16_S16 = seg g 4)
    (g5 : shapeCast S16 u5 shapeCasts_S1x16_S16 = seg g 5) (g6 : shapeCast S16 u6 shapeCasts_S1x16_S16 = seg g 6)
    (g7 : shapeCast S16 u7 shapeCasts_S1x16_S16 = seg g 7) :
    k0_pay4 u5 u6 u7 (k0_pay11 (seg g 2) (k0_pay1 u3) (k0_pay2 u4) (k0_pay9 (seg g 0) (seg g 1) a b) c e a') b' h i
      = fun x => dot8 f g (x 0) := by
  unfold k0_pay4 k0_pay11 k0_pay9 k0_pay1 k0_pay2
  simp only [h0, h1, h2, h3, h4, h5, h6, h7, g3, g4, g5, g6, g7]
  funext x
  simp [dot8, seg, addf, mulf]

/-! ## The rows done so far -/

/-- The first `16·k` words agree with `G`. -/
def Upto (k : ℕ) (g G : S2048.Idx → F .f32) : Prop := ∀ x : S2048.Idx, (x 0).val < 16 * k → g x = G x

theorem upto_zero (g G : S2048.Idx → F .f32) : Upto 0 g G := fun x h => by omega
theorem upto_all {g G : S2048.Idx → F .f32} (h : Upto 128 g G) : g = G := funext fun x => h x (by have := (x 0).isLt; change (x 0).val < 2048 at this; omega)

/-- Storing row `k`'s sixteen lanes carries the agreement one row further. -/
theorem upto_step {κ : Kind} {sp : Space} (v : View sig κ sp S2048 .f32) (g : v.ty.Contents (Elt F)) (R : S128x128.Idx → F .f32) (f : Fin 128 → F .f32)
    (k : ℕ) (hk : k < 128) (off : Fin 1 → ℕ) (hoff : off = ![16 * k]) (inb : ∀ a : Fin 1, off a + S16.size a ≤ S2048.size a) (w : S16.Idx → F .f32)
    (hw : w = fun x => dot8 (fun a => R (ix2 (⟨k, hk⟩ : Fin 128) a)) f (x 0)) (h : Upto k (v.read (Elt F) g) (dotBlk R f)) :
    Upto (k + 1) (v.read (Elt F) (v.writes (Elt F) g [⟨Rect.unit (s := S2048) off S16.size inb, w⟩])) (dotBlk R f) := by
  subst hw
  intro y hy
  by_cases hlt : (y 0).val < 16 * k
  · rw [View.read_writes_cons_unit_of_not_mem v g inb _ [] y hoff 0 (.inl hlt)]
    exact h y hlt
  · have hx : (y 0).val - 16 * k < 16 := by omega
    rw [View.read_writes_cons_unit_of_mem v g inb _ [] y (ix1 (⟨(y 0).val - 16 * k, hx⟩ : Fin 16)) hoff
      (fun a => by match a with | ⟨0, _⟩ => show (y 0).val = 16 * k + ((y 0).val - 16 * k); omega)]
    unfold dotBlk
    have e1 : (y 0).val / 16 = k := by omega
    have e2 : (y 0).val % 16 = (y 0).val - 16 * k := by omega
    simp only [e1, e2]

/-! ## The loops -/

variable (d : Dev nD) (L : grid0.Coords)

/-- Before trip `k` of loop one: both slots of gathered rows as they are, and in each of the two buffers of results the first `k` rows' lanes. -/
def inv2 (f1 : Buf (Elt F) ((r1s0).view.loc (V d (cV L) (jV L)))) (f2 : Buf (Elt F) ((r2s0).view.loc (V d (cV L) (jV L)))) (A B : Fin 128 → F .f32)
    (k : ℕ) (_ : PUnit) : sProp 𝕄 :=
  iprop(((r1s0).view.loc (V d (cV L) (jV L)) ↦[(r1s0).view.set]{fullShare} f1) ∗ ((r2s0).view.loc (V d (cV L) (jV L)) ↦[(r2s0).view.set]{fullShare} f2)
    ∗ (∃ g : Buf (Elt F) ((p1V).view.loc (V d (cV L) (jV L))), ⌜Upto k ((p1V).view.read (Elt F) g) (dotBlk ((r1s0).view.read (Elt F) f1) A)⌝ ∗ (p1V).view.loc (V d (cV L) (jV L)) ↦{fullShare} g)
    ∗ (∃ g : Buf (Elt F) ((q1V).view.loc (V d (cV L) (jV L))), ⌜Upto k ((q1V).view.read (Elt F) g) (dotBlk ((r2s0).view.read (Elt F) f2) B)⌝ ∗ (q1V).view.loc (V d (cV L) (jV L)) ↦{fullShare} g))

set_option maxHeartbeats 4000000 in
/-- One trip of loop one. -/
theorem trip2 (v32 : BitVec 32) (k1 : Fin k0_t1_loop.trips) (a0 a1 a2 a3 a4 a5 a6 a7 b0 b1 b2 b3 b4 b5 b6 b7 : Vec F S16 .f32) (k : Fin k0_t2_loop.trips)
    (f1 : Buf (Elt F) ((r1s0).view.loc (V d (cV L) (jV L)))) (f2 : Buf (Elt F) ((r2s0).view.loc (V d (cV L) (jV L)))) (A B : Fin 128 → F .f32)
    (ha0 : a0 = seg A 0) (ha1 : a1 = seg A 1) (ha2 : a2 = seg A 2) (ha3 : a3 = seg A 3) (ha4 : a4 = seg A 4) (ha5 : a5 = seg A 5) (ha6 : a6 = seg A 6) (ha7 : a7 = seg A 7)
    (hb0 : b0 = seg B 0) (hb1 : b1 = seg B 1) (hb2 : b2 = seg B 2) (hb3 : b3 = seg B 3) (hb4 : b4 = seg B 4) (hb5 : b5 = seg B 5) (hb6 : b6 = seg B 6) (hb7 : b7 = seg B 7) :
    inv2 d L f1 f2 A B k.val () ⊢ wp frame (wpE (defs₀ (F := F)) 𝒱₀ (V d (cV L) (jV L)) none) Set.univ
      (k0_t2_body L m1V (Memref.isWhole_whole _) m2V (Memref.isWhole_whole _) ixV (Memref.isWhole_whole _) ftV (Memref.isWhole_whole _) fsV (Memref.isWhole_whole _) daV (Memref.isWhole_whole _) dbV (Memref.isWhole_whole _) lV (Memref.isWhole_whole _) aV (Memref.isWhole_whole _) bV (Memref.isWhole_whole _) r1V (Memref.isWhole_whole _) r2V (Memref.isWhole_whole _) p1V (Memref.isWhole_whole _) p2V (Memref.isWhole_whole _) q1V (Memref.isWhole_whole _) q2V (Memref.isWhole_whole _) cc0_scratch9 cc0_scratch10 cc0_scratch11 cc0_scratch12 cc0_scratch13 cc0_scratch14 cc0_scratch15 cc0_scratch16 cc0_scoped0 cc0_scoped1 cc0_scoped2 k1 v32 a0 a1 a2 a3 a4 a5 a6 a7 b0 b1 b2 b3 b4 b5 b6 b7 k ()) fun _ => (inv2 d L f1 f2 A B (k.val + 1) () : sProp 𝕄) := by
  subst ha0 hb0 ha1 hb1 ha2 hb2 ha3 hb3 ha4 hb4 ha5 hb5 ha6 hb6 ha7 hb7
  unfold inv2 k0_t2_body
  rw [k0_part1_eq_skeleton, k0_part2_eq_skeleton]
  unfold k0_part1_skel k0_part2_skel
  iintro ⟨H1, H2, ⟨%g1, %h1, H3⟩, ⟨%g2, %h2, H4⟩⟩
  sl_exec
  sl_step
  have hk : k.val < 128 := k.isLt
  isplitl [H1]; · iexact H1
  isplitl [H2]; · iexact H2
  isplitl [H3]
  · iexists _; isplitr
    swap; · iexact H3
    ipureintro
    refine upto_step _ _ _ _ k.val hk _ (k0_off21_eq k) _ _ ?_ h1
    exact pay1 _ _ _ _ _ _ _ _ _ _ (ld_seg _ _ _ (⟨k.val, hk⟩ : Fin 128) 0 (k0_off13_eq k) _) (ld_seg _ _ _ (⟨k.val, hk⟩ : Fin 128) 1 (k0_off14_eq k) _) (ld_seg _ _ _ (⟨k.val, hk⟩ : Fin 128) 2 (k0_off15_eq k) _) (ld_seg _ _ _ (⟨k.val, hk⟩ : Fin 128) 3 (k0_off16_eq k) _) (ld_seg _ _ _ (⟨k.val, hk⟩ : Fin 128) 4 (k0_off17_eq k) _) (ld_seg _ _ _ (⟨k.val, hk⟩ : Fin 128) 5 (k0_off18_eq k) _) (ld_seg _ _ _ (⟨k.val, hk⟩ : Fin 128) 6 (k0_off19_eq k) _) (ld_seg _ _ _ (⟨k.val, hk⟩ : Fin 128) 7 (k0_off20_eq k) _)
  · iexists _; isplitr
    swap; · iexact H4
    ipureintro
    refine upto_step _ _ _ _ k.val hk _ (k0_off21_eq k) _ _ ?_ h2
    exact pay2 _ _ _ _ _ _ _ _ _ _ (ld_seg _ _ _ (⟨k.val, hk⟩ : Fin 128) 0 (k0_off13_eq k) _) (ld_seg _ _ _ (⟨k.val, hk⟩ : Fin 128) 1 (k0_off14_eq k) _) (ld_seg _ _ _ (⟨k.val, hk⟩ : Fin 128) 2 (k0_off15_eq k) _) (ld_seg _ _ _ (⟨k.val, hk⟩ : Fin 128) 3 (k0_off16_eq k) _) (ld_seg _ _ _ (⟨k.val, hk⟩ : Fin 128) 4 (k0_off17_eq k) _) (ld_seg _ _ _ (⟨k.val, hk⟩ : Fin 128) 5 (k0_off18_eq k) _) (ld_seg _ _ _ (⟨k.val, hk⟩ : Fin 128) 6 (k0_off19_eq k) _) (ld_seg _ _ _ (⟨k.val, hk⟩ : Fin 128) 7 (k0_off20_eq k) _)

/-- Before trip `k` of loop two: both slots of gathered rows as they are, and in each of the two buffers of results the first `k` rows' lanes. -/
def inv3 (f1 : Buf (Elt F) ((r1s1).view.loc (V d (cV L) (jV L)))) (f2 : Buf (Elt F) ((r2s1).view.loc (V d (cV L) (jV L)))) (A B : Fin 128 → F .f32)
    (k : ℕ) (_ : PUnit) : sProp 𝕄 :=
  iprop(((r1s1).view.loc (V d (cV L) (jV L)) ↦[(r1s1).view.set]{fullShare} f1) ∗ ((r2s1).view.loc (V d (cV L) (jV L)) ↦[(r2s1).view.set]{fullShare} f2)
    ∗ (∃ g : Buf (Elt F) ((p2V).view.loc (V d (cV L) (jV L))), ⌜Upto k ((p2V).view.read (Elt F) g) (dotBlk ((r1s1).view.read (Elt F) f1) A)⌝ ∗ (p2V).view.loc (V d (cV L) (jV L)) ↦{fullShare} g)
    ∗ (∃ g : Buf (Elt F) ((q2V).view.loc (V d (cV L) (jV L))), ⌜Upto k ((q2V).view.read (Elt F) g) (dotBlk ((r2s1).view.read (Elt F) f2) B)⌝ ∗ (q2V).view.loc (V d (cV L) (jV L)) ↦{fullShare} g))

set_option maxHeartbeats 4000000 in
/-- One trip of loop two. -/
theorem trip3 (a0 a1 a2 a3 a4 a5 a6 a7 b0 b1 b2 : Vec F S16 .f32) (u3 u4 u5 u6 u7 : Vec F S1x16 .f32) (k : Fin k0_t3_loop.trips)
    (f1 : Buf (Elt F) ((r1s1).view.loc (V d (cV L) (jV L)))) (f2 : Buf (Elt F) ((r2s1).view.loc (V d (cV L) (jV L)))) (A B : Fin 128 → F .f32)
    (ha0 : a0 = seg A 0) (ha1 : a1 = seg A 1) (ha2 : a2 = seg A 2) (ha3 : a3 = seg A 3) (ha4 : a4 = seg A 4) (ha5 : a5 = seg A 5) (ha6 : a6 = seg A 6) (ha7 : a7 = seg A 7)
    (hb0 : b0 = seg B 0) (hb1 : b1 = seg B 1) (hb2 : b2 = seg B 2)
    (g3 : shapeCast S16 u3 shapeCasts_S1x16_S16 = seg B 3) (g4 : shapeCast S16 u4 shapeCasts_S1x16_S16 = seg B 4) (g5 : shapeCast S16 u5 shapeCasts_S1x16_S16 = seg B 5) (g6 : shapeCast S16 u6 shapeCasts_S1x16_S16 = seg B 6) (g7 : shapeCast S16 u7 shapeCasts_S1x16_S16 = seg B 7) :
    inv3 d L f1 f2 A B k.val () ⊢ wp frame (wpE (defs₀ (F := F)) 𝒱₀ (V d (cV L) (jV L)) none) Set.univ
      (k0_t3_body L m1V (Memref.isWhole_whole _) m2V (Memref.isWhole_whole _) ixV (Memref.isWhole_whole _) ftV (Memref.isWhole_whole _) fsV (Memref.isWhole_whole _) daV (Memref.isWhole_whole _) dbV (Memref.isWhole_whole _) lV (Memref.isWhole_whole _) aV (Memref.isWhole_whole _) bV (Memref.isWhole_whole _) r1V (Memref.isWhole_whole _) r2V (Memref.isWhole_whole _) p1V (Memref.isWhole_whole _) p2V (Memref.isWhole_whole _) q1V (Memref.isWhole_whole _) q2V (Memref.isWhole_whole _) cc0_scratch9 cc0_scratch10 cc0_scratch11 cc0_scratch12 cc0_scratch13 cc0_scratch14 cc0_scratch15 cc0_scratch16 cc0_scoped0 cc0_scoped1 cc0_scoped2 a0 a1 a2 a3 a4 a5 a6 a7 b0 b1 b2 u3 u4 u5 u6 u7 k ()) fun _ => (inv3 d L f1 f2 A B (k.val + 1) () : sProp 𝕄) := by
  subst ha0 ha1 ha2 ha3 ha4 ha5 ha6 ha7 hb0 hb1 hb2
  unfold inv3 k0_t3_body
  rw [k0_part3_eq_skeleton, k0_part4_eq_skeleton]
  unfold k0_part3_skel k0_part4_skel
  iintro ⟨H1, H2, ⟨%g1, %h1, H3⟩, ⟨%g2, %h2, H4⟩⟩
  sl_exec
  sl_step
  have hk : k.val < 128 := k.isLt
  isplitl [H1]; · iexact H1
  isplitl [H2]; · iexact H2
  isplitl [H3]
  · iexists _; isplitr
    swap; · iexact H3
    ipureintro
    refine upto_step _ _ _ _ k.val hk _ (k0_off42_eq k) _ _ ?_ h1
    exact pay3 _ _ _ _ _ _ _ _ _ _ (ld_seg _ _ _ (⟨k.val, hk⟩ : Fin 128) 0 (k0_off34_eq k) _) (ld_seg _ _ _ (⟨k.val, hk⟩ : Fin 128) 1 (k0_off35_eq k) _) (ld_seg _ _ _ (⟨k.val, hk⟩ : Fin 128) 2 (k0_off36_eq k) _) (ld_seg _ _ _ (⟨k.val, hk⟩ : Fin 128) 3 (k0_off37_eq k) _) (ld_seg _ _ _ (⟨k.val, hk⟩ : Fin 128) 4 (k0_off38_eq k) _) (ld_seg _ _ _ (⟨k.val, hk⟩ : Fin 128) 5 (k0_off39_eq k) _) (ld_seg _ _ _ (⟨k.val, hk⟩ : Fin 128) 6 (k0_off40_eq k) _) (ld_seg _ _ _ (⟨k.val, hk⟩ : Fin 128) 7 (k0_off41_eq k) _)
  · iexists _; isplitr
    swap; · iexact H4
    ipureintro
    refine upto_step _ _ _ _ k.val hk _ (k0_off42_eq k) _ _ ?_ h2
    exact pay4 _ _ _ _ _ _ _ _ _ _ _ _ _ _ _ (ld_seg _ _ _ (⟨k.val, hk⟩ : Fin 128) 0 (k0_off34_eq k) _) (ld_seg _ _ _ (⟨k.val, hk⟩ : Fin 128) 1 (k0_off35_eq k) _) (ld_seg _ _ _ (⟨k.val, hk⟩ : Fin 128) 2 (k0_off36_eq k) _) (ld_seg _ _ _ (⟨k.val, hk⟩ : Fin 128) 3 (k0_off37_eq k) _) (ld_seg _ _ _ (⟨k.val, hk⟩ : Fin 128) 4 (k0_off38_eq k) _) (ld_seg _ _ _ (⟨k.val, hk⟩ : Fin 128) 5 (k0_off39_eq k) _) (ld_seg _ _ _ (⟨k.val, hk⟩ : Fin 128) 6 (k0_off40_eq k) _) (ld_seg _ _ _ (⟨k.val, hk⟩ : Fin 128) 7 (k0_off41_eq k) _) g3 g4 g5 g6 g7

end Cert.Proof.KI

end
-- ==== Proof.KI.Gather.lean ====
/-
  A gather of 128 table rows into a slot, from its start to its wait, with the rows it lands.
-/
module

public import proofs.«01_k».proof.Proof.KI.Inner

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves
open Idealize.ShloMosaic.ValueIdx

variable {F : FTy → Type} [FloatOps F] [Named F]

local notation "𝕄" => MT nD τ sig (HIx 1) (Elt F) ℕ UU ℕ

local notation "m1V" => (Memref.whole Cert.KernelIdeal.main_arg4_scv : Memref Cert.KernelIdeal.sig Kind.scVector Space.hbm Cert.KernelIdeal.S1000000x128 EltTy.f32)
local notation "m2V" => (Memref.whole Cert.KernelIdeal.main_arg5_scv : Memref Cert.KernelIdeal.sig Kind.scVector Space.hbm Cert.KernelIdeal.S1000000x128 EltTy.f32)
local notation "ixV" => (Memref.whole Cert.KernelIdeal.main_v0_scv : Memref Cert.KernelIdeal.sig Kind.scVector Space.hbm Cert.KernelIdeal.S524288 EltTy.i32)
local notation "ftV" => (Memref.whole Cert.KernelIdeal.main_arg1_scv : Memref Cert.KernelIdeal.sig Kind.scVector Space.hbm Cert.KernelIdeal.S1024x128 EltTy.f32)
local notation "fsV" => (Memref.whole Cert.KernelIdeal.main_arg0_scv : Memref Cert.KernelIdeal.sig Kind.scVector Space.hbm Cert.KernelIdeal.S1024x128 EltTy.f32)
local notation "daV" => (Memref.whole Cert.KernelIdeal.main_v1_0_scv : Memref Cert.KernelIdeal.sig Kind.scVector Space.hbm Cert.KernelIdeal.S8388608 EltTy.f32)
local notation "dbV" => (Memref.whole Cert.KernelIdeal.main_v1_1_scv : Memref Cert.KernelIdeal.sig Kind.scVector Space.hbm Cert.KernelIdeal.S8388608 EltTy.f32)
local notation "lV" => (Memref.whole Cert.KernelIdeal.cc0_scratch0 : Memref Cert.KernelIdeal.sig Kind.scVector Space.vmem Cert.KernelIdeal.S16384 EltTy.i32)
local notation "aV" => (Memref.whole Cert.KernelIdeal.cc0_scratch1 : Memref Cert.KernelIdeal.sig Kind.scVector Space.vmem Cert.KernelIdeal.S32x128 EltTy.f32)
local notation "bV" => (Memref.whole Cert.KernelIdeal.cc0_scratch2 : Memref Cert.KernelIdeal.sig Kind.scVector Space.vmem Cert.KernelIdeal.S32x128 EltTy.f32)
local notation "r1V" => (Memref.whole Cert.KernelIdeal.cc0_scratch3 : Memref Cert.KernelIdeal.sig Kind.scVector Space.vmem Cert.KernelIdeal.S2x128x128 EltTy.f32)
local notation "r2V" => (Memref.whole Cert.KernelIdeal.cc0_scratch4 : Memref Cert.KernelIdeal.sig Kind.scVector Space.vmem Cert.KernelIdeal.S2x128x128 EltTy.f32)
local notation "p1V" => (Memref.whole Cert.KernelIdeal.cc0_scratch5 : Memref Cert.KernelIdeal.sig Kind.scVector Space.vmem Cert.KernelIdeal.S2048 EltTy.f32)
local notation "p2V" => (Memref.whole Cert.KernelIdeal.cc0_scratch6 : Memref Cert.KernelIdeal.sig Kind.scVector Space.vmem Cert.KernelIdeal.S2048 EltTy.f32)
local notation "q1V" => (Memref.whole Cert.KernelIdeal.cc0_scratch7 : Memref Cert.KernelIdeal.sig Kind.scVector Space.vmem Cert.KernelIdeal.S2048 EltTy.f32)
local notation "q2V" => (Memref.whole Cert.KernelIdeal.cc0_scratch8 : Memref Cert.KernelIdeal.sig Kind.scVector Space.vmem Cert.KernelIdeal.S2048 EltTy.f32)

/-! ## What a gather lands -/

/-- The table row a word of the list names. -/
def rowOf (w : BitVec 32) : Fin 1000000 := ⟨w.toNat % 1000000, Nat.mod_lt _ (by omega)⟩

/-- Word `j` of chunk `ci` of a tile's list. -/
def lWord (l : S16384.Idx → BitVec 32) (ci j : ℕ) : BitVec 32 := l (ix1 ⟨(128 * ci + j) % 16384, Nat.mod_lt _ (by omega)⟩)

/-- The 128 rows of a table that chunk `ci` of the list names. -/
def gat (T : S1000000x128.Idx → F .f32) (l : S16384.Idx → BitVec 32) (ci : ℕ) : S128x128.Idx → F .f32 := fun x =>
  T (ix2 (rowOf (lWord l ci (x 0).val)) (x 1))

theorem lCh_inb (ci : Fin 128) : ∀ a : Fin 1, (![128 * ci.val] : Fin 1 → ℕ) a + S128.size a ≤ S16384.size a := fun a => by
  match a with | ⟨0, _⟩ => show 128 * ci.val + 128 ≤ 16384; omega

/-- Chunk `ci` of the list, as the gathers name it. -/
abbrev lCh (ci : Fin 128) : Memref sig .scVector .vmem S128 .i32 :=
  (lV).slice (Rect.unit (s := S16384) ![128 * ci.val] S128.size (lCh_inb ci)) (fun _ => rfl)

theorem lCh_read (l : S16384.Idx → BitVec 32) (ci : Fin 128) (x : S128.Idx) :
    (lCh ci).view.read (Elt F) l x = lWord l ci.val (x 0).val := by
  have hx : (x 0).val < 128 := (x 0).isLt
  show l ((Rect.unit (s := S16384) ![128 * ci.val] S128.size (lCh_inb ci)).emb x) = _
  unfold lWord
  refine congrArg l (Shape.idx1_ext ?_)
  show 128 * ci.val + 1 * (x 0).val = (128 * ci.val + (x 0).val) % 16384
  omega

theorem payload_eq (T : S1000000x128.Idx → F .f32) (l : S16384.Idx → BitVec 32) (ci : Fin 128) (hl : ∀ x, (l x).toNat < 1000000)
    (hn : S128.numel = S128x128.size gathers_S1000000x128_S128x128.axis')
    (hin : ∀ x, ((lCh ci).view.read (Elt F) l x).toNat < S1000000x128.size gathers_S1000000x128_S128x128.axis) :
    SparseCore.gatherPayload (F := F) (e := .f32) gathers_S1000000x128_S128x128 T (SparseCore.rows (F := F) ((lCh ci).view.read (Elt F) l) hn hin)
      = gat T l ci.val := by
  funext x
  unfold SparseCore.gatherPayload gat
  refine congrArg T ?_
  funext a
  match a with
  | ⟨0, _⟩ =>
    apply Fin.ext
    have e := Shape.Gathers.idx_axis gathers_S1000000x128_S128x128 (SparseCore.rows (F := F) ((lCh ci).view.read (Elt F) l) hn hin) x
    refine (congrArg Fin.val e).trans ?_
    unfold SparseCore.rows rowOf
    show ((lCh ci).view.read (Elt F) l _).toNat = _ % 1000000
    rw [lCh_read]
    have e2 : ((S128.rowMajor.symm (Fin.cast hn.symm (x gathers_S1000000x128_S128x128.axis'))) 0).val = (x 0).val := by
      rw [← Shape.rowMajor_val_one, Equiv.apply_symm_apply]; rfl
    rw [e2]
    exact (Nat.mod_eq_of_lt (hl _)).symm
  | ⟨1, _⟩ =>
    apply Fin.ext
    exact Shape.Gathers.idx_of_ne gathers_S1000000x128_S128x128 _ x ⟨1, by decide⟩ (show (1 : ℕ) ≠ 0 by decide)

/-! ## A gather in flight, and a slot at rest -/

variable (d : Dev nD) (L : grid0.Coords)

/-- The tile's thread. -/
abbrev th (d : Dev nD) (L : grid0.Coords) : Thread nD τ := V d (cV L) (jV L)

/-- A slot holding the rows of chunk `ci`. -/
def landed (dst : Memref sig .scVector .vmem S128x128 .f32) (R : S128x128.Idx → F .f32) : sProp 𝕄 :=
  iprop(∃ f : Buf (Elt F) (dst.view.loc (th d L)), ⌜dst.view.read (Elt F) f = R⌝ ∗ dst.view.loc (th d L) ↦[dst.view.set]{fullShare} f)

/-- What a gather reads: a share of the table and a share of the list. -/
def reads (src : Memref sig .scVector .hbm S1000000x128 .f32) (qs ql : PosShare TreeShare) (T : Buf (Elt F) (src.view.loc (th d L)))
    (l : Buf (Elt F) ((lV).view.loc (th d L))) : sProp 𝕄 :=
  iprop((src.view.loc (th d L) ↦[src.view.set]{qs} T) ∗ (lV).view.loc (th d L) ↦{ql} l)

/-- The gather of chunk `ci` in flight on its semaphore: at its wait it lands the chunk's rows and gives back the shares it
    read through; beside it the rest of the list's share. -/
def pend (dst : Memref sig .scVector .vmem S128x128 .f32) (src : Memref sig .scVector .hbm S1000000x128 .f32) (sem : DmaSem sig) (qs ql : PosShare TreeShare)
    (T : Buf (Elt F) (src.view.loc (th d L))) (l : Buf (Elt F) ((lV).view.loc (th d L))) (ci : Fin 128) : sProp 𝕄 :=
  iprop(Transfers.Flight countersEmb (th d L) (.dma sem) (default : HIx 1) dst.view.dmaCredit
      (iprop(landed d L dst (gat (src.view.read (Elt F) T) l ci.val) ∗ (src.view.loc (th d L) ↦[src.view.set]{qs} T)
        ∗ (lV).view.loc (th d L) ↦[(lCh ci).view.set]{ql} l))
    ∗ (lV).view.loc (th d L) ↦[Finset.univ \ (lCh ci).view.set]{ql} l)

/-- Starting a gather from a slot at rest. -/
theorem gather_start (dst : Memref sig .scVector .vmem S128x128 .f32) (src : Memref sig .scVector .hbm S1000000x128 .f32) (sem : DmaSem sig) (qs ql : PosShare TreeShare)
    (T : Buf (Elt F) (src.view.loc (th d L))) (l : Buf (Elt F) ((lV).view.loc (th d L))) (hl : ∀ x, (l x : BitVec 32).toNat < 1000000) (ci : Fin 128)
    (off : Fin 1 → ℕ) (hoff : off = ![128 * ci.val]) (inb : ∀ a : Fin 1, off a + S128.size a ≤ S16384.size a)
    {hst : ∀ a, (Rect.unit (s := S16384) off S128.size inb).stride a = 1}
    {hn : S128.numel = S128x128.size gathers_S1000000x128_S128x128.axis'} {hp : (th d L).2.kind = .scVector} {hsrc : src.view.WordExact} {he : (EltTy.f32).bits = 32}
    {hsp : Space.hbm = .hbm ∨ Space.hbm = .shared} {hr : S1000000x128.StreamRows 0}
    {α : Type} {Q : α → sProp 𝕄} {k : PUnit → Prog (TpuEff nD τ sig (Elt F) Λ₀ (th d L).2) α} :
    iprop((∃ f, dst.view.loc (th d L) ↦[dst.view.set]{fullShare} f) ∗ reads d L src qs ql T l ∗ semVal (th d L, SemLoc.dma sem) 0)
      ⊢ iprop((pend d L dst src sem qs ql T l ci -∗ wp frame (wpE (defs₀ (F := F)) 𝒱₀ (th d L) none) Set.univ (k ⟨⟩) Q)
          -∗ wp frame (wpE (defs₀ (F := F)) 𝒱₀ (th d L) none) Set.univ
            (SparseCore.enqueueIndirectGather hp src dst gathers_S1000000x128_S128x128
              ((lV).slice (Rect.unit (s := S16384) off S128.size inb) hst) hn sem hsrc he hsp hr >>= k) Q) := by
  subst hoff
  unfold reads
  iintro ⟨⟨%f, Hd⟩, ⟨Hs, Hl⟩, Hv⟩ Hk
  ihave Hls := (pointsTo_split_subset (q := ql) (f := l) (S := Finset.univ) (Finset.subset_univ (lCh ci).view.set)).1 $$ Hl
  icases Hls with ⟨Hlc, Hlr⟩
  have hin : ∀ x, ((lCh ci).view.read (Elt F) l x).toNat < S1000000x128.size gathers_S1000000x128_S128x128.axis := fun x => by
    rw [lCh_read]; exact hl _
  have hN : ∀ h : S1000000x128.Gathers 0 S128x128, ∑ j, (dst.slice (S128x128.rowRect h.axis' j) (S128x128.stride_rowRect h.axis' j)).view.dmaCredit
      = dst.view.dmaCredit := fun h => SparseCore.sum_rowCredit_eq_dmaCredit dst _ (fun _ => rfl)
  iapply (SparseCore.wp_indirectGatherLocal countersEmb 𝒱₀ (th d L) none (hg := gathers_S1000000x128_S128x128) (default : HIx 1)
      dst.view.dmaCredit (hN _) (by decide) hin) $$ [Hs Hd Hlc Hv]
  · isplitl [Hs]; · iexact Hs
    isplitl [Hd]; · iexact Hd
    isplitl [Hlc]; · iexact Hlc
    iexact Hv
  iintro Hfl
  iapply Hk
  unfold pend
  isplitl [Hfl]
  swap; · iexact Hlr
  iapply (Transfers.Flight_mono countersEmb (th d L) (show _ ⊢ _ from ?_)) $$ Hfl
  unfold landed
  iintro ⟨Hd, Hs, Hl⟩
  isplitl [Hd]
  · iexists _; isplitr
    swap; · iexact Hd
    ipureintro
    rw [View.read_write_univ]
    exact payload_eq _ l ci hl _ _
  isplitl [Hs]; · iexact Hs
  iexact Hl

/-- Waiting for a gather: the chunk's rows, the shares it read through and the semaphore at zero. -/
theorem gather_wait (dst : Memref sig .scVector .vmem S128x128 .f32) (src : Memref sig .scVector .hbm S1000000x128 .f32) (sem : DmaSem sig) (qs ql : PosShare TreeShare)
    (T : Buf (Elt F) (src.view.loc (th d L))) (l : Buf (Elt F) ((lV).view.loc (th d L))) (ci : Fin 128) (O : CellTallies nD τ sig (HIx 1)) (W : Waits sig (HIx 1))
    {hsrc : src.view.WordExact} {hdst : dst.view.WordExact} {α : Type} {Q : α → sProp 𝕄} {k : PUnit → Prog (TpuEff nD τ sig (Elt F) Λ₀ (th d L).2) α} :
    iprop(pend d L dst src sem qs ql T l ci ∗ owes (th d L) O W ∗ Transfers.MayWaits (th d L) (default : HIx 1) O)
      ⊢ iprop((iprop(landed d L dst (gat (src.view.read (Elt F) T) l ci.val) ∗ reads d L src qs ql T l ∗ semVal (th d L, SemLoc.dma sem) 0
            ∗ owes (th d L) O (insert (SemLoc.dma sem, default) W)) -∗ wp frame (wpE (defs₀ (F := F)) 𝒱₀ (th d L) none) Set.univ (k ⟨⟩) Q)
          -∗ wp frame (wpE (defs₀ (F := F)) 𝒱₀ (th d L) none) Set.univ
            (SparseCore.waitIndirectGather (p := (th d L).2) sem src dst hsrc hdst >>= k) Q) := by
  unfold pend reads
  iintro ⟨⟨Hfl, Hlr⟩, HO, Hmw⟩ Hk
  iapply (Transfers.wp_waitLocalO countersEmb 𝒱₀ (th d L) none (default : HIx 1) (rfl : dst.view.dmaCredit = _)) $$ [Hfl HO Hmw]
  · isplitl [Hfl]; · iexact Hfl
    isplitl [HO]; · iexact HO
    iapply (Transfers.MayWaits.elim (SemLoc.dma sem)) $$ Hmw
  iintro ⟨⟨Hd, Hs, Hl⟩, Hv, HO⟩
  iapply Hk
  isplitl [Hd]; · iexact Hd
  isplitl [Hs Hl Hlr]
  · isplitl [Hs]; · iexact Hs
    iapply (pointsTo_split_subset (q := ql) (f := l) (S := Finset.univ) (Finset.subset_univ (lCh ci).view.set)).2
    isplitl [Hl]; · iexact Hl
    iexact Hlr
  isplitl [Hv]; · iexact Hv
  iexact HO

end Cert.Proof.KI

end
-- ==== Proof.KI.Store.lean ====
/-
  A block of 2048 words carried out to a result array, from its start to its wait, with the words it leaves there.
-/
module

public import proofs.«01_k».proof.Proof.KI.Gather

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves
open Idealize.ShloMosaic.ValueIdx

variable {F : FTy → Type} [FloatOps F] [Named F]

local notation "𝕄" => MT nD τ sig (HIx 1) (Elt F) ℕ UU ℕ

local notation "m1V" => (Memref.whole Cert.KernelIdeal.main_arg4_scv : Memref Cert.KernelIdeal.sig Kind.scVector Space.hbm Cert.KernelIdeal.S1000000x128 EltTy.f32)
local notation "m2V" => (Memref.whole Cert.KernelIdeal.main_arg5_scv : Memref Cert.KernelIdeal.sig Kind.scVector Space.hbm Cert.KernelIdeal.S1000000x128 EltTy.f32)
local notation "ixV" => (Memref.whole Cert.KernelIdeal.main_v0_scv : Memref Cert.KernelIdeal.sig Kind.scVector Space.hbm Cert.KernelIdeal.S524288 EltTy.i32)
local notation "ftV" => (Memref.whole Cert.KernelIdeal.main_arg1_scv : Memref Cert.KernelIdeal.sig Kind.scVector Space.hbm Cert.KernelIdeal.S1024x128 EltTy.f32)
local notation "fsV" => (Memref.whole Cert.KernelIdeal.main_arg0_scv : Memref Cert.KernelIdeal.sig Kind.scVector Space.hbm Cert.KernelIdeal.S1024x128 EltTy.f32)
local notation "daV" => (Memref.whole Cert.KernelIdeal.main_v1_0_scv : Memref Cert.KernelIdeal.sig Kind.scVector Space.hbm Cert.KernelIdeal.S8388608 EltTy.f32)
local notation "dbV" => (Memref.whole Cert.KernelIdeal.main_v1_1_scv : Memref Cert.KernelIdeal.sig Kind.scVector Space.hbm Cert.KernelIdeal.S8388608 EltTy.f32)
local notation "lV" => (Memref.whole Cert.KernelIdeal.cc0_scratch0 : Memref Cert.KernelIdeal.sig Kind.scVector Space.vmem Cert.KernelIdeal.S16384 EltTy.i32)
local notation "aV" => (Memref.whole Cert.KernelIdeal.cc0_scratch1 : Memref Cert.KernelIdeal.sig Kind.scVector Space.vmem Cert.KernelIdeal.S32x128 EltTy.f32)
local notation "bV" => (Memref.whole Cert.KernelIdeal.cc0_scratch2 : Memref Cert.KernelIdeal.sig Kind.scVector Space.vmem Cert.KernelIdeal.S32x128 EltTy.f32)
local notation "r1V" => (Memref.whole Cert.KernelIdeal.cc0_scratch3 : Memref Cert.KernelIdeal.sig Kind.scVector Space.vmem Cert.KernelIdeal.S2x128x128 EltTy.f32)
local notation "r2V" => (Memref.whole Cert.KernelIdeal.cc0_scratch4 : Memref Cert.KernelIdeal.sig Kind.scVector Space.vmem Cert.KernelIdeal.S2x128x128 EltTy.f32)
local notation "p1V" => (Memref.whole Cert.KernelIdeal.cc0_scratch5 : Memref Cert.KernelIdeal.sig Kind.scVector Space.vmem Cert.KernelIdeal.S2048 EltTy.f32)
local notation "p2V" => (Memref.whole Cert.KernelIdeal.cc0_scratch6 : Memref Cert.KernelIdeal.sig Kind.scVector Space.vmem Cert.KernelIdeal.S2048 EltTy.f32)
local notation "q1V" => (Memref.whole Cert.KernelIdeal.cc0_scratch7 : Memref Cert.KernelIdeal.sig Kind.scVector Space.vmem Cert.KernelIdeal.S2048 EltTy.f32)
local notation "q2V" => (Memref.whole Cert.KernelIdeal.cc0_scratch8 : Memref Cert.KernelIdeal.sig Kind.scVector Space.vmem Cert.KernelIdeal.S2048 EltTy.f32)

variable (d : Dev nD) (L : grid0.Coords)

theorem dCh_inb (g : Fin 4096) : ∀ a : Fin 1, (![2048 * g.val] : Fin 1 → ℕ) a + S2048.size a ≤ S8388608.size a := fun a => by
  match a with | ⟨0, _⟩ => show 2048 * g.val + 2048 ≤ 8388608; omega

/-- Block `g` of a result array. -/
abbrev dCh (D : Memref sig .scVector .hbm S8388608 .f32) (g : Fin 4096) : Memref sig .scVector .hbm S2048 .f32 :=
  D.slice (Rect.unit (s := S8388608) ![2048 * g.val] S2048.size (dCh_inb g)) (fun _ => rfl)

/-- Block `g` of the words of a result array. -/
def blkOf (O : S8388608.Idx → F .f32) (g : ℕ) : S2048.Idx → F .f32 := fun x =>
  O (ix1 ⟨(2048 * g + (x 0).val) % 8388608, Nat.mod_lt _ (by omega)⟩)

theorem dCh_read (D : Memref sig .scVector .hbm S8388608 .f32) (O : Buf (Elt F) (D.view.loc (th d L))) (g : Fin 4096) :
    (dCh D g).view.read (Elt F) O = blkOf (D.view.read (Elt F) O) g.val := by
  funext x
  have hx : (x 0).val < 2048 := (x 0).isLt
  show D.view.read (Elt F) O ((Rect.unit (s := S8388608) ![2048 * g.val] S2048.size (dCh_inb g)).emb x) = _
  unfold blkOf
  refine congrArg (D.view.read (Elt F) O) (Shape.idx1_ext ?_)
  show 2048 * g.val + 1 * (x 0).val = (2048 * g.val + (x 0).val) % 8388608
  omega

/-- A block of a result array at some contents. -/
def blank (D : Memref sig .scVector .hbm S8388608 .f32) (g : Fin 4096) : sProp 𝕄 :=
  iprop(∃ f : Buf (Elt F) (D.view.loc (th d L)), D.view.loc (th d L) ↦[(dCh D g).view.set]{fullShare} f)

/-- A block of a result array at the contents `O`. -/
def done (D : Memref sig .scVector .hbm S8388608 .f32) (O : Buf (Elt F) (D.view.loc (th d L))) (g : Fin 4096) : sProp 𝕄 :=
  D.view.loc (th d L) ↦[(dCh D g).view.set]{fullShare} O

/-- A tile's buffer at some contents. -/
def some2048 (p : Memref sig .scVector .vmem S2048 .f32) : sProp 𝕄 :=
  iprop(∃ f : Buf (Elt F) (p.view.loc (th d L)), p.view.loc (th d L) ↦[p.view.set]{fullShare} f)

/-- The transfer of block `g` in flight on its semaphore: at its wait the block of the result array holds its words and
    the buffer comes back. -/
def sent (p : Memref sig .scVector .vmem S2048 .f32) (D : Memref sig .scVector .hbm S8388608 .f32) (sem : DmaSem sig)
    (O : Buf (Elt F) (D.view.loc (th d L))) (g : Fin 4096) : sProp 𝕄 :=
  Transfers.Flight countersEmb (th d L) (.dma sem) (default : HIx 1) (dCh D g).view.dmaCredit
    (iprop(done d L D O g ∗ some2048 d L p))

/-- Starting a block's transfer from the buffer that holds its words. -/
theorem store_start (p : Memref sig .scVector .vmem S2048 .f32) (D : Memref sig .scVector .hbm S8388608 .f32) (sem : DmaSem sig)
    (O : Buf (Elt F) (D.view.loc (th d L))) (g : Fin 4096) (off : Fin 1 → ℕ) (hoff : off = ![2048 * g.val])
    (inb : ∀ a : Fin 1, off a + S2048.size a ≤ S8388608.size a) {hst : ∀ a, (Rect.unit (s := S8388608) off S2048.size inb).stride a = 1}
    (f : Buf (Elt F) (p.view.loc (th d L))) (hf : p.view.read (Elt F) f = blkOf (D.view.read (Elt F) O) g.val) (hN : (dCh D g).view.dmaCredit ≠ 0)
    {hsrc : p.view.WordExact} {hdst : (D.slice (Rect.unit (s := S8388608) off S2048.size inb) hst).view.WordExact}
    {hsem : DmaTarget.Typed (nD := nD) (p := (th d L).2) .vmem (.dma sem) (.here (D.slice (Rect.unit (s := S8388608) off S2048.size inb) hst))}
    {α : Type} {Q : α → sProp 𝕄} {k : PUnit → Prog (TpuEff nD τ sig (Elt F) Λ₀ (th d L).2) α} :
    iprop((p.view.loc (th d L) ↦[p.view.set]{fullShare} f) ∗ blank d L D g ∗ semVal (th d L, SemLoc.dma sem) 0)
      ⊢ iprop((sent d L p D sem O g -∗ wp frame (wpE (defs₀ (F := F)) 𝒱₀ (th d L) none) Set.univ (k ⟨⟩) Q)
          -∗ wp frame (wpE (defs₀ (F := F)) 𝒱₀ (th d L) none) Set.univ
            (Prog.lift (.enqueueDma p (.here (D.slice (Rect.unit (s := S8388608) off S2048.size inb) hst)) (.dma sem) hsrc hdst hsem) >>= k) Q) := by
  subst hoff
  unfold blank
  iintro ⟨Hp, ⟨%fd, Hd⟩, Hv⟩ Hk
  iapply (Transfers.wp_dmaLocal countersEmb 𝒱₀ (th d L) none (default : HIx 1) (dCh D g).view.dmaCredit rfl (Nat.pos_of_ne_zero hN)
    (Finset.Subset.refl (dCh D g).view.set)) $$ [Hp Hd Hv]
  · isplitl [Hp]; · iexact Hp
    isplitl [Hd]; · iexact Hd
    iexact Hv
  iintro Hfl
  iapply Hk
  unfold sent
  iapply (Transfers.Flight_mono countersEmb (th d L) (show _ ⊢ _ from ?_)) $$ Hfl
  unfold done some2048
  iintro ⟨Hd, Hp⟩
  isplitl [Hd]
  · iapply (show _ ⊢ _ from ?_) $$ Hd
    rw [pointsTo_congr (g := O) (fun i hi => ?_)]
    obtain ⟨x, -, e⟩ := Finset.mem_map.mp hi
    rw [← e]
    refine View.eq_of_read_eq (v := (dCh D g).view) ?_
    rw [View.read_write_univ, dCh_read]
    exact congrFun hf x
  · iexists _; iexact Hp

/-- Waiting for a block's transfer. -/
theorem store_wait (p : Memref sig .scVector .vmem S2048 .f32) (D : Memref sig .scVector .hbm S8388608 .f32) (sem : DmaSem sig)
    (O : Buf (Elt F) (D.view.loc (th d L))) (g : Fin 4096) (off : Fin 1 → ℕ)
    (inb : ∀ a : Fin 1, off a + S2048.size a ≤ S8388608.size a) {hst : ∀ a, (Rect.unit (s := S8388608) off S2048.size inb).stride a = 1}
    (OW : CellTallies nD τ sig (HIx 1)) (W : Waits sig (HIx 1))
    {hsrc : p.view.WordExact} {hdst : (D.slice (Rect.unit (s := S8388608) off S2048.size inb) hst).view.WordExact}
    {α : Type} {Q : α → sProp 𝕄} {k : PUnit → Prog (TpuEff nD τ sig (Elt F) Λ₀ (th d L).2) α} :
    iprop(sent d L p D sem O g ∗ owes (th d L) OW W ∗ Transfers.MayWaits (th d L) (default : HIx 1) OW)
      ⊢ iprop((iprop(done d L D O g ∗ some2048 d L p ∗ semVal (th d L, SemLoc.dma sem) 0
            ∗ owes (th d L) OW (insert (SemLoc.dma sem, default) W)) -∗ wp frame (wpE (defs₀ (F := F)) 𝒱₀ (th d L) none) Set.univ (k ⟨⟩) Q)
          -∗ wp frame (wpE (defs₀ (F := F)) 𝒱₀ (th d L) none) Set.univ
            (Prog.lift (.waitDma2 sem p (D.slice (Rect.unit (s := S8388608) off S2048.size inb) hst) hsrc hdst) >>= k) Q) := by
  unfold sent
  iintro ⟨Hfl, HO, Hmw⟩ Hk
  iapply (Transfers.wp_waitLocalO countersEmb 𝒱₀ (th d L) none (default : HIx 1)
      (rfl : (D.slice (Rect.unit (s := S8388608) off S2048.size inb) hst).view.dmaCredit = (dCh D g).view.dmaCredit)) $$ [Hfl HO Hmw]
  · isplitl [Hfl]; · iexact Hfl
    isplitl [HO]; · iexact HO
    iapply (Transfers.MayWaits.elim (SemLoc.dma sem)) $$ Hmw
  iintro ⟨⟨Hd, Hp⟩, Hv, HO⟩
  iapply Hk
  isplitl [Hd]; · iexact Hd
  isplitl [Hp]; · iexact Hp
  isplitl [Hv]; · iexact Hv
  iexact HO

end Cert.Proof.KI

end
-- ==== Proof.KI.Cond.lean ====
/-
  One trip of a tile's loop over pairs of chunks: what is in flight between trips, and how a trip moves it on.
-/
module

public import proofs.«01_k».proof.Proof.KI.Store

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves
open Idealize.ShloMosaic.ValueIdx

variable {F : FTy → Type} [FloatOps F] [Named F]

local notation "𝕄" => MT nD τ sig (HIx 1) (Elt F) ℕ UU ℕ

local notation "m1V" => (Memref.whole Cert.KernelIdeal.main_arg4_scv : Memref Cert.KernelIdeal.sig Kind.scVector Space.hbm Cert.KernelIdeal.S1000000x128 EltTy.f32)
local notation "m2V" => (Memref.whole Cert.KernelIdeal.main_arg5_scv : Memref Cert.KernelIdeal.sig Kind.scVector Space.hbm Cert.KernelIdeal.S1000000x128 EltTy.f32)
local notation "ixV" => (Memref.whole Cert.KernelIdeal.main_v0_scv : Memref Cert.KernelIdeal.sig Kind.scVector Space.hbm Cert.KernelIdeal.S524288 EltTy.i32)
local notation "ftV" => (Memref.whole Cert.KernelIdeal.main_arg1_scv : Memref Cert.KernelIdeal.sig Kind.scVector Space.hbm Cert.KernelIdeal.S1024x128 EltTy.f32)
local notation "fsV" => (Memref.whole Cert.KernelIdeal.main_arg0_scv : Memref Cert.KernelIdeal.sig Kind.scVector Space.hbm Cert.KernelIdeal.S1024x128 EltTy.f32)
local notation "daV" => (Memref.whole Cert.KernelIdeal.main_v1_0_scv : Memref Cert.KernelIdeal.sig Kind.scVector Space.hbm Cert.KernelIdeal.S8388608 EltTy.f32)
local notation "dbV" => (Memref.whole Cert.KernelIdeal.main_v1_1_scv : Memref Cert.KernelIdeal.sig Kind.scVector Space.hbm Cert.KernelIdeal.S8388608 EltTy.f32)
local notation "lV" => (Memref.whole Cert.KernelIdeal.cc0_scratch0 : Memref Cert.KernelIdeal.sig Kind.scVector Space.vmem Cert.KernelIdeal.S16384 EltTy.i32)
local notation "aV" => (Memref.whole Cert.KernelIdeal.cc0_scratch1 : Memref Cert.KernelIdeal.sig Kind.scVector Space.vmem Cert.KernelIdeal.S32x128 EltTy.f32)
local notation "bV" => (Memref.whole Cert.KernelIdeal.cc0_scratch2 : Memref Cert.KernelIdeal.sig Kind.scVector Space.vmem Cert.KernelIdeal.S32x128 EltTy.f32)
local notation "r1V" => (Memref.whole Cert.KernelIdeal.cc0_scratch3 : Memref Cert.KernelIdeal.sig Kind.scVector Space.vmem Cert.KernelIdeal.S2x128x128 EltTy.f32)
local notation "r2V" => (Memref.whole Cert.KernelIdeal.cc0_scratch4 : Memref Cert.KernelIdeal.sig Kind.scVector Space.vmem Cert.KernelIdeal.S2x128x128 EltTy.f32)
local notation "p1V" => (Memref.whole Cert.KernelIdeal.cc0_scratch5 : Memref Cert.KernelIdeal.sig Kind.scVector Space.vmem Cert.KernelIdeal.S2048 EltTy.f32)
local notation "p2V" => (Memref.whole Cert.KernelIdeal.cc0_scratch6 : Memref Cert.KernelIdeal.sig Kind.scVector Space.vmem Cert.KernelIdeal.S2048 EltTy.f32)
local notation "q1V" => (Memref.whole Cert.KernelIdeal.cc0_scratch7 : Memref Cert.KernelIdeal.sig Kind.scVector Space.vmem Cert.KernelIdeal.S2048 EltTy.f32)
local notation "q2V" => (Memref.whole Cert.KernelIdeal.cc0_scratch8 : Memref Cert.KernelIdeal.sig Kind.scVector Space.vmem Cert.KernelIdeal.S2048 EltTy.f32)

local notation "m1S" => (Memref.slice m1V (Rect.unit (s := S1000000x128) ![0, 0] S1000000x128.size inb_S1000000x128_S1000000x128_0_0) (fun _ => rfl) : Memref Cert.KernelIdeal.sig Kind.scVector Space.hbm Cert.KernelIdeal.S1000000x128 EltTy.f32)
local notation "m2S" => (Memref.slice m2V (Rect.unit (s := S1000000x128) ![0, 0] S1000000x128.size inb_S1000000x128_S1000000x128_0_0) (fun _ => rfl) : Memref Cert.KernelIdeal.sig Kind.scVector Space.hbm Cert.KernelIdeal.S1000000x128 EltTy.f32)

variable (d : Dev nD) (L : grid0.Coords)

/-! ## Chunk numbers and the loop's conditions -/

theorem c_lt : (L 0).val < 2 := (L 0).isLt
theorem s_lt : (L 1).val < 16 := (L 1).isLt

/-- The tile's number among the thirty-two. -/
def wid : Fin 32 := ⟨2 * (L 1).val + (L 0).val, by have := c_lt L; have := s_lt L; omega⟩

/-- The block of the result arrays that chunk `n` of the tile fills. -/
def gix (n : ℕ) : Fin 4096 := ⟨(128 * (wid L).val + n) % 4096, Nat.mod_lt _ (by omega)⟩

theorem gix_val (n : ℕ) (hn : n < 128) : (gix L n).val = 128 * (wid L).val + n := by
  have := (wid L).isLt
  unfold gix; show _ % 4096 = _; omega

theorem t1_lt (k : Fin k0_t1_loop.trips) : k.val < 64 := k.isLt
theorem cond1_iff : ∀ k : Fin k0_t1_loop.trips, k0_cond1 k = 1#1 ↔ k.val ≠ 0 := by decide +kernel
theorem cond2_iff : ∀ k : Fin k0_t1_loop.trips, k0_cond2 k = 1#1 ↔ 2 * (k.val + 1) < 128 := by decide +kernel
theorem cond3_iff : ∀ k : Fin k0_t1_loop.trips, k0_cond3 k = 1#1 ↔ k.val ≠ 0 := by decide +kernel
theorem cond4_iff : ∀ k : Fin k0_t1_loop.trips, k0_cond4 k = 1#1 ↔ 2 * (k.val + 1) + 1 < 128 := by decide +kernel
theorem off4_eq : ∀ k : Fin k0_t1_loop.trips, k0_off4 k = ![2 * k.val / 4, 0] := by decide +kernel
theorem off5_eq : ∀ k : Fin k0_t1_loop.trips, k0_off5 k = ![2 * k.val / 4, 16] := by decide +kernel
theorem off6_eq : ∀ k : Fin k0_t1_loop.trips, k0_off6 k = ![2 * k.val / 4, 32] := by decide +kernel
theorem off7_eq : ∀ k : Fin k0_t1_loop.trips, k0_off7 k = ![2 * k.val / 4, 48] := by decide +kernel
theorem off8_eq : ∀ k : Fin k0_t1_loop.trips, k0_off8 k = ![2 * k.val / 4, 64] := by decide +kernel
theorem off9_eq : ∀ k : Fin k0_t1_loop.trips, k0_off9 k = ![2 * k.val / 4, 80] := by decide +kernel
theorem off10_eq : ∀ k : Fin k0_t1_loop.trips, k0_off10 k = ![2 * k.val / 4, 96] := by decide +kernel
theorem off11_eq : ∀ k : Fin k0_t1_loop.trips, k0_off11 k = ![2 * k.val / 4, 112] := by decide +kernel

/-! ## What is in flight between trips -/

/-- The thread's debts, with the waits recorded so far. -/
def owing (OW : CellTallies nD τ sig (HIx 1)) (W : Waits sig (HIx 1)) : sProp 𝕄 :=
  iprop(∃ W' : Waits sig (HIx 1), ⌜∀ p ∈ W', p ∈ W ∨ p.2 = none⌝ ∗ owes (th d L) OW W')

/-- A gather's slot at rest: the slot at some contents, its shares, its semaphore at zero. -/
def rest (dst : Memref sig .scVector .vmem S128x128 .f32) (src : Memref sig .scVector .hbm S1000000x128 .f32) (sem : DmaSem sig) (qs ql : PosShare TreeShare)
    (T : Buf (Elt F) (src.view.loc (th d L))) (l : Buf (Elt F) ((lV).view.loc (th d L))) : sProp 𝕄 :=
  iprop((∃ f : Buf (Elt F) (dst.view.loc (th d L)), dst.view.loc (th d L) ↦[dst.view.set]{fullShare} f) ∗ reads d L src qs ql T l ∗ semVal (th d L, SemLoc.dma sem) 0)

/-- The gather of chunk `n` in flight, or its slot at rest when there is no such chunk. -/
def GA (dst : Memref sig .scVector .vmem S128x128 .f32) (src : Memref sig .scVector .hbm S1000000x128 .f32) (sem : DmaSem sig) (qs ql : PosShare TreeShare)
    (T : Buf (Elt F) (src.view.loc (th d L))) (l : Buf (Elt F) ((lV).view.loc (th d L))) (n : ℕ) : sProp 𝕄 :=
  if h : n < 128 then pend d L dst src sem qs ql T l ⟨n, h⟩ else rest d L dst src sem qs ql T l

/-- Before trip `k`: the transfer of the last trip's block in flight, or (before the first) its buffer at rest. -/
def SA (p : Memref sig .scVector .vmem S2048 .f32) (D : Memref sig .scVector .hbm S8388608 .f32) (sem : DmaSem sig)
    (O : Buf (Elt F) (D.view.loc (th d L))) (k e : ℕ) : sProp 𝕄 :=
  if k = 0 then iprop(some2048 d L p ∗ semVal (th d L, SemLoc.dma sem) 0) else sent d L p D sem O (gix L (2 * (k - 1) + e))

/-- The block the last trip's transfer leaves done, when there was a last trip. -/
def fin (D : Memref sig .scVector .hbm S8388608 .f32) (O : Buf (Elt F) (D.view.loc (th d L))) (k e : ℕ) : sProp 𝕄 :=
  if k = 0 then iprop(emp) else done d L D O (gix L (2 * (k - 1) + e))

/-! ## The trip's conditional steps -/

/-- The two waits a trip makes for the last trip's transfers, when there was one. -/
theorem waits_cond (p q : Memref sig .scVector .vmem S2048 .f32) (D E : Memref sig .scVector .hbm S8388608 .f32) (s t : DmaSem sig)
    (O : Buf (Elt F) (D.view.loc (th d L))) (P : Buf (Elt F) (E.view.loc (th d L))) (k e : ℕ) (c : BitVec 1) (hc : c = 1#1 ↔ k ≠ 0)
    (off : Fin 1 → ℕ) (inb : c = 1#1 → ∀ a : Fin 1, off a + S2048.size a ≤ S8388608.size a)
    {hst : ∀ h : c = 1#1, ∀ a, (Rect.unit (s := S8388608) off S2048.size (inb h)).stride a = 1}
    {hst' : ∀ h : c = 1#1, ∀ a, (Rect.unit (s := S8388608) off S2048.size (inb h)).stride a = 1}
    (OW : CellTallies nD τ sig (HIx 1)) (W : Waits sig (HIx 1))
    {hp : p.view.WordExact} {hq : q.view.WordExact}
    {hd : ∀ h : c = 1#1, (D.slice (Rect.unit (s := S8388608) off S2048.size (inb h)) (hst h)).view.WordExact}
    {he : ∀ h : c = 1#1, (E.slice (Rect.unit (s := S8388608) off S2048.size (inb h)) (hst' h)).view.WordExact}
    {α β : Type} {Q : β → sProp 𝕄} {kk : Prog (TpuEff nD τ sig (Elt F) Λ₀ (th d L).2) α} {k' : α → Prog (TpuEff nD τ sig (Elt F) Λ₀ (th d L).2) β} :
    iprop(SA d L p D s O k e ∗ SA d L q E t P k e ∗ owing d L OW W ∗ Transfers.MayWaits (th d L) (default : HIx 1) OW)
      ⊢ iprop((iprop(some2048 d L p ∗ semVal (th d L, SemLoc.dma s) 0 ∗ some2048 d L q ∗ semVal (th d L, SemLoc.dma t) 0 ∗ fin d L D O k e ∗ fin d L E P k e
            ∗ owing d L OW W) -∗ wp frame (wpE (defs₀ (F := F)) 𝒱₀ (th d L) none) Set.univ (kk >>= k') Q)
          -∗ wp frame (wpE (defs₀ (F := F)) 𝒱₀ (th d L) none) Set.univ
            ((if h : c = 1#1 then do
                Prog.lift (.waitDma2 s p (D.slice (Rect.unit (s := S8388608) off S2048.size (inb h)) (hst h)) hp (hd h))
                Prog.lift (.waitDma2 t q (E.slice (Rect.unit (s := S8388608) off S2048.size (inb h)) (hst' h)) hq (he h))
                kk
              else kk) >>= k') Q) := by
  unfold SA fin
  by_cases hk : k = 0
  · rw [dif_neg (fun h => hc.mp h hk), if_pos hk, if_pos hk, if_pos hk, if_pos hk]
    iintro ⟨⟨Hp, Hs⟩, ⟨Hq, Ht⟩, HO, -⟩ Hk
    iapply Hk
    isplitl [Hp]; · iexact Hp
    isplitl [Hs]; · iexact Hs
    isplitl [Hq]; · iexact Hq
    isplitl [Ht]; · iexact Ht
    isplitr; · iempintro
    isplitr; · iempintro
    iexact HO
  · rw [dif_pos (hc.mpr hk), if_neg hk, if_neg hk, if_neg hk, if_neg hk]
    unfold owing
    iintro ⟨Hp, Hq, ⟨%W', %hW', HO⟩, #Hmw⟩ Hk
    iapply (store_wait d L p D s O _ off (inb (hc.mpr hk)) OW W') $$ [Hp HO]
    · isplitl [Hp]; · iexact Hp
      isplitl [HO]; · iexact HO
      iexact Hmw
    iintro ⟨Hd, Hp, Hs, HO⟩
    iapply (store_wait d L q E t P _ off (inb (hc.mpr hk)) OW _) $$ [Hq HO]
    · isplitl [Hq]; · iexact Hq
      isplitl [HO]; · iexact HO
      iexact Hmw
    iintro ⟨He, Hq, Ht, HO⟩
    iapply Hk
    isplitl [Hp]; · iexact Hp
    isplitl [Hs]; · iexact Hs
    isplitl [Hq]; · iexact Hq
    isplitl [Ht]; · iexact Ht
    isplitl [Hd]; · iexact Hd
    isplitl [He]; · iexact He
    iexists _; isplitr
    swap; · iexact HO
    ipureintro
    intro x hx
    rcases Finset.mem_insert.mp hx with rfl | hx
    · exact Or.inr rfl
    rcases Finset.mem_insert.mp hx with rfl | hx
    · exact Or.inr rfl
    exact hW' x hx

/-- The two gathers a trip starts for the next pair, when there is one. -/
theorem gathers_cond (u v : Memref sig .scVector .vmem S128x128 .f32) (src src' : Memref sig .scVector .hbm S1000000x128 .f32) (s t : DmaSem sig) (qs qs' ql ql' : PosShare TreeShare)
    (T : Buf (Elt F) (src.view.loc (th d L))) (T' : Buf (Elt F) (src'.view.loc (th d L))) (l : Buf (Elt F) ((lV).view.loc (th d L)))
    (hl : ∀ x, (l x : BitVec 32).toNat < 1000000) (n : ℕ) (c : BitVec 1) (hc : c = 1#1 ↔ n < 128)
    (off : Fin 1 → ℕ) (hoff : off = ![128 * n]) (inb : c = 1#1 → ∀ a : Fin 1, off a + S128.size a ≤ S16384.size a)
    {hst : ∀ h : c = 1#1, ∀ a, (Rect.unit (s := S16384) off S128.size (inb h)).stride a = 1}
    {hst' : ∀ h : c = 1#1, ∀ a, (Rect.unit (s := S16384) off S128.size (inb h)).stride a = 1}
    {hn hn' : S128.numel = S128x128.size gathers_S1000000x128_S128x128.axis'} {hp hp' : (th d L).2.kind = .scVector} {hsrc : src.view.WordExact} {hsrc' : src'.view.WordExact}
    {he he' : (EltTy.f32).bits = 32} {hsp hsp' : Space.hbm = .hbm ∨ Space.hbm = .shared} {hr hr' : S1000000x128.StreamRows 0}
    {α β : Type} {Q : β → sProp 𝕄} {kk : Prog (TpuEff nD τ sig (Elt F) Λ₀ (th d L).2) α} {k' : α → Prog (TpuEff nD τ sig (Elt F) Λ₀ (th d L).2) β} :
    iprop(rest d L u src s qs ql T l ∗ rest d L v src' t qs' ql' T' l)
      ⊢ iprop((iprop(GA d L u src s qs ql T l n ∗ GA d L v src' t qs' ql' T' l n) -∗ wp frame (wpE (defs₀ (F := F)) 𝒱₀ (th d L) none) Set.univ (kk >>= k') Q)
          -∗ wp frame (wpE (defs₀ (F := F)) 𝒱₀ (th d L) none) Set.univ
            ((if h : c = 1#1 then do
                SparseCore.enqueueIndirectGather hp src u gathers_S1000000x128_S128x128 ((lV).slice (Rect.unit (s := S16384) off S128.size (inb h)) (hst h)) hn s hsrc he hsp hr
                SparseCore.enqueueIndirectGather hp' src' v gathers_S1000000x128_S128x128 ((lV).slice (Rect.unit (s := S16384) off S128.size (inb h)) (hst' h)) hn' t hsrc' he' hsp' hr'
                kk
              else kk) >>= k') Q) := by
  unfold GA
  by_cases hk : n < 128
  · rw [dif_pos (hc.mpr hk), dif_pos hk, dif_pos hk, LawfulMonad.bind_assoc]
    unfold rest
    iintro ⟨Hu, Hv⟩ Hk
    iapply (gather_start d L u src s qs ql T l hl ⟨n, hk⟩ off hoff (inb (hc.mpr hk))) $$ Hu
    iintro Hu
    rw [LawfulMonad.bind_assoc]
    iapply (gather_start d L v src' t qs' ql' T' l hl ⟨n, hk⟩ off hoff (inb (hc.mpr hk))) $$ Hv
    iintro Hv
    iapply Hk
    isplitl [Hu]; · iexact Hu
    iexact Hv
  · rw [dif_neg (fun h => hk (hc.mp h)), dif_neg hk, dif_neg hk]
    iintro ⟨Hu, Hv⟩ Hk
    iapply Hk
    isplitl [Hu]; · iexact Hu
    iexact Hv

/-- The same at a program's end. -/
theorem waits_cond' (p q : Memref sig .scVector .vmem S2048 .f32) (D E : Memref sig .scVector .hbm S8388608 .f32) (s t : DmaSem sig)
    (O : Buf (Elt F) (D.view.loc (th d L))) (P : Buf (Elt F) (E.view.loc (th d L))) (k e : ℕ) (c : BitVec 1) (hc : c = 1#1 ↔ k ≠ 0)
    (off : Fin 1 → ℕ) (inb : c = 1#1 → ∀ a : Fin 1, off a + S2048.size a ≤ S8388608.size a)
    {hst : ∀ h : c = 1#1, ∀ a, (Rect.unit (s := S8388608) off S2048.size (inb h)).stride a = 1}
    {hst' : ∀ h : c = 1#1, ∀ a, (Rect.unit (s := S8388608) off S2048.size (inb h)).stride a = 1}
    (OW : CellTallies nD τ sig (HIx 1)) (W : Waits sig (HIx 1))
    {hp : p.view.WordExact} {hq : q.view.WordExact}
    {hd : ∀ h : c = 1#1, (D.slice (Rect.unit (s := S8388608) off S2048.size (inb h)) (hst h)).view.WordExact}
    {he : ∀ h : c = 1#1, (E.slice (Rect.unit (s := S8388608) off S2048.size (inb h)) (hst' h)).view.WordExact}
    {α : Type} {Q : α → sProp 𝕄} {kk : Prog (TpuEff nD τ sig (Elt F) Λ₀ (th d L).2) α} :
    iprop(SA d L p D s O k e ∗ SA d L q E t P k e ∗ owing d L OW W ∗ Transfers.MayWaits (th d L) (default : HIx 1) OW)
      ⊢ iprop((iprop(some2048 d L p ∗ semVal (th d L, SemLoc.dma s) 0 ∗ some2048 d L q ∗ semVal (th d L, SemLoc.dma t) 0 ∗ fin d L D O k e ∗ fin d L E P k e
            ∗ owing d L OW W) -∗ wp frame (wpE (defs₀ (F := F)) 𝒱₀ (th d L) none) Set.univ kk Q)
          -∗ wp frame (wpE (defs₀ (F := F)) 𝒱₀ (th d L) none) Set.univ
            ((if h : c = 1#1 then do
                Prog.lift (.waitDma2 s p (D.slice (Rect.unit (s := S8388608) off S2048.size (inb h)) (hst h)) hp (hd h))
                Prog.lift (.waitDma2 t q (E.slice (Rect.unit (s := S8388608) off S2048.size (inb h)) (hst' h)) hq (he h))
                kk
              else kk)) Q) := by
  have h := waits_cond d L p q D E s t O P k e c hc off inb (hst := hst) (hst' := hst') OW W (hp := hp) (hq := hq) (hd := hd) (he := he) (Q := Q) (kk := kk) (k' := pure)
  rwa [_root_.bind_pure, _root_.bind_pure] at h

/-- The same at a program's end. -/
theorem gathers_cond' (u v : Memref sig .scVector .vmem S128x128 .f32) (src src' : Memref sig .scVector .hbm S1000000x128 .f32) (s t : DmaSem sig) (qs qs' ql ql' : PosShare TreeShare)
    (T : Buf (Elt F) (src.view.loc (th d L))) (T' : Buf (Elt F) (src'.view.loc (th d L))) (l : Buf (Elt F) ((lV).view.loc (th d L)))
    (hl : ∀ x, (l x : BitVec 32).toNat < 1000000) (n : ℕ) (c : BitVec 1) (hc : c = 1#1 ↔ n < 128)
    (off : Fin 1 → ℕ) (hoff : off = ![128 * n]) (inb : c = 1#1 → ∀ a : Fin 1, off a + S128.size a ≤ S16384.size a)
    {hst : ∀ h : c = 1#1, ∀ a, (Rect.unit (s := S16384) off S128.size (inb h)).stride a = 1}
    {hst' : ∀ h : c = 1#1, ∀ a, (Rect.unit (s := S16384) off S128.size (inb h)).stride a = 1}
    {hn hn' : S128.numel = S128x128.size gathers_S1000000x128_S128x128.axis'} {hp hp' : (th d L).2.kind = .scVector} {hsrc : src.view.WordExact} {hsrc' : src'.view.WordExact}
    {he he' : (EltTy.f32).bits = 32} {hsp hsp' : Space.hbm = .hbm ∨ Space.hbm = .shared} {hr hr' : S1000000x128.StreamRows 0}
    {α : Type} {Q : α → sProp 𝕄} {kk : Prog (TpuEff nD τ sig (Elt F) Λ₀ (th d L).2) α} :
    iprop(rest d L u src s qs ql T l ∗ rest d L v src' t qs' ql' T' l)
      ⊢ iprop((iprop(GA d L u src s qs ql T l n ∗ GA d L v src' t qs' ql' T' l n) -∗ wp frame (wpE (defs₀ (F := F)) 𝒱₀ (th d L) none) Set.univ kk Q)
          -∗ wp frame (wpE (defs₀ (F := F)) 𝒱₀ (th d L) none) Set.univ
            ((if h : c = 1#1 then do
                SparseCore.enqueueIndirectGather hp src u gathers_S1000000x128_S128x128 ((lV).slice (Rect.unit (s := S16384) off S128.size (inb h)) (hst h)) hn s hsrc he hsp hr
                SparseCore.enqueueIndirectGather hp' src' v gathers_S1000000x128_S128x128 ((lV).slice (Rect.unit (s := S16384) off S128.size (inb h)) (hst' h)) hn' t hsrc' he' hsp' hr'
                kk
              else kk)) Q) := by
  have h := gathers_cond d L u v src src' s t qs qs' ql ql' T T' l hl n c hc off hoff inb (hst := hst) (hst' := hst') (hn := hn) (hn' := hn') (hp := hp) (hp' := hp') (hsrc := hsrc) (hsrc' := hsrc') (he := he) (he' := he') (hsp := hsp) (hsp' := hsp') (hr := hr) (hr' := hr') (Q := Q) (kk := kk) (k' := pure)
  rwa [_root_.bind_pure, _root_.bind_pure] at h

end Cert.Proof.KI

end
-- ==== Proof.KI.Trip.lean ====
/-
  One trip of a tile's loop over pairs of chunks: the state between trips, and that a trip moves it on by one.
-/
module

public import proofs.«01_k».proof.Proof.KI.Cond

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves
open Idealize.ShloMosaic.ValueIdx

variable {F : FTy → Type} [FloatOps F] [Named F]

local notation "𝕄" => MT nD τ sig (HIx 1) (Elt F) ℕ UU ℕ

local notation "m1V" => (Memref.whole Cert.KernelIdeal.main_arg4_scv : Memref Cert.KernelIdeal.sig Kind.scVector Space.hbm Cert.KernelIdeal.S1000000x128 EltTy.f32)
local notation "m2V" => (Memref.whole Cert.KernelIdeal.main_arg5_scv : Memref Cert.KernelIdeal.sig Kind.scVector Space.hbm Cert.KernelIdeal.S1000000x128 EltTy.f32)
local notation "ixV" => (Memref.whole Cert.KernelIdeal.main_v0_scv : Memref Cert.KernelIdeal.sig Kind.scVector Space.hbm Cert.KernelIdeal.S524288 EltTy.i32)
local notation "ftV" => (Memref.whole Cert.KernelIdeal.main_arg1_scv : Memref Cert.KernelIdeal.sig Kind.scVector Space.hbm Cert.KernelIdeal.S1024x128 EltTy.f32)
local notation "fsV" => (Memref.whole Cert.KernelIdeal.main_arg0_scv : Memref Cert.KernelIdeal.sig Kind.scVector Space.hbm Cert.KernelIdeal.S1024x128 EltTy.f32)
local notation "daV" => (Memref.whole Cert.KernelIdeal.main_v1_0_scv : Memref Cert.KernelIdeal.sig Kind.scVector Space.hbm Cert.KernelIdeal.S8388608 EltTy.f32)
local notation "dbV" => (Memref.whole Cert.KernelIdeal.main_v1_1_scv : Memref Cert.KernelIdeal.sig Kind.scVector Space.hbm Cert.KernelIdeal.S8388608 EltTy.f32)
local notation "lV" => (Memref.whole Cert.KernelIdeal.cc0_scratch0 : Memref Cert.KernelIdeal.sig Kind.scVector Space.vmem Cert.KernelIdeal.S16384 EltTy.i32)
local notation "aV" => (Memref.whole Cert.KernelIdeal.cc0_scratch1 : Memref Cert.KernelIdeal.sig Kind.scVector Space.vmem Cert.KernelIdeal.S32x128 EltTy.f32)
local notation "bV" => (Memref.whole Cert.KernelIdeal.cc0_scratch2 : Memref Cert.KernelIdeal.sig Kind.scVector Space.vmem Cert.KernelIdeal.S32x128 EltTy.f32)
local notation "r1V" => (Memref.whole Cert.KernelIdeal.cc0_scratch3 : Memref Cert.KernelIdeal.sig Kind.scVector Space.vmem Cert.KernelIdeal.S2x128x128 EltTy.f32)
local notation "r2V" => (Memref.whole Cert.KernelIdeal.cc0_scratch4 : Memref Cert.KernelIdeal.sig Kind.scVector Space.vmem Cert.KernelIdeal.S2x128x128 EltTy.f32)
local notation "p1V" => (Memref.whole Cert.KernelIdeal.cc0_scratch5 : Memref Cert.KernelIdeal.sig Kind.scVector Space.vmem Cert.KernelIdeal.S2048 EltTy.f32)
local notation "p2V" => (Memref.whole Cert.KernelIdeal.cc0_scratch6 : Memref Cert.KernelIdeal.sig Kind.scVector Space.vmem Cert.KernelIdeal.S2048 EltTy.f32)
local notation "q1V" => (Memref.whole Cert.KernelIdeal.cc0_scratch7 : Memref Cert.KernelIdeal.sig Kind.scVector Space.vmem Cert.KernelIdeal.S2048 EltTy.f32)
local notation "q2V" => (Memref.whole Cert.KernelIdeal.cc0_scratch8 : Memref Cert.KernelIdeal.sig Kind.scVector Space.vmem Cert.KernelIdeal.S2048 EltTy.f32)

local notation "m1S" => (Memref.slice m1V (Rect.unit (s := S1000000x128) ![0, 0] S1000000x128.size inb_S1000000x128_S1000000x128_0_0) (fun _ => rfl) : Memref Cert.KernelIdeal.sig Kind.scVector Space.hbm Cert.KernelIdeal.S1000000x128 EltTy.f32)
local notation "m2S" => (Memref.slice m2V (Rect.unit (s := S1000000x128) ![0, 0] S1000000x128.size inb_S1000000x128_S1000000x128_0_0) (fun _ => rfl) : Memref Cert.KernelIdeal.sig Kind.scVector Space.hbm Cert.KernelIdeal.S1000000x128 EltTy.f32)
variable (d : Dev nD) (L : grid0.Coords)

/-- Row `r` of a tile's 32 feature rows. -/
def frow (A : S32x128.Idx → F .f32) (r : Fin 32) : Fin 128 → F .f32 := fun a => A (ix2 r a)

section Trip

variable (qa qb qc qd la lb lc ld : PosShare TreeShare) (T1 : Buf (Elt F) ((m1S).view.loc (th d L))) (T2 : Buf (Elt F) ((m2S).view.loc (th d L)))
  (l : Buf (Elt F) ((lV).view.loc (th d L))) (A : Buf (Elt F) ((aV).view.loc (th d L))) (B : Buf (Elt F) ((bV).view.loc (th d L)))
  (O1 : Buf (Elt F) ((daV).view.loc (th d L))) (O2 : Buf (Elt F) ((dbV).view.loc (th d L)))
  (OW : CellTallies nD τ sig (HIx 1)) (W : Waits sig (HIx 1))

/-- The four blocks of a pair of chunks, to be filled; -/
def blank4 (j : Fin 64) : sProp 𝕄 :=
  iprop(blank d L daV (gix L (2 * j.val + 0)) ∗ blank d L dbV (gix L (2 * j.val + 0)) ∗ blank d L daV (gix L (2 * j.val + 1)) ∗ blank d L dbV (gix L (2 * j.val + 1)))

/-- filled. -/
def done4 (j : Fin 64) : sProp 𝕄 :=
  iprop(done d L daV O1 (gix L (2 * j.val + 0)) ∗ done d L dbV O2 (gix L (2 * j.val + 0)) ∗ done d L daV O1 (gix L (2 * j.val + 1)) ∗ done d L dbV O2 (gix L (2 * j.val + 1)))

/-- Before trip `k`: the pairs from `k` on are to be filled, -/
def blanks (k : ℕ) : sProp 𝕄 := bigSep (Finset.univ.filter fun j : Fin 64 => k ≤ j.val) (blank4 (F := F) d L)

/-- those below the last trip's are filled. -/
def dones (k : ℕ) : sProp 𝕄 := bigSep (Finset.univ.filter fun j : Fin 64 => j.val + 1 < k) (done4 d L O1 O2)

theorem blanks_step (k : ℕ) (hk : k < 64) : blanks (F := F) d L k = iprop(blank4 d L ⟨k, hk⟩ ∗ blanks d L (k + 1)) := by
  unfold blanks
  rw [show (Finset.univ.filter fun j : Fin 64 => k ≤ j.val) = insert ⟨k, hk⟩ (Finset.univ.filter fun j : Fin 64 => k + 1 ≤ j.val) from by
    ext j; simp only [Finset.mem_filter, Finset.mem_univ, true_and, Finset.mem_insert, Fin.ext_iff]; omega]
  exact SparseCore.bigSep_insert' (by simp)

theorem dones_step (k : ℕ) (hk : k < 65) :
    iprop(fin d L daV O1 k 0 ∗ fin d L dbV O2 k 0 ∗ fin d L daV O1 k 1 ∗ fin d L dbV O2 k 1 ∗ dones d L O1 O2 k) ⊢ dones d L O1 O2 (k + 1) := by
  unfold fin dones
  by_cases h : k = 0
  · rw [if_pos h, if_pos h, if_pos h, if_pos h]
    subst h
    iintro ⟨-, -, -, -, H⟩
    iapply (show _ ⊢ _ from ?_) $$ H
    rw [show (Finset.univ.filter fun j : Fin 64 => j.val + 1 < 0) = (Finset.univ.filter fun j : Fin 64 => j.val + 1 < 0 + 1) from by
      ext j; simp]
  · rw [if_neg h, if_neg h, if_neg h, if_neg h,
      show (Finset.univ.filter fun j : Fin 64 => j.val + 1 < k + 1) = insert ⟨k - 1, by omega⟩ (Finset.univ.filter fun j : Fin 64 => j.val + 1 < k) from by
        ext j; simp only [Finset.mem_filter, Finset.mem_univ, true_and, Finset.mem_insert, Fin.ext_iff]; omega,
      SparseCore.bigSep_insert' (by simp; omega)]
    iintro ⟨H1, H2, H3, H4, H⟩
    isplitr [H]
    · unfold done4
      isplitl [H1]; · iexact H1
      isplitl [H2]; · iexact H2
      isplitl [H3]; · iexact H3
      iexact H4
    · iexact H

/-- The state before trip `k`. -/
def IT (k : ℕ) (_ : PUnit) : sProp 𝕄 :=
  iprop(GA d L r1s0 m1S cc0_scratch9.sem qa la T1 l (2 * k) ∗ GA d L r2s0 m2S cc0_scratch11.sem qb lb T2 l (2 * k)
    ∗ GA d L r1s1 m1S cc0_scratch10.sem qc lc T1 l (2 * k + 1) ∗ GA d L r2s1 m2S cc0_scratch12.sem qd ld T2 l (2 * k + 1)
    ∗ SA d L p1V daV cc0_scratch13.sem O1 k 0 ∗ SA d L q1V dbV cc0_scratch15.sem O2 k 0
    ∗ SA d L p2V daV cc0_scratch14.sem O1 k 1 ∗ SA d L q2V dbV cc0_scratch16.sem O2 k 1
    ∗ dones d L O1 O2 k ∗ blanks d L k
    ∗ ((aV).view.loc (th d L) ↦{fullShare} A) ∗ ((bV).view.loc (th d L) ↦{fullShare} B) ∗ owing d L OW W)

/-- Before a trip: both pairs of gathers are in flight and the trip's four blocks are at hand. -/
theorem IT_open (k : ℕ) (hk : k < 64) : IT d L qa qb qc qd la lb lc ld T1 T2 l A B O1 O2 OW W k () ⊢
    iprop(pend d L r1s0 m1S cc0_scratch9.sem qa la T1 l ⟨2 * k, by omega⟩ ∗ pend d L r2s0 m2S cc0_scratch11.sem qb lb T2 l ⟨2 * k, by omega⟩
    ∗ pend d L r1s1 m1S cc0_scratch10.sem qc lc T1 l ⟨2 * k + 1, by omega⟩ ∗ pend d L r2s1 m2S cc0_scratch12.sem qd ld T2 l ⟨2 * k + 1, by omega⟩
    ∗ SA d L p1V daV cc0_scratch13.sem O1 k 0 ∗ SA d L q1V dbV cc0_scratch15.sem O2 k 0
    ∗ SA d L p2V daV cc0_scratch14.sem O1 k 1 ∗ SA d L q2V dbV cc0_scratch16.sem O2 k 1
    ∗ dones d L O1 O2 k ∗ (blank d L daV (gix L (2 * k + 0)) ∗ blank d L dbV (gix L (2 * k + 0)) ∗ blank d L daV (gix L (2 * k + 1)) ∗ blank d L dbV (gix L (2 * k + 1)))
    ∗ blanks d L (k + 1)
    ∗ ((aV).view.loc (th d L) ↦{fullShare} A) ∗ ((bV).view.loc (th d L) ↦{fullShare} B) ∗ (∃ W' : Waits sig (HIx 1), ⌜∀ p ∈ W', p ∈ W ∨ p.2 = none⌝ ∗ owes (th d L) OW W')) := by
  unfold IT GA owing
  rw [dif_pos (show 2 * k < 128 by omega), dif_pos (show 2 * k < 128 by omega), dif_pos (show 2 * k + 1 < 128 by omega), dif_pos (show 2 * k + 1 < 128 by omega), blanks_step d L k hk]
  unfold blank4
  iintro ⟨H1, H2, H3, H4, H5, H6, H7, H8, H9, ⟨H10, H11⟩, H12, H13, H14⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- After a trip. -/
theorem IT_close (k : ℕ) (hk : k < 64) :
    iprop(GA d L r1s0 m1S cc0_scratch9.sem qa la T1 l (2 * (k + 1)) ∗ GA d L r2s0 m2S cc0_scratch11.sem qb lb T2 l (2 * (k + 1))
    ∗ GA d L r1s1 m1S cc0_scratch10.sem qc lc T1 l (2 * (k + 1) + 1) ∗ GA d L r2s1 m2S cc0_scratch12.sem qd ld T2 l (2 * (k + 1) + 1)
    ∗ sent d L p1V daV cc0_scratch13.sem O1 (gix L (2 * k + 0)) ∗ sent d L q1V dbV cc0_scratch15.sem O2 (gix L (2 * k + 0))
    ∗ sent d L p2V daV cc0_scratch14.sem O1 (gix L (2 * k + 1)) ∗ sent d L q2V dbV cc0_scratch16.sem O2 (gix L (2 * k + 1))
    ∗ fin d L daV O1 k 0 ∗ fin d L dbV O2 k 0 ∗ fin d L daV O1 k 1 ∗ fin d L dbV O2 k 1 ∗ dones d L O1 O2 k ∗ blanks d L (k + 1)
    ∗ ((aV).view.loc (th d L) ↦{fullShare} A) ∗ ((bV).view.loc (th d L) ↦{fullShare} B) ∗ owing d L OW W)
      ⊢ IT d L qa qb qc qd la lb lc ld T1 T2 l A B O1 O2 OW W (k + 1) () := by
  unfold IT SA
  rw [if_neg (Nat.succ_ne_zero k), if_neg (Nat.succ_ne_zero k), if_neg (Nat.succ_ne_zero k), if_neg (Nat.succ_ne_zero k), Nat.add_sub_cancel]
  iintro ⟨H1, H2, H3, H4, H5, H6, H7, H8, Hf1, Hf2, Hf3, Hf4, Hdn, H9, H10, H11, H12⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hf1 Hf2 Hf3 Hf4 Hdn]
  · iapply (dones_step d L O1 O2 k (by omega)) $$ [Hf1 Hf2 Hf3 Hf4 Hdn]
    isplitl [Hf1]; · iexact Hf1
    isplitl [Hf2]; · iexact Hf2
    isplitl [Hf3]; · iexact Hf3
    isplitl [Hf4]; · iexact Hf4
    iexact Hdn
  isplitl [H9]; · iexact H9
  isplitl [H10]; · iexact H10
  isplitl [H11]; · iexact H11
  iexact H12

theorem da_credit (g : Fin 4096) : (dCh daV g).view.dmaCredit ≠ 0 := by
  rw [show (dCh daV g).view.dmaCredit = (dCh daV 0).view.dmaCredit from rfl]; decide

theorem db_credit (g : Fin 4096) : (dCh dbV g).view.dmaCredit ≠ 0 := by
  rw [show (dCh dbV g).view.dmaCredit = (dCh dbV 0).view.dmaCredit from rfl]; decide

/-- A whole buffer at some contents. -/
theorem some_open (p : Memref sig .scVector .vmem S2048 .f32) (hp : p.view.set = Finset.univ) :
    some2048 (F := F) d L p ⊢ iprop(∃ f : Buf (Elt F) (p.view.loc (th d L)), p.view.loc (th d L) ↦{fullShare} f) := by
  unfold some2048
  rw [hp]

theorem owing_step (OW : CellTallies nD τ sig (HIx 1)) (W W' : Waits sig (HIx 1)) (hW' : ∀ p ∈ W', p ∈ W ∨ p.2 = none) (s t : SemLoc sig) :
    (owes (th d L) OW (insert (t, (default : HIx 1)) (insert (s, (default : HIx 1)) W')) : sProp 𝕄) ⊢ owing d L OW W := by
  unfold owing
  iintro HO
  iexists _; isplitr
  swap; · iexact HO
  ipureintro
  intro x hx
  rcases Finset.mem_insert.mp hx with rfl | hx
  · exact Or.inr rfl
  rcases Finset.mem_insert.mp hx with rfl | hx
  · exact Or.inr rfl
  exact hW' x hx

/-- A slot at rest, after its wait. -/
theorem rest_intro (dst : Memref sig .scVector .vmem S128x128 .f32) (src : Memref sig .scVector .hbm S1000000x128 .f32) (sem : DmaSem sig) (qs ql : PosShare TreeShare)
    (T : Buf (Elt F) (src.view.loc (th d L))) (l : Buf (Elt F) ((lV).view.loc (th d L))) (f : Buf (Elt F) (dst.view.loc (th d L))) :
    iprop((dst.view.loc (th d L) ↦[dst.view.set]{fullShare} f) ∗ reads d L src qs ql T l ∗ semVal (th d L, SemLoc.dma sem) 0) ⊢ rest d L dst src sem qs ql T l := by
  unfold rest
  iintro ⟨H1, H2⟩
  isplitl [H1]
  · iexists _; iexact H1
  iexact H2

set_option pp.maxSteps 60 in
set_option maxHeartbeats 4000000 in
/-- One trip of the loop over pairs of chunks. -/
theorem outer_trip (v2 : BitVec 32) (k : Fin k0_t1_loop.trips) (hl : ∀ x, (l x : BitVec 32).toNat < 1000000)
    (hO1 : ∀ (n : ℕ) (hn : n < 128), blkOf ((daV).view.read (Elt F) O1) (gix L n).val = dotBlk (gat ((m1S).view.read (Elt F) T1) l n) (frow ((aV).view.read (Elt F) A) ⟨n / 4, by omega⟩))
    (hO2 : ∀ (n : ℕ) (hn : n < 128), blkOf ((dbV).view.read (Elt F) O2) (gix L n).val = dotBlk (gat ((m2S).view.read (Elt F) T2) l n) (frow ((bV).view.read (Elt F) B) ⟨n / 4, by omega⟩))
    (Q : PUnit → sProp 𝕄) :
    iprop(Transfers.MayWaits (th d L) (default : HIx 1) OW ∗ IT d L qa qb qc qd la lb lc ld T1 T2 l A B O1 O2 OW W k.val ()
        ∗ (IT d L qa qb qc qd la lb lc ld T1 T2 l A B O1 O2 OW W (k.val + 1) () -∗ Q ()))
      ⊢ wp frame (wpE (defs₀ (F := F)) 𝒱₀ (th d L) none) Set.univ (k0_t1_body L m1V (Memref.isWhole_whole _) m2V (Memref.isWhole_whole _) ixV (Memref.isWhole_whole _) ftV (Memref.isWhole_whole _) fsV (Memref.isWhole_whole _) daV (Memref.isWhole_whole _) dbV (Memref.isWhole_whole _) lV (Memref.isWhole_whole _) aV (Memref.isWhole_whole _) bV (Memref.isWhole_whole _) r1V (Memref.isWhole_whole _) r2V (Memref.isWhole_whole _) p1V (Memref.isWhole_whole _) p2V (Memref.isWhole_whole _) q1V (Memref.isWhole_whole _) q2V (Memref.isWhole_whole _) cc0_scratch9 cc0_scratch10 cc0_scratch11 cc0_scratch12 cc0_scratch13 cc0_scratch14 cc0_scratch15 cc0_scratch16 cc0_scoped0 cc0_scoped1 cc0_scoped2 v2 k ()) Q := by
  have hk : k.val < 64 := t1_lt k
  iintro ⟨#Hmw, HI, HQ⟩
  ihave HI := (IT_open d L qa qb qc qd la lb lc ld T1 T2 l A B O1 O2 OW W k.val hk) $$ HI
  icases HI with ⟨Hg1, Hg2, Hg3, Hg4, Hs1, Hs2, Hs3, Hs4, Hdn, ⟨Hb1, Hb2, Hb3, Hb4⟩, Hbl, HA, HB, %W', %hW', HO⟩
  unfold k0_t1_body
  rw [k0_part5_eq_skeleton, k0_part6_eq_skeleton, k0_part7_eq_skeleton, k0_part8_eq_skeleton]
  unfold k0_part5_skel k0_part6_skel k0_part7_skel k0_part8_skel
  rw [LawfulMonad.bind_assoc]
  iapply (gather_wait d L r1s0 m1S cc0_scratch9.sem qa la T1 l _ OW W') $$ [Hg1 HO]
  · isplitl [Hg1]; · iexact Hg1
    isplitl [HO]; · iexact HO
    iexact Hmw
  iintro ⟨Hr1, Hd1, Hv1, HO⟩
  rw [LawfulMonad.bind_assoc]
  iapply (gather_wait d L r2s0 m2S cc0_scratch11.sem qb lb T2 l _ OW _) $$ [Hg2 HO]
  · isplitl [Hg2]; · iexact Hg2
    isplitl [HO]; · iexact HO
    iexact Hmw
  iintro ⟨Hr2, Hd2, Hv2, HO⟩
  unfold landed
  icases Hr1 with ⟨%f1, %hf1, Hr1⟩
  icases Hr2 with ⟨%f2, %hf2, Hr2⟩
  ihave HO := (owing_step d L OW W W' hW' _ _) $$ HO
  sl_exec
  iapply (waits_cond d L p1V q1V daV dbV cc0_scratch13.sem cc0_scratch15.sem O1 O2 k.val 0 _ (cond1_iff k) _ (fun h => k0_off12_inb L k h) OW W) $$ [Hs1 Hs2 HO]
  · isplitl [Hs1]; · iexact Hs1
    isplitl [Hs2]; · iexact Hs2
    isplitl [HO]; · iexact HO
    iexact Hmw
  iintro ⟨Hp, Hv3, Hq, Hv4, Hf1, Hf2, HO⟩
  ihave Hp := (some_open d L p1V (View.set_whole _)) $$ Hp
  ihave Hq := (some_open d L q1V (View.set_whole _)) $$ Hq
  icases Hp with ⟨%gp, Hp⟩
  icases Hq with ⟨%gq, Hq⟩
  rw [LawfulMonad.bind_assoc]
  sl_for (inv2 d L f1 f2 (frow ((aV).view.read (Elt F) A) (⟨2 * k.val / 4, by omega⟩ : Fin 32)) (frow ((bV).view.read (Elt F) B) (⟨2 * k.val / 4, by omega⟩ : Fin 32))) $$ [Hr1 Hr2 Hp Hq]
  case region =>
    intro k2 _
    exact trip2 d L _ k _ _ _ _ _ _ _ _ _ _ _ _ _ _ _ _ k2 f1 f2 _ _ (ld_seg _ _ _ (⟨2 * k.val / 4, by omega⟩ : Fin 32) 0 (off4_eq k) _) (ld_seg _ _ _ (⟨2 * k.val / 4, by omega⟩ : Fin 32) 1 (off5_eq k) _) (ld_seg _ _ _ (⟨2 * k.val / 4, by omega⟩ : Fin 32) 2 (off6_eq k) _) (ld_seg _ _ _ (⟨2 * k.val / 4, by omega⟩ : Fin 32) 3 (off7_eq k) _) (ld_seg _ _ _ (⟨2 * k.val / 4, by omega⟩ : Fin 32) 4 (off8_eq k) _) (ld_seg _ _ _ (⟨2 * k.val / 4, by omega⟩ : Fin 32) 5 (off9_eq k) _) (ld_seg _ _ _ (⟨2 * k.val / 4, by omega⟩ : Fin 32) 6 (off10_eq k) _) (ld_seg _ _ _ (⟨2 * k.val / 4, by omega⟩ : Fin 32) 7 (off11_eq k) _)
      (ld_seg _ _ _ (⟨2 * k.val / 4, by omega⟩ : Fin 32) 0 (off4_eq k) _) (ld_seg _ _ _ (⟨2 * k.val / 4, by omega⟩ : Fin 32) 1 (off5_eq k) _) (ld_seg _ _ _ (⟨2 * k.val / 4, by omega⟩ : Fin 32) 2 (off6_eq k) _) (ld_seg _ _ _ (⟨2 * k.val / 4, by omega⟩ : Fin 32) 3 (off7_eq k) _) (ld_seg _ _ _ (⟨2 * k.val / 4, by omega⟩ : Fin 32) 4 (off8_eq k) _) (ld_seg _ _ _ (⟨2 * k.val / 4, by omega⟩ : Fin 32) 5 (off9_eq k) _) (ld_seg _ _ _ (⟨2 * k.val / 4, by omega⟩ : Fin 32) 6 (off10_eq k) _) (ld_seg _ _ _ (⟨2 * k.val / 4, by omega⟩ : Fin 32) 7 (off11_eq k) _)
  · unfold inv2
    isplitl [Hr1]; · iexact Hr1
    isplitl [Hr2]; · iexact Hr2
    isplitl [Hp]
    · iexists gp; isplitr
      · ipureintro; exact upto_zero _ _
      iexact Hp
    iexists gq; isplitr
    · ipureintro; exact upto_zero _ _
    iexact Hq
  iintro %acc HI
  unfold inv2
  icases HI with ⟨Hr1, Hr2, ⟨%g1, %hg1, Hp⟩, ⟨%g2, %hg2, Hq⟩⟩
  have hg1' := (upto_all hg1).trans (hf1 ▸ (hO1 (2 * k.val + 0) (by omega)).symm)
  have hg2' := (upto_all hg2).trans (hf2 ▸ (hO2 (2 * k.val + 0) (by omega)).symm)
  have hoff : k0_off22 L k = ![2048 * (gix L (2 * k.val + 0)).val] := by
    rw [k0_off22_eq, gix_val L _ (by omega)]
    unfold wid
    refine congrArg (fun n => ![n]) ?_
    show _ = 2048 * (128 * (2 * (L 1).val + (L 0).val) + (2 * k.val + 0))
    omega
  iapply (store_start d L p1V daV cc0_scratch13.sem O1 (gix L (2 * k.val + 0)) _ hoff _ g1 hg1' (da_credit _)) $$ [Hp Hb1 Hv3]
  · isplitl [Hp]
    · rw [View.set_whole]; iexact Hp
    isplitl [Hb1]; · iexact Hb1
    iexact Hv3
  iintro Hs1
  iapply (store_start d L q1V dbV cc0_scratch15.sem O2 (gix L (2 * k.val + 0)) _ hoff _ g2 hg2' (db_credit _)) $$ [Hq Hb2 Hv4]
  · isplitl [Hq]
    · rw [View.set_whole]; iexact Hq
    isplitl [Hb2]; · iexact Hb2
    iexact Hv4
  iintro Hs2
  have hoffg : k0_off23 k = ![128 * (2 * (k.val + 1))] := by
    rw [k0_off23_eq]
    refine congrArg (fun n => ![n]) ?_
    omega
  iapply (gathers_cond d L r1s0 r2s0 m1S m2S cc0_scratch9.sem cc0_scratch11.sem qa qb la lb T1 T2 l hl (2 * (k.val + 1)) _ (cond2_iff k) _ hoffg (fun h => k0_off23_inb k h)) $$ [Hr1 Hd1 Hv1 Hr2 Hd2 Hv2]
  · isplitl [Hr1 Hd1 Hv1]
    · iapply (rest_intro d L r1s0 m1S cc0_scratch9.sem qa la T1 l f1) $$ [Hr1 Hd1 Hv1]
      isplitl [Hr1]; · iexact Hr1
      isplitl [Hd1]; · iexact Hd1
      iexact Hv1
    · iapply (rest_intro d L r2s0 m2S cc0_scratch11.sem qb lb T2 l f2) $$ [Hr2 Hd2 Hv2]
      isplitl [Hr2]; · iexact Hr2
      isplitl [Hd2]; · iexact Hd2
      iexact Hv2
  iintro ⟨Hg1, Hg2⟩
  unfold owing
  icases HO with ⟨%W2, %hW2, HO⟩
  rw [LawfulMonad.bind_assoc]
  iapply (gather_wait d L r1s1 m1S cc0_scratch10.sem qc lc T1 l _ OW W2) $$ [Hg3 HO]
  · isplitl [Hg3]; · iexact Hg3
    isplitl [HO]; · iexact HO
    iexact Hmw
  iintro ⟨Hr1, Hd1, Hv1, HO⟩
  rw [LawfulMonad.bind_assoc]
  iapply (gather_wait d L r2s1 m2S cc0_scratch12.sem qd ld T2 l _ OW _) $$ [Hg4 HO]
  · isplitl [Hg4]; · iexact Hg4
    isplitl [HO]; · iexact HO
    iexact Hmw
  iintro ⟨Hr2, Hd2, Hv2, HO⟩
  unfold landed
  icases Hr1 with ⟨%f3, %hf3, Hr1⟩
  icases Hr2 with ⟨%f4, %hf4, Hr2⟩
  ihave HO := (owing_step d L OW W W2 hW2 _ _) $$ HO
  sl_exec
  iapply (waits_cond' d L p2V q2V daV dbV cc0_scratch14.sem cc0_scratch16.sem O1 O2 k.val 1 _ (cond3_iff k) _ (fun h => k0_off33_inb L k h) OW W) $$ [Hs3 Hs4 HO]
  · isplitl [Hs3]; · iexact Hs3
    isplitl [Hs4]; · iexact Hs4
    isplitl [HO]; · iexact HO
    iexact Hmw
  iintro ⟨Hp, Hv3, Hq, Hv4, Hf3, Hf4, HO⟩
  ihave Hp := (some_open d L p2V (View.set_whole _)) $$ Hp
  ihave Hq := (some_open d L q2V (View.set_whole _)) $$ Hq
  icases Hp with ⟨%gp, Hp⟩
  icases Hq with ⟨%gq, Hq⟩
  sl_for (inv3 d L f3 f4 (frow ((aV).view.read (Elt F) A) (⟨(2 * k.val + 1) / 4, by omega⟩ : Fin 32)) (frow ((bV).view.read (Elt F) B) (⟨(2 * k.val + 1) / 4, by omega⟩ : Fin 32))) $$ [Hr1 Hr2 Hp Hq]
  case region =>
    intro k2 _
    exact trip3 d L _ _ _ _ _ _ _ _ _ _ _ _ _ _ _ _ k2 f3 f4 _ _ (ld_seg _ _ _ (⟨(2 * k.val + 1) / 4, by omega⟩ : Fin 32) 0 (k0_off25_eq k) _) (ld_seg _ _ _ (⟨(2 * k.val + 1) / 4, by omega⟩ : Fin 32) 1 (k0_off26_eq k) _) (ld_seg _ _ _ (⟨(2 * k.val + 1) / 4, by omega⟩ : Fin 32) 2 (k0_off27_eq k) _) (ld_seg _ _ _ (⟨(2 * k.val + 1) / 4, by omega⟩ : Fin 32) 3 (k0_off28_eq k) _) (ld_seg _ _ _ (⟨(2 * k.val + 1) / 4, by omega⟩ : Fin 32) 4 (k0_off29_eq k) _) (ld_seg _ _ _ (⟨(2 * k.val + 1) / 4, by omega⟩ : Fin 32) 5 (k0_off30_eq k) _) (ld_seg _ _ _ (⟨(2 * k.val + 1) / 4, by omega⟩ : Fin 32) 6 (k0_off31_eq k) _) (ld_seg _ _ _ (⟨(2 * k.val + 1) / 4, by omega⟩ : Fin 32) 7 (k0_off32_eq k) _)
      (ld_seg _ _ _ (⟨(2 * k.val + 1) / 4, by omega⟩ : Fin 32) 0 (k0_off25_eq k) _) (ld_seg _ _ _ (⟨(2 * k.val + 1) / 4, by omega⟩ : Fin 32) 1 (k0_off26_eq k) _) (ld_seg _ _ _ (⟨(2 * k.val + 1) / 4, by omega⟩ : Fin 32) 2 (k0_off27_eq k) _) (ld_seg _ _ _ (⟨(2 * k.val + 1) / 4, by omega⟩ : Fin 32) 3 (k0_off28_eq k) _) (ld_seg _ _ _ (⟨(2 * k.val + 1) / 4, by omega⟩ : Fin 32) 4 (k0_off29_eq k) _) (ld_seg _ _ _ (⟨(2 * k.val + 1) / 4, by omega⟩ : Fin 32) 5 (k0_off30_eq k) _) (ld_seg _ _ _ (⟨(2 * k.val + 1) / 4, by omega⟩ : Fin 32) 6 (k0_off31_eq k) _) (ld_seg _ _ _ (⟨(2 * k.val + 1) / 4, by omega⟩ : Fin 32) 7 (k0_off32_eq k) _)
  · unfold inv3
    isplitl [Hr1]; · iexact Hr1
    isplitl [Hr2]; · iexact Hr2
    isplitl [Hp]
    · iexists gp; isplitr
      · ipureintro; exact upto_zero _ _
      iexact Hp
    iexists gq; isplitr
    · ipureintro; exact upto_zero _ _
    iexact Hq
  iintro %acc HI
  unfold inv3
  icases HI with ⟨Hr1, Hr2, ⟨%g1, %hg1, Hp⟩, ⟨%g2, %hg2, Hq⟩⟩
  have hg1' := (upto_all hg1).trans (hf3 ▸ (hO1 (2 * k.val + 1) (by omega)).symm)
  have hg2' := (upto_all hg2).trans (hf4 ▸ (hO2 (2 * k.val + 1) (by omega)).symm)
  have hoff : k0_off43 L k = ![2048 * (gix L (2 * k.val + 1)).val] := by
    rw [k0_off43_eq, gix_val L _ (by omega)]
    unfold wid
    refine congrArg (fun n => ![n]) ?_
    show _ = 2048 * (128 * (2 * (L 1).val + (L 0).val) + (2 * k.val + 1))
    omega
  iapply (store_start d L p2V daV cc0_scratch14.sem O1 (gix L (2 * k.val + 1)) _ hoff _ g1 hg1' (da_credit _)) $$ [Hp Hb3 Hv3]
  · isplitl [Hp]
    · rw [View.set_whole]; iexact Hp
    isplitl [Hb3]; · iexact Hb3
    iexact Hv3
  iintro Hs3
  iapply (store_start d L q2V dbV cc0_scratch16.sem O2 (gix L (2 * k.val + 1)) _ hoff _ g2 hg2' (db_credit _)) $$ [Hq Hb4 Hv4]
  · isplitl [Hq]
    · rw [View.set_whole]; iexact Hq
    isplitl [Hb4]; · iexact Hb4
    iexact Hv4
  iintro Hs4
  have hoffg : k0_off44 k = ![128 * (2 * (k.val + 1) + 1)] := by
    rw [k0_off44_eq]
    refine congrArg (fun n => ![n]) ?_
    omega
  iapply (gathers_cond' d L r1s1 r2s1 m1S m2S cc0_scratch10.sem cc0_scratch12.sem qc qd lc ld T1 T2 l hl (2 * (k.val + 1) + 1) _ (cond4_iff k) _ hoffg (fun h => k0_off44_inb k h)) $$ [Hr1 Hd1 Hv1 Hr2 Hd2 Hv2]
  · isplitl [Hr1 Hd1 Hv1]
    · iapply (rest_intro d L r1s1 m1S cc0_scratch10.sem qc lc T1 l f3) $$ [Hr1 Hd1 Hv1]
      isplitl [Hr1]; · iexact Hr1
      isplitl [Hd1]; · iexact Hd1
      iexact Hv1
    · iapply (rest_intro d L r2s1 m2S cc0_scratch12.sem qd ld T2 l f4) $$ [Hr2 Hd2 Hv2]
      isplitl [Hr2]; · iexact Hr2
      isplitl [Hd2]; · iexact Hd2
      iexact Hv2
  iintro ⟨Hg3, Hg4⟩
  sl_step
  iapply HQ
  iapply (IT_close d L qa qb qc qd la lb lc ld T1 T2 l A B O1 O2 OW W k.val hk) $$ [Hg1 Hg2 Hg3 Hg4 Hs1 Hs2 Hs3 Hs4 Hf1 Hf2 Hf3 Hf4 Hdn Hbl HA HB HO]
  isplitl [Hg1]; · iexact Hg1
  isplitl [Hg2]; · iexact Hg2
  isplitl [Hg3]; · iexact Hg3
  isplitl [Hg4]; · iexact Hg4
  isplitl [Hs1]; · iexact Hs1
  isplitl [Hs2]; · iexact Hs2
  isplitl [Hs3]; · iexact Hs3
  isplitl [Hs4]; · iexact Hs4
  isplitl [Hf1]; · iexact Hf1
  isplitl [Hf2]; · iexact Hf2
  isplitl [Hf3]; · iexact Hf3
  isplitl [Hf4]; · iexact Hf4
  isplitl [Hdn]; · iexact Hdn
  isplitl [Hbl]; · iexact Hbl
  isplitl [HA]; · iexact HA
  isplitl [HB]; · iexact HB
  iexact HO

end Trip

end Cert.Proof.KI

end
-- ==== Proof.KI.Tile.lean ====
/-
  The copies a tile makes first, and the words its loop leaves in the two result arrays.
-/
module

public import proofs.«01_k».proof.Proof.KI.Trip

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves
open Idealize.ShloMosaic.ValueIdx

variable {F : FTy → Type} [FloatOps F] [Named F]

local notation "𝕄" => MT nD τ sig (HIx 1) (Elt F) ℕ UU ℕ

local notation "m1V" => (Memref.whole Cert.KernelIdeal.main_arg4_scv : Memref Cert.KernelIdeal.sig Kind.scVector Space.hbm Cert.KernelIdeal.S1000000x128 EltTy.f32)
local notation "m2V" => (Memref.whole Cert.KernelIdeal.main_arg5_scv : Memref Cert.KernelIdeal.sig Kind.scVector Space.hbm Cert.KernelIdeal.S1000000x128 EltTy.f32)
local notation "ixV" => (Memref.whole Cert.KernelIdeal.main_v0_scv : Memref Cert.KernelIdeal.sig Kind.scVector Space.hbm Cert.KernelIdeal.S524288 EltTy.i32)
local notation "ftV" => (Memref.whole Cert.KernelIdeal.main_arg1_scv : Memref Cert.KernelIdeal.sig Kind.scVector Space.hbm Cert.KernelIdeal.S1024x128 EltTy.f32)
local notation "fsV" => (Memref.whole Cert.KernelIdeal.main_arg0_scv : Memref Cert.KernelIdeal.sig Kind.scVector Space.hbm Cert.KernelIdeal.S1024x128 EltTy.f32)
local notation "daV" => (Memref.whole Cert.KernelIdeal.main_v1_0_scv : Memref Cert.KernelIdeal.sig Kind.scVector Space.hbm Cert.KernelIdeal.S8388608 EltTy.f32)
local notation "dbV" => (Memref.whole Cert.KernelIdeal.main_v1_1_scv : Memref Cert.KernelIdeal.sig Kind.scVector Space.hbm Cert.KernelIdeal.S8388608 EltTy.f32)
local notation "lV" => (Memref.whole Cert.KernelIdeal.cc0_scratch0 : Memref Cert.KernelIdeal.sig Kind.scVector Space.vmem Cert.KernelIdeal.S16384 EltTy.i32)
local notation "aV" => (Memref.whole Cert.KernelIdeal.cc0_scratch1 : Memref Cert.KernelIdeal.sig Kind.scVector Space.vmem Cert.KernelIdeal.S32x128 EltTy.f32)
local notation "bV" => (Memref.whole Cert.KernelIdeal.cc0_scratch2 : Memref Cert.KernelIdeal.sig Kind.scVector Space.vmem Cert.KernelIdeal.S32x128 EltTy.f32)
local notation "r1V" => (Memref.whole Cert.KernelIdeal.cc0_scratch3 : Memref Cert.KernelIdeal.sig Kind.scVector Space.vmem Cert.KernelIdeal.S2x128x128 EltTy.f32)
local notation "r2V" => (Memref.whole Cert.KernelIdeal.cc0_scratch4 : Memref Cert.KernelIdeal.sig Kind.scVector Space.vmem Cert.KernelIdeal.S2x128x128 EltTy.f32)
local notation "p1V" => (Memref.whole Cert.KernelIdeal.cc0_scratch5 : Memref Cert.KernelIdeal.sig Kind.scVector Space.vmem Cert.KernelIdeal.S2048 EltTy.f32)
local notation "p2V" => (Memref.whole Cert.KernelIdeal.cc0_scratch6 : Memref Cert.KernelIdeal.sig Kind.scVector Space.vmem Cert.KernelIdeal.S2048 EltTy.f32)
local notation "q1V" => (Memref.whole Cert.KernelIdeal.cc0_scratch7 : Memref Cert.KernelIdeal.sig Kind.scVector Space.vmem Cert.KernelIdeal.S2048 EltTy.f32)
local notation "q2V" => (Memref.whole Cert.KernelIdeal.cc0_scratch8 : Memref Cert.KernelIdeal.sig Kind.scVector Space.vmem Cert.KernelIdeal.S2048 EltTy.f32)

local notation "m1S" => (Memref.slice m1V (Rect.unit (s := S1000000x128) ![0, 0] S1000000x128.size inb_S1000000x128_S1000000x128_0_0) (fun _ => rfl) : Memref Cert.KernelIdeal.sig Kind.scVector Space.hbm Cert.KernelIdeal.S1000000x128 EltTy.f32)
local notation "m2S" => (Memref.slice m2V (Rect.unit (s := S1000000x128) ![0, 0] S1000000x128.size inb_S1000000x128_S1000000x128_0_0) (fun _ => rfl) : Memref Cert.KernelIdeal.sig Kind.scVector Space.hbm Cert.KernelIdeal.S1000000x128 EltTy.f32)

variable (d : Dev nD) (L : grid0.Coords)

/-! ## Copies into a tile's memory -/

/-- Starting a copy of a slice into a tile's buffer. -/
theorem fetch_start {s : Shape} {e : EltTy} (src : Memref sig .scVector .hbm s e) (dst : Memref sig .scVector .vmem s e) (sem : DmaSem sig) (q : PosShare TreeShare)
    (f : Buf (Elt F) (src.view.loc (th d L))) (g : Buf (Elt F) (dst.view.loc (th d L))) (hN : dst.view.dmaCredit ≠ 0)
    {hsrc : src.view.WordExact} {hdst : dst.view.WordExact} {hsem : DmaTarget.Typed (nD := nD) (p := (th d L).2) .hbm (.dma sem) (.here dst)}
    {α : Type} {Q : α → sProp 𝕄} {k : PUnit → Prog (TpuEff nD τ sig (Elt F) Λ₀ (th d L).2) α} :
    iprop((src.view.loc (th d L) ↦[src.view.set]{q} f) ∗ (dst.view.loc (th d L) ↦[dst.view.set]{fullShare} g) ∗ semVal (th d L, SemLoc.dma sem) 0)
      ⊢ iprop((Transfers.Flight countersEmb (th d L) (.dma sem) (default : HIx 1) dst.view.dmaCredit
            (iprop((dst.view.loc (th d L) ↦[dst.view.set]{fullShare} dst.view.write (Elt F) g (src.view.read (Elt F) f) Finset.univ)
              ∗ (src.view.loc (th d L) ↦[src.view.set]{q} f))) -∗ wp frame (wpE (defs₀ (F := F)) 𝒱₀ (th d L) none) Set.univ (k ⟨⟩) Q)
          -∗ wp frame (wpE (defs₀ (F := F)) 𝒱₀ (th d L) none) Set.univ (Prog.lift (.enqueueDma src (.here dst) (.dma sem) hsrc hdst hsem) >>= k) Q) := by
  iintro ⟨Hs, Hd, Hv⟩ Hk
  iapply (Transfers.wp_dmaLocal countersEmb 𝒱₀ (th d L) none (default : HIx 1) dst.view.dmaCredit rfl (Nat.pos_of_ne_zero hN)
    (Finset.Subset.refl dst.view.set)) $$ [Hs Hd Hv]
  · isplitl [Hs]; · iexact Hs
    isplitl [Hd]; · iexact Hd
    iexact Hv
  iintro Hfl
  iapply Hk
  iexact Hfl

/-- Waiting for it. -/
theorem fetch_wait {s : Shape} {e : EltTy} (src : Memref sig .scVector .hbm s e) (dst : Memref sig .scVector .vmem s e) (sem : DmaSem sig) (R : sProp 𝕄)
    (OW : CellTallies nD τ sig (HIx 1)) (W : Waits sig (HIx 1)) {hsrc : src.view.WordExact} {hdst : dst.view.WordExact}
    {α : Type} {Q : α → sProp 𝕄} {k : PUnit → Prog (TpuEff nD τ sig (Elt F) Λ₀ (th d L).2) α} :
    iprop(Transfers.Flight countersEmb (th d L) (.dma sem) (default : HIx 1) dst.view.dmaCredit R ∗ owes (th d L) OW W ∗ Transfers.MayWaits (th d L) (default : HIx 1) OW)
      ⊢ iprop((iprop(R ∗ semVal (th d L, SemLoc.dma sem) 0 ∗ owes (th d L) OW (insert (SemLoc.dma sem, default) W))
            -∗ wp frame (wpE (defs₀ (F := F)) 𝒱₀ (th d L) none) Set.univ (k ⟨⟩) Q)
          -∗ wp frame (wpE (defs₀ (F := F)) 𝒱₀ (th d L) none) Set.univ (Prog.lift (.waitDma2 sem src dst hsrc hdst) >>= k) Q) := by
  iintro ⟨Hfl, HO, Hmw⟩ Hk
  iapply (Transfers.wp_waitLocalO countersEmb 𝒱₀ (th d L) none (default : HIx 1) (rfl : dst.view.dmaCredit = dst.view.dmaCredit)) $$ [Hfl HO Hmw]
  · isplitl [Hfl]; · iexact Hfl
    isplitl [HO]; · iexact HO
    iapply (Transfers.MayWaits.elim (SemLoc.dma sem)) $$ Hmw
  iintro ⟨HR, Hv, HO⟩
  iapply Hk
  isplitl [HR]; · iexact HR
  isplitl [Hv]; · iexact Hv
  iexact HO

theorem owing_one (OW : CellTallies nD τ sig (HIx 1)) (W W' : Waits sig (HIx 1)) (hW' : ∀ p ∈ W', p ∈ W ∨ p.2 = none) (s : SemLoc sig) :
    ∀ p ∈ insert (s, (default : HIx 1)) W', p ∈ W ∨ p.2 = none := by
  intro x hx
  rcases Finset.mem_insert.mp hx with rfl | hx
  · exact Or.inr rfl
  exact hW' x hx

/-! ## The slices a tile reads -/

/-- The tile's words of the list of row numbers, -/
abbrev ixS (L : grid0.Coords) : Memref sig .scVector .hbm S16384 .i32 := (ixV).slice (Rect.unit (s := S524288) (k0_off1 L) S16384.size (k0_off1_inb L)) (fun _ => rfl)
/-- and its rows of the two feature arrays. -/
abbrev ftS (L : grid0.Coords) : Memref sig .scVector .hbm S32x128 .f32 := (ftV).slice (Rect.unit (s := S1024x128) (k0_off2 L) S32x128.size (k0_off2_inb L)) (fun _ => rfl)
abbrev fsS (L : grid0.Coords) : Memref sig .scVector .hbm S32x128 .f32 := (fsV).slice (Rect.unit (s := S1024x128) (k0_off2 L) S32x128.size (k0_off2_inb L)) (fun _ => rfl)

theorem ixS_read (f : S524288.Idx → BitVec 32) (x : S16384.Idx) :
    (ixS L).view.read (Elt F) f x = f (ix1 ⟨(16384 * (wid L).val + (x 0).val) % 524288, Nat.mod_lt _ (by omega)⟩) := by
  have hx : (x 0).val < 16384 := (x 0).isLt
  have hw := (wid L).isLt
  show f ((Rect.unit (s := S524288) (k0_off1 L) S16384.size (k0_off1_inb L)).emb x) = _
  refine congrArg f (Shape.idx1_ext ?_)
  have e : k0_off1 L 0 = 16384 * (wid L).val := by rw [k0_off1_eq]; show 32768 * (L 1).val + 16384 * (L 0).val = 16384 * (2 * (L 1).val + (L 0).val); omega
  show k0_off1 L 0 + 1 * (x 0).val = (16384 * (wid L).val + (x 0).val) % 524288
  omega

theorem rows_emb (x : S32x128.Idx) :
    (Rect.unit (s := S1024x128) (k0_off2 L) S32x128.size (k0_off2_inb L)).emb x
      = ix2 (⟨(32 * (wid L).val + (x 0).val) % 1024, Nat.mod_lt _ (by omega)⟩ : Fin 1024) (x 1) := by
  have hx : (x 0).val < 32 := (x 0).isLt
  have hw := (wid L).isLt
  have e : k0_off2 L 0 = 32 * (wid L).val := by rw [k0_off2_eq]; show 64 * (L 1).val + 32 * (L 0).val = 32 * (2 * (L 1).val + (L 0).val); omega
  have e1 : k0_off2 L 1 = 0 := by rw [k0_off2_eq]; rfl
  funext a
  match a with
  | ⟨0, _⟩ => exact Fin.ext (show k0_off2 L 0 + 1 * (x 0).val = (32 * (wid L).val + (x 0).val) % 1024 by omega)
  | ⟨1, _⟩ => exact Fin.ext (show k0_off2 L 1 + 1 * (x 1).val = (x 1).val by omega)

theorem ftS_read (f : S1024x128.Idx → F .f32) (x : S32x128.Idx) :
    (ftS L).view.read (Elt F) f x = f (ix2 (⟨(32 * (wid L).val + (x 0).val) % 1024, Nat.mod_lt _ (by omega)⟩ : Fin 1024) (x 1)) := by
  show f ((Rect.unit (s := S1024x128) (k0_off2 L) S32x128.size (k0_off2_inb L)).emb x) = _
  exact congrArg f (rows_emb L x)

theorem fsS_read (f : S1024x128.Idx → F .f32) (x : S32x128.Idx) :
    (fsS L).view.read (Elt F) f x = f (ix2 (⟨(32 * (wid L).val + (x 0).val) % 1024, Nat.mod_lt _ (by omega)⟩ : Fin 1024) (x 1)) := by
  show f ((Rect.unit (s := S1024x128) (k0_off2 L) S32x128.size (k0_off2_inb L)).emb x) = _
  exact congrArg f (rows_emb L x)

/-! ## What the tiles leave in a result array -/

/-- Word `16·g + l` of a result array: lane `l` of the partial products of the table row that word `g` of the list names
    with feature row `g / 512`. -/
def OUT (T : S1000000x128.Idx → F .f32) (X : S524288.Idx → BitVec 32) (A : S1024x128.Idx → F .f32) : S8388608.Idx → F .f32 := fun x =>
  dot8 (fun a => T (ix2 (rowOf (X (ix1 (⟨(x 0).val / 16 % 524288, Nat.mod_lt _ (by omega)⟩ : Fin 524288)))) a))
    (fun a => A (ix2 (⟨(x 0).val / 8192 % 1024, Nat.mod_lt _ (by omega)⟩ : Fin 1024) a)) ⟨(x 0).val % 16, Nat.mod_lt _ (by omega)⟩

theorem OUT_blk (T : S1000000x128.Idx → F .f32) (X : S524288.Idx → BitVec 32) (A : S1024x128.Idx → F .f32) (l : S16384.Idx → BitVec 32) (B : S32x128.Idx → F .f32)
    (hl : ∀ x, l x = X (ix1 ⟨(16384 * (wid L).val + (x 0).val) % 524288, Nat.mod_lt _ (by omega)⟩))
    (hB : ∀ x, B x = A (ix2 (⟨(32 * (wid L).val + (x 0).val) % 1024, Nat.mod_lt _ (by omega)⟩ : Fin 1024) (x 1))) (n : ℕ) (hn : n < 128) :
    blkOf (OUT T X A) (gix L n).val = dotBlk (gat T l n) (frow B ⟨n / 4, by omega⟩) := by
  funext x
  have hx : (x 0).val < 2048 := (x 0).isLt
  have hw := (wid L).isLt
  unfold blkOf dotBlk OUT gat frow lWord
  rw [gix_val L n hn]
  have e1 : ∀ (p : ℕ) (hp : p < 524288) (hp' : p < 8388608), True := fun _ _ _ => trivial
  simp only [hl, hB, ix1, ix2]
  congr 1
  · funext a
    refine congrArg T ?_
    congr 1
    refine congrArg (fun z => rowOf (X z)) (Shape.idx1_ext ?_)
    show (2048 * (128 * (wid L).val + n) + (x 0).val) % 8388608 / 16 % 524288 = (16384 * (wid L).val + (128 * n + (x 0).val / 16) % 16384) % 524288
    omega
  · funext a
    refine congrArg A ?_
    congr 1
    refine Fin.ext ?_
    show (2048 * (128 * (wid L).val + n) + (x 0).val) % 8388608 / 8192 % 1024 = (32 * (wid L).val + n / 4) % 1024
    omega
  · refine Fin.ext ?_
    show (2048 * (128 * (wid L).val + n) + (x 0).val) % 8388608 % 16 = (x 0).val % 16
    omega

end Cert.Proof.KI

end
-- ==== Proof.KI.Run.lean ====
/-
  A tile's whole task.
-/
module

public import proofs.«01_k».proof.Proof.KI.Tile
public import Idealize.ShloMosaic.Lib.VecWindow

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves
open Idealize.ShloMosaic.ValueIdx

variable {F : FTy → Type} [FloatOps F] [Named F]

local notation "𝕄" => MT nD τ sig (HIx 1) (Elt F) ℕ UU ℕ

local notation "m1V" => (Memref.whole Cert.KernelIdeal.main_arg4_scv : Memref Cert.KernelIdeal.sig Kind.scVector Space.hbm Cert.KernelIdeal.S1000000x128 EltTy.f32)
local notation "m2V" => (Memref.whole Cert.KernelIdeal.main_arg5_scv : Memref Cert.KernelIdeal.sig Kind.scVector Space.hbm Cert.KernelIdeal.S1000000x128 EltTy.f32)
local notation "ixV" => (Memref.whole Cert.KernelIdeal.main_v0_scv : Memref Cert.KernelIdeal.sig Kind.scVector Space.hbm Cert.KernelIdeal.S524288 EltTy.i32)
local notation "ftV" => (Memref.whole Cert.KernelIdeal.main_arg1_scv : Memref Cert.KernelIdeal.sig Kind.scVector Space.hbm Cert.KernelIdeal.S1024x128 EltTy.f32)
local notation "fsV" => (Memref.whole Cert.KernelIdeal.main_arg0_scv : Memref Cert.KernelIdeal.sig Kind.scVector Space.hbm Cert.KernelIdeal.S1024x128 EltTy.f32)
local notation "daV" => (Memref.whole Cert.KernelIdeal.main_v1_0_scv : Memref Cert.KernelIdeal.sig Kind.scVector Space.hbm Cert.KernelIdeal.S8388608 EltTy.f32)
local notation "dbV" => (Memref.whole Cert.KernelIdeal.main_v1_1_scv : Memref Cert.KernelIdeal.sig Kind.scVector Space.hbm Cert.KernelIdeal.S8388608 EltTy.f32)
local notation "lV" => (Memref.whole Cert.KernelIdeal.cc0_scratch0 : Memref Cert.KernelIdeal.sig Kind.scVector Space.vmem Cert.KernelIdeal.S16384 EltTy.i32)
local notation "aV" => (Memref.whole Cert.KernelIdeal.cc0_scratch1 : Memref Cert.KernelIdeal.sig Kind.scVector Space.vmem Cert.KernelIdeal.S32x128 EltTy.f32)
local notation "bV" => (Memref.whole Cert.KernelIdeal.cc0_scratch2 : Memref Cert.KernelIdeal.sig Kind.scVector Space.vmem Cert.KernelIdeal.S32x128 EltTy.f32)
local notation "r1V" => (Memref.whole Cert.KernelIdeal.cc0_scratch3 : Memref Cert.KernelIdeal.sig Kind.scVector Space.vmem Cert.KernelIdeal.S2x128x128 EltTy.f32)
local notation "r2V" => (Memref.whole Cert.KernelIdeal.cc0_scratch4 : Memref Cert.KernelIdeal.sig Kind.scVector Space.vmem Cert.KernelIdeal.S2x128x128 EltTy.f32)
local notation "p1V" => (Memref.whole Cert.KernelIdeal.cc0_scratch5 : Memref Cert.KernelIdeal.sig Kind.scVector Space.vmem Cert.KernelIdeal.S2048 EltTy.f32)
local notation "p2V" => (Memref.whole Cert.KernelIdeal.cc0_scratch6 : Memref Cert.KernelIdeal.sig Kind.scVector Space.vmem Cert.KernelIdeal.S2048 EltTy.f32)
local notation "q1V" => (Memref.whole Cert.KernelIdeal.cc0_scratch7 : Memref Cert.KernelIdeal.sig Kind.scVector Space.vmem Cert.KernelIdeal.S2048 EltTy.f32)
local notation "q2V" => (Memref.whole Cert.KernelIdeal.cc0_scratch8 : Memref Cert.KernelIdeal.sig Kind.scVector Space.vmem Cert.KernelIdeal.S2048 EltTy.f32)

local notation "m1S" => (Memref.slice m1V (Rect.unit (s := S1000000x128) ![0, 0] S1000000x128.size inb_S1000000x128_S1000000x128_0_0) (fun _ => rfl) : Memref Cert.KernelIdeal.sig Kind.scVector Space.hbm Cert.KernelIdeal.S1000000x128 EltTy.f32)
local notation "m2S" => (Memref.slice m2V (Rect.unit (s := S1000000x128) ![0, 0] S1000000x128.size inb_S1000000x128_S1000000x128_0_0) (fun _ => rfl) : Memref Cert.KernelIdeal.sig Kind.scVector Space.hbm Cert.KernelIdeal.S1000000x128 EltTy.f32)

variable (d : Dev nD) (L : grid0.Coords)

/-! ## The two slots of a buffer of rows -/

theorem r1s0_set : (r1s0).view.set = (Rect.unit (s := S2x128x128) ![0, 0, 0] S1x128x128.size inb_S2x128x128_S1x128x128_0_0_0).set := by
  exact (View.set_reshape _ squeezes_S1x128x128_S128x128.numel_eq).trans (View.set_slice_whole _ _)
theorem r1s1_set : (r1s1).view.set = (Rect.unit (s := S2x128x128) ![1, 0, 0] S1x128x128.size inb_S2x128x128_S1x128x128_1_0_0).set := by
  exact (View.set_reshape _ squeezes_S1x128x128_S128x128.numel_eq).trans (View.set_slice_whole _ _)
theorem r2s0_set : (r2s0).view.set = (Rect.unit (s := S2x128x128) ![0, 0, 0] S1x128x128.size inb_S2x128x128_S1x128x128_0_0_0).set := by
  exact (View.set_reshape _ squeezes_S1x128x128_S128x128.numel_eq).trans (View.set_slice_whole _ _)
theorem r2s1_set : (r2s1).view.set = (Rect.unit (s := S2x128x128) ![1, 0, 0] S1x128x128.size inb_S2x128x128_S1x128x128_1_0_0).set := by
  exact (View.set_reshape _ squeezes_S1x128x128_S128x128.numel_eq).trans (View.set_slice_whole _ _)

theorem slots_disjoint : Disjoint (Rect.unit (s := S2x128x128) ![0, 0, 0] S1x128x128.size inb_S2x128x128_S1x128x128_0_0_0).set
    (Rect.unit (s := S2x128x128) ![1, 0, 0] S1x128x128.size inb_S2x128x128_S1x128x128_1_0_0).set :=
  Rect.unit_disjoint 0 (Or.inl (by decide))

theorem slots_cover : (Rect.unit (s := S2x128x128) ![0, 0, 0] S1x128x128.size inb_S2x128x128_S1x128x128_0_0_0).set
    ∪ (Rect.unit (s := S2x128x128) ![1, 0, 0] S1x128x128.size inb_S2x128x128_S1x128x128_1_0_0).set = Finset.univ := by
  ext i
  have h0 : (i 0).val < 2 := (i 0).isLt
  have h1 : (i 1).val < 128 := (i 1).isLt
  have h2 : (i 2).val < 128 := (i 2).isLt
  simp only [Finset.mem_union, Rect.mem_set_unit, Finset.mem_univ, iff_true]
  by_cases h : (i 0).val = 0
  · refine Or.inl fun a => ?_
    match a with
    | ⟨0, _⟩ => exact ⟨Nat.zero_le _, (show (i 0).val < 0 + 1 by omega)⟩
    | ⟨1, _⟩ => exact ⟨Nat.zero_le _, (show (i 1).val < 0 + 128 by omega)⟩
    | ⟨2, _⟩ => exact ⟨Nat.zero_le _, (show (i 2).val < 0 + 128 by omega)⟩
  · refine Or.inr fun a => ?_
    match a with
    | ⟨0, _⟩ => exact ⟨(show 1 ≤ (i 0).val by omega), (show (i 0).val < 1 + 1 by omega)⟩
    | ⟨1, _⟩ => exact ⟨Nat.zero_le _, (show (i 1).val < 0 + 128 by omega)⟩
    | ⟨2, _⟩ => exact ⟨Nat.zero_le _, (show (i 2).val < 0 + 128 by omega)⟩

/-- A buffer of rows at some contents is its two slots at some contents, and back. -/
theorem r1_slots : (iprop(∃ f : Buf (Elt F) ((r1V).view.loc (th d L)), (r1V).view.loc (th d L) ↦{fullShare} f) : sProp 𝕄)
    ⊢ iprop((∃ f : Buf (Elt F) ((r1s0).view.loc (th d L)), (r1s0).view.loc (th d L) ↦[(r1s0).view.set]{fullShare} f)
      ∗ (∃ f : Buf (Elt F) ((r1s1).view.loc (th d L)), (r1s1).view.loc (th d L) ↦[(r1s1).view.set]{fullShare} f)) := by
  rw [r1s0_set, r1s1_set]
  iintro ⟨%f, H⟩
  ihave H := ((Entails.of_eq (by rw [slots_cover])).trans (pointsTo_union (ℓ := (r1V).view.loc (th d L)) (q := fullShare) (f := f) slots_disjoint).1) $$ H
  icases H with ⟨H0, H1⟩
  isplitl [H0]
  · iexists f; iexact H0
  · iexists f; iexact H1
theorem r1_slots' : (iprop((∃ f : Buf (Elt F) ((r1s0).view.loc (th d L)), (r1s0).view.loc (th d L) ↦[(r1s0).view.set]{fullShare} f)
      ∗ (∃ f : Buf (Elt F) ((r1s1).view.loc (th d L)), (r1s1).view.loc (th d L) ↦[(r1s1).view.set]{fullShare} f)) : sProp 𝕄)
    ⊢ iprop(∃ f : Buf (Elt F) ((r1V).view.loc (th d L)), (r1V).view.loc (th d L) ↦{fullShare} f) := by
  rw [r1s0_set, r1s1_set]
  iintro ⟨⟨%f, H0⟩, %g, H1⟩
  ihave H := (pointsTo_join (ℓ := (r1V).view.loc (th d L)) (q := fullShare) (f := f) (g := g) slots_disjoint) $$ [H0 H1]
  · isplitl [H0]; · iexact H0
    iexact H1
  rw [slots_cover]
  iexists _; iexact H
theorem r2_slots : (iprop(∃ f : Buf (Elt F) ((r2V).view.loc (th d L)), (r2V).view.loc (th d L) ↦{fullShare} f) : sProp 𝕄)
    ⊢ iprop((∃ f : Buf (Elt F) ((r2s0).view.loc (th d L)), (r2s0).view.loc (th d L) ↦[(r2s0).view.set]{fullShare} f)
      ∗ (∃ f : Buf (Elt F) ((r2s1).view.loc (th d L)), (r2s1).view.loc (th d L) ↦[(r2s1).view.set]{fullShare} f)) := by
  rw [r2s0_set, r2s1_set]
  iintro ⟨%f, H⟩
  ihave H := ((Entails.of_eq (by rw [slots_cover])).trans (pointsTo_union (ℓ := (r2V).view.loc (th d L)) (q := fullShare) (f := f) slots_disjoint).1) $$ H
  icases H with ⟨H0, H1⟩
  isplitl [H0]
  · iexists f; iexact H0
  · iexists f; iexact H1
theorem r2_slots' : (iprop((∃ f : Buf (Elt F) ((r2s0).view.loc (th d L)), (r2s0).view.loc (th d L) ↦[(r2s0).view.set]{fullShare} f)
      ∗ (∃ f : Buf (Elt F) ((r2s1).view.loc (th d L)), (r2s1).view.loc (th d L) ↦[(r2s1).view.set]{fullShare} f)) : sProp 𝕄)
    ⊢ iprop(∃ f : Buf (Elt F) ((r2V).view.loc (th d L)), (r2V).view.loc (th d L) ↦{fullShare} f) := by
  rw [r2s0_set, r2s1_set]
  iintro ⟨⟨%f, H0⟩, %g, H1⟩
  ihave H := (pointsTo_join (ℓ := (r2V).view.loc (th d L)) (q := fullShare) (f := f) (g := g) slots_disjoint) $$ [H0 H1]
  · isplitl [H0]; · iexact H0
    iexact H1
  rw [slots_cover]
  iexists _; iexact H

theorem m1S_set : (m1S).view.set = Finset.univ := by
  refine (View.set_slice_whole _ _).trans ?_
  ext i
  simp only [Rect.mem_set_unit, Finset.mem_univ, iff_true]
  intro a
  match a with
  | ⟨0, _⟩ => exact ⟨Nat.zero_le _, (show (i 0).val < 0 + 1000000 by have : (i 0).val < 1000000 := (i 0).isLt; omega)⟩
  | ⟨1, _⟩ => exact ⟨Nat.zero_le _, (show (i 1).val < 0 + 128 by have : (i 1).val < 128 := (i 1).isLt; omega)⟩
theorem m2S_set : (m2S).view.set = Finset.univ := m1S_set
theorem m1S_read (T : S1000000x128.Idx → F .f32) : (m1S).view.read (Elt F) T = T := by
  funext x
  exact congrArg T (Rect.emb_unit_full inb_S1000000x128_S1000000x128_0_0 x)
theorem m2S_read (T : S1000000x128.Idx → F .f32) : (m2S).view.read (Elt F) T = T := by
  funext x
  exact congrArg T (Rect.emb_unit_full inb_S1000000x128_S1000000x128_0_0 x)

/-- A share of a buffer is its two halves. -/
theorem halves {ℓ : Loc nD τ sig} (I : Finset (Idx ℓ)) (q : PosShare TreeShare) (f : Buf (Elt F) ℓ) :
    (ℓ ↦[I]{q} f : sProp 𝕄) = iprop((ℓ ↦[I]{q.left} f) ∗ ℓ ↦[I]{q.right} f) :=
  BI.Entails.antisymm (pointsTo_share (PosShare.mem_left_op_right q)).1 (pointsTo_share (PosShare.mem_left_op_right q)).2

/-! ## The task -/

variable (q : PosShare TreeShare) (X : Buf (Elt F) ((ixV).view.loc (th d L))) (M1 : Buf (Elt F) ((m1V).view.loc (th d L))) (M2 : Buf (Elt F) ((m2V).view.loc (th d L)))
  (FT : Buf (Elt F) ((ftV).view.loc (th d L))) (FS : Buf (Elt F) ((fsV).view.loc (th d L)))

/-- The tile's share of the five arrays it reads. -/
def hbm : sProp 𝕄 :=
  iprop(((ixV).view.loc (th d L) ↦{q} X) ∗ ((ftV).view.loc (th d L) ↦{q} FT) ∗ ((fsV).view.loc (th d L) ↦{q} FS)
    ∗ ((m1V).view.loc (th d L) ↦{q} M1) ∗ ((m2V).view.loc (th d L) ↦{q} M2))

/-- The tile's own buffers, at some contents. -/
def bufs : sProp 𝕄 :=
  iprop((∃ f : Buf (Elt F) ((lV).view.loc (th d L)), (lV).view.loc (th d L) ↦{fullShare} f)
    ∗ (∃ f : Buf (Elt F) ((aV).view.loc (th d L)), (aV).view.loc (th d L) ↦{fullShare} f)
    ∗ (∃ f : Buf (Elt F) ((bV).view.loc (th d L)), (bV).view.loc (th d L) ↦{fullShare} f)
    ∗ (∃ f : Buf (Elt F) ((r1V).view.loc (th d L)), (r1V).view.loc (th d L) ↦{fullShare} f)
    ∗ (∃ f : Buf (Elt F) ((r2V).view.loc (th d L)), (r2V).view.loc (th d L) ↦{fullShare} f)
    ∗ (∃ f : Buf (Elt F) ((p1V).view.loc (th d L)), (p1V).view.loc (th d L) ↦{fullShare} f)
    ∗ (∃ f : Buf (Elt F) ((p2V).view.loc (th d L)), (p2V).view.loc (th d L) ↦{fullShare} f)
    ∗ (∃ f : Buf (Elt F) ((q1V).view.loc (th d L)), (q1V).view.loc (th d L) ↦{fullShare} f)
    ∗ (∃ f : Buf (Elt F) ((q2V).view.loc (th d L)), (q2V).view.loc (th d L) ↦{fullShare} f))

/-- The tile's semaphores, at zero. -/
def sems : sProp 𝕄 :=
  iprop(semVal (th d L, SemLoc.dma cc0_scoped0.sem) 0 ∗ semVal (th d L, SemLoc.dma cc0_scoped1.sem) 0 ∗ semVal (th d L, SemLoc.dma cc0_scoped2.sem) 0
    ∗ semVal (th d L, SemLoc.dma cc0_scratch9.sem) 0 ∗ semVal (th d L, SemLoc.dma cc0_scratch10.sem) 0
    ∗ semVal (th d L, SemLoc.dma cc0_scratch11.sem) 0 ∗ semVal (th d L, SemLoc.dma cc0_scratch12.sem) 0
    ∗ semVal (th d L, SemLoc.dma cc0_scratch13.sem) 0 ∗ semVal (th d L, SemLoc.dma cc0_scratch14.sem) 0
    ∗ semVal (th d L, SemLoc.dma cc0_scratch15.sem) 0 ∗ semVal (th d L, SemLoc.dma cc0_scratch16.sem) 0)

theorem some_close (p : Memref sig .scVector .vmem S2048 .f32) (hp : p.view.set = Finset.univ) :
    iprop(∃ f : Buf (Elt F) (p.view.loc (th d L)), p.view.loc (th d L) ↦{fullShare} f) ⊢ some2048 (F := F) d L p := by
  unfold some2048
  rw [hp]

/-- The loop's state before its first trip. -/
theorem IT_zero (qa qb qc qd la lb lc ld : PosShare TreeShare) (T1 : Buf (Elt F) ((m1S).view.loc (th d L))) (T2 : Buf (Elt F) ((m2S).view.loc (th d L)))
    (l : Buf (Elt F) ((lV).view.loc (th d L))) (A : Buf (Elt F) ((aV).view.loc (th d L))) (B : Buf (Elt F) ((bV).view.loc (th d L)))
    (O1 : Buf (Elt F) ((daV).view.loc (th d L))) (O2 : Buf (Elt F) ((dbV).view.loc (th d L))) (OW : CellTallies nD τ sig (HIx 1)) (W : Waits sig (HIx 1)) :
    iprop(pend d L r1s0 m1S cc0_scratch9.sem qa la T1 l 0 ∗ pend d L r2s0 m2S cc0_scratch11.sem qb lb T2 l 0
      ∗ pend d L r1s1 m1S cc0_scratch10.sem qc lc T1 l 1 ∗ pend d L r2s1 m2S cc0_scratch12.sem qd ld T2 l 1
      ∗ (some2048 d L p1V ∗ semVal (th d L, SemLoc.dma cc0_scratch13.sem) 0) ∗ (some2048 d L q1V ∗ semVal (th d L, SemLoc.dma cc0_scratch15.sem) 0)
      ∗ (some2048 d L p2V ∗ semVal (th d L, SemLoc.dma cc0_scratch14.sem) 0) ∗ (some2048 d L q2V ∗ semVal (th d L, SemLoc.dma cc0_scratch16.sem) 0)
      ∗ blanks d L 0
      ∗ ((aV).view.loc (th d L) ↦{fullShare} A) ∗ ((bV).view.loc (th d L) ↦{fullShare} B) ∗ owing d L OW W)
      ⊢ IT d L qa qb qc qd la lb lc ld T1 T2 l A B O1 O2 OW W 0 () := by
  unfold IT GA SA
  rw [dif_pos (show 2 * 0 < 128 by omega), dif_pos (show 2 * 0 < 128 by omega), dif_pos (show 2 * 0 + 1 < 128 by omega), dif_pos (show 2 * 0 + 1 < 128 by omega),
    if_pos rfl, if_pos rfl, if_pos rfl, if_pos rfl]
  iintro ⟨H1, H2, H3, H4, H5, H6, H7, H8, H9, H10, H11, H12⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitr
  · unfold dones
    rw [show (Finset.univ.filter fun j : Fin 64 => j.val + 1 < 0) = ∅ from by ext j; simp, bigSep_empty]
    iempintro
  isplitl [H9]; · iexact H9
  isplitl [H10]; · iexact H10
  isplitl [H11]; · iexact H11
  iexact H12

/-- The loop's state after its last trip. -/
theorem IT_last (qa qb qc qd la lb lc ld : PosShare TreeShare) (T1 : Buf (Elt F) ((m1S).view.loc (th d L))) (T2 : Buf (Elt F) ((m2S).view.loc (th d L)))
    (l : Buf (Elt F) ((lV).view.loc (th d L))) (A : Buf (Elt F) ((aV).view.loc (th d L))) (B : Buf (Elt F) ((bV).view.loc (th d L)))
    (O1 : Buf (Elt F) ((daV).view.loc (th d L))) (O2 : Buf (Elt F) ((dbV).view.loc (th d L))) (OW : CellTallies nD τ sig (HIx 1)) (W : Waits sig (HIx 1)) :
    IT d L qa qb qc qd la lb lc ld T1 T2 l A B O1 O2 OW W 64 ()
      ⊢ iprop(rest d L r1s0 m1S cc0_scratch9.sem qa la T1 l ∗ rest d L r2s0 m2S cc0_scratch11.sem qb lb T2 l
        ∗ rest d L r1s1 m1S cc0_scratch10.sem qc lc T1 l ∗ rest d L r2s1 m2S cc0_scratch12.sem qd ld T2 l
        ∗ sent d L p1V daV cc0_scratch13.sem O1 (gix L (2 * (64 - 1) + 0)) ∗ sent d L q1V dbV cc0_scratch15.sem O2 (gix L (2 * (64 - 1) + 0))
        ∗ sent d L p2V daV cc0_scratch14.sem O1 (gix L (2 * (64 - 1) + 1)) ∗ sent d L q2V dbV cc0_scratch16.sem O2 (gix L (2 * (64 - 1) + 1))
        ∗ dones d L O1 O2 64
        ∗ ((aV).view.loc (th d L) ↦{fullShare} A) ∗ ((bV).view.loc (th d L) ↦{fullShare} B)
        ∗ ∃ W' : Waits sig (HIx 1), ⌜∀ p ∈ W', p ∈ W ∨ p.2 = none⌝ ∗ owes (th d L) OW W') := by
  unfold IT GA SA owing
  rw [dif_neg (show ¬ 2 * 64 < 128 by omega), dif_neg (show ¬ 2 * 64 < 128 by omega), dif_neg (show ¬ 2 * 64 + 1 < 128 by omega), dif_neg (show ¬ 2 * 64 + 1 < 128 by omega),
    if_neg (show ¬ 64 = 0 by omega), if_neg (show ¬ 64 = 0 by omega), if_neg (show ¬ 64 = 0 by omega), if_neg (show ¬ 64 = 0 by omega)]
  iintro ⟨H1, H2, H3, H4, H5, H6, H7, H8, H9, -, H11, H12, H13⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  iexact H13

set_option pp.maxSteps 60 in
set_option maxHeartbeats 4000000 in
/-- A tile's task: the copies of its words of the list and of its feature rows, the loop, and the waits for the last
    transfers. -/
theorem tile_run (hX : ∀ x, (X x : BitVec 32).toNat < 1000000) (OW : CellTallies nD τ sig (HIx 1)) (W : Waits sig (HIx 1)) (Q : PUnit → sProp 𝕄) :
    iprop(Transfers.MayWaits (th d L) (default : HIx 1) OW ∗ hbm d L q X M1 M2 FT FS ∗ blanks d L 0 ∗ bufs d L ∗ sems d L ∗ owes (th d L) OW W
        ∗ (iprop(hbm d L q X M1 M2 FT FS ∗ dones d L (OUT M1 X FT) (OUT M2 X FS) 65 ∗ bufs d L ∗ sems d L
            ∗ ∃ W' : Waits sig (HIx 1), ⌜∀ p ∈ W', p ∈ W ∨ p.2 = none⌝ ∗ owes (th d L) OW W') -∗ Q ⟨⟩))
      ⊢ wp frame (wpE (defs₀ (F := F)) 𝒱₀ (th d L) none) Set.univ (cc0_body L m1V (Memref.isWhole_whole _) m2V (Memref.isWhole_whole _) ixV (Memref.isWhole_whole _) ftV (Memref.isWhole_whole _) fsV (Memref.isWhole_whole _) daV (Memref.isWhole_whole _) dbV (Memref.isWhole_whole _) lV (Memref.isWhole_whole _) aV (Memref.isWhole_whole _) bV (Memref.isWhole_whole _) r1V (Memref.isWhole_whole _) r2V (Memref.isWhole_whole _) p1V (Memref.isWhole_whole _) p2V (Memref.isWhole_whole _) q1V (Memref.isWhole_whole _) q2V (Memref.isWhole_whole _) cc0_scratch9 cc0_scratch10 cc0_scratch11 cc0_scratch12 cc0_scratch13 cc0_scratch14 cc0_scratch15 cc0_scratch16 cc0_scoped0 cc0_scoped1 cc0_scoped2) Q := by
  rw [cc0_body_eq_skeleton]; unfold cc0_body_skel
  rw [k0_part9_eq_skeleton]; unfold k0_part9_skel
  unfold hbm bufs sems
  iintro ⟨#Hmw, ⟨Hix, Hft, Hfs, Hm1, Hm2⟩, Hbl, ⟨⟨%fl, Hl⟩, ⟨%fa, Ha⟩, ⟨%fb, Hb⟩, Hr1, Hr2, Hp1, Hp2, Hq1, Hq2⟩, ⟨Hc0, Hc1, Hc2, Hv9, Hv10, Hv11, Hv12, Hv13, Hv14, Hv15, Hv16⟩, HO, HQ⟩
  ihave Hix := (pointsTo_split_subset (q := q) (f := X) (S := Finset.univ) (Finset.subset_univ (ixS L).view.set)).1 $$ Hix
  icases Hix with ⟨Hix, Hixr⟩
  ihave Hft := (pointsTo_split_subset (q := q) (f := FT) (S := Finset.univ) (Finset.subset_univ (ftS L).view.set)).1 $$ Hft
  icases Hft with ⟨Hft, Hftr⟩
  ihave Hfs := (pointsTo_split_subset (q := q) (f := FS) (S := Finset.univ) (Finset.subset_univ (fsS L).view.set)).1 $$ Hfs
  icases Hfs with ⟨Hfs, Hfsr⟩
  have hls : (lV).view.set = Finset.univ := View.set_whole _
  have has : (aV).view.set = Finset.univ := View.set_whole _
  have hbs : (bV).view.set = Finset.univ := View.set_whole _
  ihave Hl := (Entails.of_eq (show ((lV).view.loc (th d L) ↦{fullShare} fl : sProp 𝕄) = (lV).view.loc (th d L) ↦[(lV).view.set]{fullShare} fl by rw [hls])) $$ Hl
  ihave Ha := (Entails.of_eq (show ((aV).view.loc (th d L) ↦{fullShare} fa : sProp 𝕄) = (aV).view.loc (th d L) ↦[(aV).view.set]{fullShare} fa by rw [has])) $$ Ha
  ihave Hb := (Entails.of_eq (show ((bV).view.loc (th d L) ↦{fullShare} fb : sProp 𝕄) = (bV).view.loc (th d L) ↦[(bV).view.set]{fullShare} fb by rw [hbs])) $$ Hb
  rw [LawfulMonad.bind_assoc]
  iapply (fetch_start d L (ixS L) lV cc0_scoped0.sem q X fl (by decide)) $$ [Hix Hl Hc0]
  · isplitl [Hix]; · iexact Hix
    isplitl [Hl]; · iexact Hl
    iexact Hc0
  iintro Hfl
  rw [LawfulMonad.bind_assoc]
  iapply (fetch_wait d L (ixS L) lV cc0_scoped0.sem _ OW W) $$ [Hfl HO]
  · isplitl [Hfl]; · iexact Hfl
    isplitl [HO]; · iexact HO
    iexact Hmw
  iintro ⟨⟨Hl, Hix⟩, Hc0, HO⟩
  rw [LawfulMonad.bind_assoc]
  iapply (fetch_start d L (ftS L) aV cc0_scoped1.sem q FT fa (by decide)) $$ [Hft Ha Hc1]
  · isplitl [Hft]; · iexact Hft
    isplitl [Ha]; · iexact Ha
    iexact Hc1
  iintro Hfl
  rw [LawfulMonad.bind_assoc]
  iapply (fetch_wait d L (ftS L) aV cc0_scoped1.sem _ OW _) $$ [Hfl HO]
  · isplitl [Hfl]; · iexact Hfl
    isplitl [HO]; · iexact HO
    iexact Hmw
  iintro ⟨⟨Ha, Hft⟩, Hc1, HO⟩
  rw [LawfulMonad.bind_assoc]
  iapply (fetch_start d L (fsS L) bV cc0_scoped2.sem q FS fb (by decide)) $$ [Hfs Hb Hc2]
  · isplitl [Hfs]; · iexact Hfs
    isplitl [Hb]; · iexact Hb
    iexact Hc2
  iintro Hfl
  rw [LawfulMonad.bind_assoc]
  iapply (fetch_wait d L (fsS L) bV cc0_scoped2.sem _ OW _) $$ [Hfl HO]
  · isplitl [Hfl]; · iexact Hfl
    isplitl [HO]; · iexact HO
    iexact Hmw
  iintro ⟨⟨Hb, Hfs⟩, Hc2, HO⟩
  -- what the three copies landed
  obtain ⟨l, hl⟩ : ∃ l : Buf (Elt F) ((lV).view.loc (th d L)), l = View.write (Elt F) (lV).view fl ((ixS L).view.read (Elt F) X) Finset.univ := ⟨_, rfl⟩
  obtain ⟨A, hA⟩ : ∃ l : Buf (Elt F) ((aV).view.loc (th d L)), l = View.write (Elt F) (aV).view fa ((ftS L).view.read (Elt F) FT) Finset.univ := ⟨_, rfl⟩
  obtain ⟨B, hB⟩ : ∃ l : Buf (Elt F) ((bV).view.loc (th d L)), l = View.write (Elt F) (bV).view fb ((fsS L).view.read (Elt F) FS) Finset.univ := ⟨_, rfl⟩
  rw [← hl, ← hA, ← hB]
  have hl' : ∀ x, l x = X (ix1 ⟨(16384 * (wid L).val + (x 0).val) % 524288, Nat.mod_lt _ (by omega)⟩) := fun x => by
    rw [hl, View.write_whole_univ]; exact ixS_read L X x
  have hA' : ∀ x, A x = FT (ix2 (⟨(32 * (wid L).val + (x 0).val) % 1024, Nat.mod_lt _ (by omega)⟩ : Fin 1024) (x 1)) := fun x => by
    rw [hA, View.write_whole_univ]; exact ftS_read L FT x
  have hB' : ∀ x, B x = FS (ix2 (⟨(32 * (wid L).val + (x 0).val) % 1024, Nat.mod_lt _ (by omega)⟩ : Fin 1024) (x 1)) := fun x => by
    rw [hB, View.write_whole_univ]; exact fsS_read L FS x
  have hlt : ∀ x, (l x : BitVec 32).toNat < 1000000 := fun x => by rw [hl']; exact hX _
  clear hl hA hB
  ihave Hl := (Entails.of_eq (show ((lV).view.loc (th d L) ↦[(lV).view.set]{fullShare} l : sProp 𝕄)
      = iprop((((lV).view.loc (th d L) ↦{fullShare.left.left} l) ∗ ((lV).view.loc (th d L) ↦{fullShare.left.right} l))
        ∗ (((lV).view.loc (th d L) ↦{fullShare.right.left} l) ∗ ((lV).view.loc (th d L) ↦{fullShare.right.right} l))) by
    rw [hls, halves, halves (q := fullShare.left), halves (q := fullShare.right)])) $$ Hl
  icases Hl with ⟨⟨Hl1, Hl2⟩, Hl3, Hl4⟩
  ihave Hm1 := (Entails.of_eq (show ((m1V).view.loc (th d L) ↦{q} M1 : sProp 𝕄)
      = iprop(((m1S).view.loc (th d L) ↦[(m1S).view.set]{q.left} M1) ∗ ((m1S).view.loc (th d L) ↦[(m1S).view.set]{q.right} M1)) by
    rw [m1S_set]; exact halves _ q M1)) $$ Hm1
  icases Hm1 with ⟨Hm1a, Hm1b⟩
  ihave Hm2 := (Entails.of_eq (show ((m2V).view.loc (th d L) ↦{q} M2 : sProp 𝕄)
      = iprop(((m2S).view.loc (th d L) ↦[(m2S).view.set]{q.left} M2) ∗ ((m2S).view.loc (th d L) ↦[(m2S).view.set]{q.right} M2)) by
    rw [m2S_set]; exact halves _ q M2)) $$ Hm2
  icases Hm2 with ⟨Hm2a, Hm2b⟩
  ihave Hr1 := (r1_slots d L) $$ Hr1
  icases Hr1 with ⟨Hr1a, Hr1b⟩
  ihave Hr2 := (r2_slots d L) $$ Hr2
  icases Hr2 with ⟨Hr2a, Hr2b⟩
  rw [LawfulMonad.bind_assoc]
  iapply (gather_start (hsp := Or.inl rfl) (hr := by decide) d L r1s0 m1S cc0_scratch9.sem q.left fullShare.left.left M1 l hlt 0 ![0] rfl inb_S16384_S128_0) $$ [Hr1a Hm1a Hl1 Hv9]
  · isplitl [Hr1a]; · iexact Hr1a
    isplitr [Hv9]
    · unfold reads
      isplitl [Hm1a]; · iexact Hm1a
      iexact Hl1
    iexact Hv9
  iintro Hg1
  rw [LawfulMonad.bind_assoc]
  iapply (gather_start (hsp := Or.inl rfl) (hr := by decide) d L r2s0 m2S cc0_scratch11.sem q.left fullShare.left.right M2 l hlt 0 ![0] rfl inb_S16384_S128_0) $$ [Hr2a Hm2a Hl2 Hv11]
  · isplitl [Hr2a]; · iexact Hr2a
    isplitr [Hv11]
    · unfold reads
      isplitl [Hm2a]; · iexact Hm2a
      iexact Hl2
    iexact Hv11
  iintro Hg2
  iapply (gather_start (hsp := Or.inl rfl) (hr := by decide) d L r1s1 m1S cc0_scratch10.sem q.right fullShare.right.left M1 l hlt 1 ![128] rfl inb_S16384_S128_128) $$ [Hr1b Hm1b Hl3 Hv10]
  · isplitl [Hr1b]; · iexact Hr1b
    isplitr [Hv10]
    · unfold reads
      isplitl [Hm1b]; · iexact Hm1b
      iexact Hl3
    iexact Hv10
  iintro Hg3
  iapply (gather_start (hsp := Or.inl rfl) (hr := by decide) d L r2s1 m2S cc0_scratch12.sem q.right fullShare.right.right M2 l hlt 1 ![128] rfl inb_S16384_S128_128) $$ [Hr2b Hm2b Hl4 Hv12]
  · isplitl [Hr2b]; · iexact Hr2b
    isplitr [Hv12]
    · unfold reads
      isplitl [Hm2b]; · iexact Hm2b
      iexact Hl4
    iexact Hv12
  iintro Hg4
  ihave Hp1 := (some_close d L p1V (View.set_whole _)) $$ Hp1
  ihave Hp2 := (some_close d L p2V (View.set_whole _)) $$ Hp2
  ihave Hq1 := (some_close d L q1V (View.set_whole _)) $$ Hq1
  ihave Hq2 := (some_close d L q2V (View.set_whole _)) $$ Hq2
  have hW := owing_one OW _ _ (owing_one OW _ _ (owing_one OW W W (fun p hp => Or.inl hp) (SemLoc.dma cc0_scoped0.sem)) (SemLoc.dma cc0_scoped1.sem)) (SemLoc.dma cc0_scoped2.sem)
  sl_for (fun k u => iprop(Transfers.MayWaits (th d L) (default : HIx 1) OW ∗ IT d L q.left q.left q.right q.right fullShare.left.left fullShare.left.right fullShare.right.left fullShare.right.right M1 M2 l A B (OUT M1 X FT) (OUT M2 X FS) OW W k u)) $$ [Hg1 Hg2 Hg3 Hg4 Hp1 Hp2 Hq1 Hq2 Hv13 Hv14 Hv15 Hv16 Hbl Ha Hb HO]
  case region =>
    intro k2 _
    iintro ⟨#Hmw, HI⟩
    iapply (outer_trip d L q.left q.left q.right q.right fullShare.left.left fullShare.left.right fullShare.right.left fullShare.right.right M1 M2 l A B (OUT M1 X FT) (OUT M2 X FS) OW W _ k2 hlt
      (fun n hn => by rw [m1S_read]; exact OUT_blk L M1 X FT l A hl' hA' n hn) (fun n hn => by rw [m2S_read]; exact OUT_blk L M2 X FS l B hl' hB' n hn) _)
    isplitr; · iexact Hmw
    isplitl [HI]; · iexact HI
    iintro HI
    isplitr; · iexact Hmw
    iexact HI
  · isplitr; · iexact Hmw
    iapply (IT_zero d L q.left q.left q.right q.right fullShare.left.left fullShare.left.right fullShare.right.left fullShare.right.right M1 M2 l A B (OUT M1 X FT) (OUT M2 X FS) OW W)
    isplitl [Hg1]; · iexact Hg1
    isplitl [Hg2]; · iexact Hg2
    isplitl [Hg3]; · iexact Hg3
    isplitl [Hg4]; · iexact Hg4
    isplitl [Hp1 Hv13]
    · isplitl [Hp1]; · iexact Hp1
      iexact Hv13
    isplitl [Hq1 Hv15]
    · isplitl [Hq1]; · iexact Hq1
      iexact Hv15
    isplitl [Hp2 Hv14]
    · isplitl [Hp2]; · iexact Hp2
      iexact Hv14
    isplitl [Hq2 Hv16]
    · isplitl [Hq2]; · iexact Hq2
      iexact Hv16
    isplitl [Hbl]; · iexact Hbl
    isplitl [Ha]
    · iapply (show _ ⊢ _ from ?_) $$ Ha
      rw [has]
    isplitl [Hb]
    · iapply (show _ ⊢ _ from ?_) $$ Hb
      rw [hbs]
    unfold owing
    iexists _; isplitr
    swap; · iexact HO
    ipureintro; exact hW
  iintro %acc ⟨-, HI⟩
  ihave HI := ((Entails.of_eq (show IT d L q.left q.left q.right q.right fullShare.left.left fullShare.left.right fullShare.right.left fullShare.right.right M1 M2 l A B (OUT M1 X FT) (OUT M2 X FS) OW W (Scf.trips k0_t1_loop.lb k0_t1_loop.ub k0_t1_loop.st) acc = IT d L q.left q.left q.right q.right fullShare.left.left fullShare.left.right fullShare.right.left fullShare.right.right M1 M2 l A B (OUT M1 X FT) (OUT M2 X FS) OW W 64 () from rfl)).trans (IT_last d L q.left q.left q.right q.right fullShare.left.left fullShare.left.right fullShare.right.left fullShare.right.right M1 M2 l A B (OUT M1 X FT) (OUT M2 X FS) OW W)) $$ HI
  icases HI with ⟨Hg1, Hg2, Hg3, Hg4, Hs1, Hs2, Hs3, Hs4, Hdn, Ha, Hb, %W', %hW', HO⟩
  iapply (store_wait d L p1V daV cc0_scratch13.sem _ _ _ (k0_off45_inb L) OW W') $$ [Hs1 HO]
  · isplitl [Hs1]; · iexact Hs1
    isplitl [HO]; · iexact HO
    iexact Hmw
  iintro ⟨Hd1, Hp1, Hv13, HO⟩
  iapply (store_wait d L q1V dbV cc0_scratch15.sem _ _ _ (k0_off45_inb L) OW _) $$ [Hs2 HO]
  · isplitl [Hs2]; · iexact Hs2
    isplitl [HO]; · iexact HO
    iexact Hmw
  iintro ⟨Hd2, Hq1, Hv15, HO⟩
  iapply (store_wait d L p2V daV cc0_scratch14.sem _ _ _ (k0_off45_inb L) OW _) $$ [Hs3 HO]
  · isplitl [Hs3]; · iexact Hs3
    isplitl [HO]; · iexact HO
    iexact Hmw
  iintro ⟨Hd3, Hp2, Hv14, HO⟩
  iapply (store_wait d L q2V dbV cc0_scratch16.sem _ _ _ (k0_off45_inb L) OW _) $$ [Hs4 HO]
  · isplitl [Hs4]; · iexact Hs4
    isplitl [HO]; · iexact HO
    iexact Hmw
  iintro ⟨Hd4, Hq2, Hv16, HO⟩
  ihave Hdn := (dones_step d L (OUT M1 X FT) (OUT M2 X FS) 64 (by omega)) $$ [Hd1 Hd2 Hd3 Hd4 Hdn]
  · unfold fin
    rw [if_neg (show ¬ 64 = 0 by omega), if_neg (show ¬ 64 = 0 by omega), if_neg (show ¬ 64 = 0 by omega), if_neg (show ¬ 64 = 0 by omega)]
    isplitl [Hd1]; · iexact Hd1
    isplitl [Hd2]; · iexact Hd2
    isplitl [Hd3]; · iexact Hd3
    isplitl [Hd4]; · iexact Hd4
    iexact Hdn
  sl_step
  unfold rest reads
  icases Hg1 with ⟨Hr1a, ⟨Hm1a, Hl1⟩, Hv9⟩
  icases Hg2 with ⟨Hr2a, ⟨Hm2a, Hl2⟩, Hv11⟩
  icases Hg3 with ⟨Hr1b, ⟨Hm1b, Hl3⟩, Hv10⟩
  icases Hg4 with ⟨Hr2b, ⟨Hm2b, Hl4⟩, Hv12⟩
  iapply HQ
  isplitl [Hix Hixr Hft Hftr Hfs Hfsr Hm1a Hm1b Hm2a Hm2b]
  · isplitl [Hix Hixr]
    · iapply (pointsTo_split_subset (q := q) (f := X) (S := Finset.univ) (Finset.subset_univ (ixS L).view.set)).2
      isplitl [Hix]; · iexact Hix
      iexact Hixr
    isplitl [Hft Hftr]
    · iapply (pointsTo_split_subset (q := q) (f := FT) (S := Finset.univ) (Finset.subset_univ (ftS L).view.set)).2
      isplitl [Hft]; · iexact Hft
      iexact Hftr
    isplitl [Hfs Hfsr]
    · iapply (pointsTo_split_subset (q := q) (f := FS) (S := Finset.univ) (Finset.subset_univ (fsS L).view.set)).2
      isplitl [Hfs]; · iexact Hfs
      iexact Hfsr
    isplitl [Hm1a Hm1b]
    · iapply (Entails.of_eq (show iprop(((m1S).view.loc (th d L) ↦[(m1S).view.set]{q.left} M1) ∗ ((m1S).view.loc (th d L) ↦[(m1S).view.set]{q.right} M1))
          = ((m1V).view.loc (th d L) ↦{q} M1 : sProp 𝕄) by rw [m1S_set]; exact (halves _ q M1).symm))
      isplitl [Hm1a]; · iexact Hm1a
      iexact Hm1b
    · iapply (Entails.of_eq (show iprop(((m2S).view.loc (th d L) ↦[(m2S).view.set]{q.left} M2) ∗ ((m2S).view.loc (th d L) ↦[(m2S).view.set]{q.right} M2))
          = ((m2V).view.loc (th d L) ↦{q} M2 : sProp 𝕄) by rw [m2S_set]; exact (halves _ q M2).symm))
      isplitl [Hm2a]; · iexact Hm2a
      iexact Hm2b
  isplitl [Hdn]; · iexact Hdn
  isplitl [Hl1 Hl2 Hl3 Hl4 Ha Hb Hr1a Hr1b Hr2a Hr2b Hp1 Hp2 Hq1 Hq2]
  · isplitl [Hl1 Hl2 Hl3 Hl4]
    · iexists l
      iapply (Entails.of_eq (show iprop((((lV).view.loc (th d L) ↦{fullShare.left.left} l) ∗ ((lV).view.loc (th d L) ↦{fullShare.left.right} l))
        ∗ (((lV).view.loc (th d L) ↦{fullShare.right.left} l) ∗ ((lV).view.loc (th d L) ↦{fullShare.right.right} l)))
          = ((lV).view.loc (th d L) ↦{fullShare} l : sProp 𝕄) by
        rw [halves Finset.univ fullShare, halves Finset.univ fullShare.left, halves Finset.univ fullShare.right]))
      isplitl [Hl1 Hl2]
      · isplitl [Hl1]; · iexact Hl1
        iexact Hl2
      isplitl [Hl3]; · iexact Hl3
      iexact Hl4
    isplitl [Ha]; · iexists _; iexact Ha
    isplitl [Hb]; · iexists _; iexact Hb
    isplitl [Hr1a Hr1b]
    · iapply (r1_slots' d L)
      isplitl [Hr1a]; · iexact Hr1a
      iexact Hr1b
    isplitl [Hr2a Hr2b]
    · iapply (r2_slots' d L)
      isplitl [Hr2a]; · iexact Hr2a
      iexact Hr2b
    isplitl [Hp1]; · iapply (some_open d L p1V (View.set_whole _)); iexact Hp1
    isplitl [Hp2]; · iapply (some_open d L p2V (View.set_whole _)); iexact Hp2
    isplitl [Hq1]; · iapply (some_open d L q1V (View.set_whole _)); iexact Hq1
    iapply (some_open d L q2V (View.set_whole _)); iexact Hq2
  isplitl [Hc0 Hc1 Hc2 Hv9 Hv10 Hv11 Hv12 Hv13 Hv14 Hv15 Hv16]
  · isplitl [Hc0]; · iexact Hc0
    isplitl [Hc1]; · iexact Hc1
    isplitl [Hc2]; · iexact Hc2
    isplitl [Hv9]; · iexact Hv9
    isplitl [Hv10]; · iexact Hv10
    isplitl [Hv11]; · iexact Hv11
    isplitl [Hv12]; · iexact Hv12
    isplitl [Hv13]; · iexact Hv13
    isplitl [Hv14]; · iexact Hv14
    isplitl [Hv15]; · iexact Hv15
    iexact Hv16
  iexists _; isplitr
  swap; · iexact HO
  ipureintro
  exact owing_one OW _ _ (owing_one OW _ _ (owing_one OW _ _ (owing_one OW W W' hW' _) _) _) _

end Cert.Proof.KI

end
-- ==== Proof.KI.Peel.lean ====
/-
  What the subcores hold, split among their tasks.
-/
module

public import proofs.«01_k».proof.Proof.KI.Run

@[expose] public section

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves
open Idealize.ShloMosaic.ValueIdx

variable {F : FTy → Type} [FloatOps F] [Named F]

local notation "𝕄" => MT nD τ sig (HIx 1) (Elt F) ℕ UU ℕ

local notation "m1V" => (Memref.whole Cert.KernelIdeal.main_arg4_scv : Memref Cert.KernelIdeal.sig Kind.scVector Space.hbm Cert.KernelIdeal.S1000000x128 EltTy.f32)
local notation "m2V" => (Memref.whole Cert.KernelIdeal.main_arg5_scv : Memref Cert.KernelIdeal.sig Kind.scVector Space.hbm Cert.KernelIdeal.S1000000x128 EltTy.f32)
local notation "ixV" => (Memref.whole Cert.KernelIdeal.main_v0_scv : Memref Cert.KernelIdeal.sig Kind.scVector Space.hbm Cert.KernelIdeal.S524288 EltTy.i32)
local notation "ftV" => (Memref.whole Cert.KernelIdeal.main_arg1_scv : Memref Cert.KernelIdeal.sig Kind.scVector Space.hbm Cert.KernelIdeal.S1024x128 EltTy.f32)
local notation "fsV" => (Memref.whole Cert.KernelIdeal.main_arg0_scv : Memref Cert.KernelIdeal.sig Kind.scVector Space.hbm Cert.KernelIdeal.S1024x128 EltTy.f32)
local notation "daV" => (Memref.whole Cert.KernelIdeal.main_v1_0_scv : Memref Cert.KernelIdeal.sig Kind.scVector Space.hbm Cert.KernelIdeal.S8388608 EltTy.f32)
local notation "dbV" => (Memref.whole Cert.KernelIdeal.main_v1_1_scv : Memref Cert.KernelIdeal.sig Kind.scVector Space.hbm Cert.KernelIdeal.S8388608 EltTy.f32)
local notation "lV" => (Memref.whole Cert.KernelIdeal.cc0_scratch0 : Memref Cert.KernelIdeal.sig Kind.scVector Space.vmem Cert.KernelIdeal.S16384 EltTy.i32)
local notation "aV" => (Memref.whole Cert.KernelIdeal.cc0_scratch1 : Memref Cert.KernelIdeal.sig Kind.scVector Space.vmem Cert.KernelIdeal.S32x128 EltTy.f32)
local notation "bV" => (Memref.whole Cert.KernelIdeal.cc0_scratch2 : Memref Cert.KernelIdeal.sig Kind.scVector Space.vmem Cert.KernelIdeal.S32x128 EltTy.f32)
local notation "r1V" => (Memref.whole Cert.KernelIdeal.cc0_scratch3 : Memref Cert.KernelIdeal.sig Kind.scVector Space.vmem Cert.KernelIdeal.S2x128x128 EltTy.f32)
local notation "r2V" => (Memref.whole Cert.KernelIdeal.cc0_scratch4 : Memref Cert.KernelIdeal.sig Kind.scVector Space.vmem Cert.KernelIdeal.S2x128x128 EltTy.f32)
local notation "p1V" => (Memref.whole Cert.KernelIdeal.cc0_scratch5 : Memref Cert.KernelIdeal.sig Kind.scVector Space.vmem Cert.KernelIdeal.S2048 EltTy.f32)
local notation "p2V" => (Memref.whole Cert.KernelIdeal.cc0_scratch6 : Memref Cert.KernelIdeal.sig Kind.scVector Space.vmem Cert.KernelIdeal.S2048 EltTy.f32)
local notation "q1V" => (Memref.whole Cert.KernelIdeal.cc0_scratch7 : Memref Cert.KernelIdeal.sig Kind.scVector Space.vmem Cert.KernelIdeal.S2048 EltTy.f32)
local notation "q2V" => (Memref.whole Cert.KernelIdeal.cc0_scratch8 : Memref Cert.KernelIdeal.sig Kind.scVector Space.vmem Cert.KernelIdeal.S2048 EltTy.f32)

local notation "m1S" => (Memref.slice m1V (Rect.unit (s := S1000000x128) ![0, 0] S1000000x128.size inb_S1000000x128_S1000000x128_0_0) (fun _ => rfl) : Memref Cert.KernelIdeal.sig Kind.scVector Space.hbm Cert.KernelIdeal.S1000000x128 EltTy.f32)
local notation "m2S" => (Memref.slice m2V (Rect.unit (s := S1000000x128) ![0, 0] S1000000x128.size inb_S1000000x128_S1000000x128_0_0) (fun _ => rfl) : Memref Cert.KernelIdeal.sig Kind.scVector Space.hbm Cert.KernelIdeal.S1000000x128 EltTy.f32)

theorem anti {P Q : sProp 𝕄} (h : P ⊢ Q) (h' : Q ⊢ P) : P = Q := Entails.antisymm h h'

theorem bigSep_mono' {I : Type} {s : Finset I} {Φ Ψ : I → sProp 𝕄} (h : ∀ i ∈ s, Φ i ⊢ Ψ i) : bigSep s Φ ⊢ bigSep s Ψ := bigSep_mono h

/-! ## A tile's own buffers and semaphores, among everything the subcore holds -/

section Own

variable (d : Dev nD) (L : grid0.Coords)

def refs9 : Finset (Ref sig .scVector) :=
  {cc0_scratch0, cc0_scratch1, cc0_scratch2, cc0_scratch3, cc0_scratch4, cc0_scratch5, cc0_scratch6, cc0_scratch7, cc0_scratch8}

def devRefs9 : Finset (DevRef τ sig) :=
  refs9.map ⟨(Proc.scVector (cV L) (jV L) : Proc τ).devRef, fun _ _ e => Proc.devRef_injective _ e⟩

theorem devRefs9_sub : devRefs9 L ⊆ ownRefs (τ := τ) (sig := sig) (.scVector (cV L) (jV L)) := by
  intro b hb
  obtain ⟨r, hr, rfl⟩ := Finset.mem_map.mp hb
  simp only [refs9, Finset.mem_insert, Finset.mem_singleton] at hr
  rcases hr with rfl | rfl | rfl | rfl | rfl | rfl | rfl | rfl | rfl <;>
    exact SparseCore.Cfg.mem_ownRefs_of_owner (p := Proc.scVector (cV L) (jV L)) rfl

theorem ownBufs_V :
    (ownBufs (V d (cV L) (jV L)) : sProp 𝕄)
      = iprop(bufs (F := F) d L ∗ bigSep (ownRefs (τ := τ) (.scVector (cV L) (jV L)) \ devRefs9 L)
          fun b => iprop(∃ f, ((d, b) : Loc nD τ sig) ↦{fullShare} f)) := by
  unfold SparseCore.Cfg.ownBufs
  refine (SparseCore.bigSep_sdiff_split' (devRefs9_sub L)).trans ?_
  congr 1
  unfold devRefs9
  rw [bigSep_map]
  unfold bufs
  exact bigSep_eq_bigSepL_of_eq [cc0_scratch0, cc0_scratch1, cc0_scratch2, cc0_scratch3, cc0_scratch4, cc0_scratch5, cc0_scratch6, cc0_scratch7, cc0_scratch8] (by decide) (by decide) _

def sems11 : Finset (SemLoc sig) :=
  {SemLoc.dma cc0_scoped0.sem, SemLoc.dma cc0_scoped1.sem, SemLoc.dma cc0_scoped2.sem, SemLoc.dma cc0_scratch9.sem, SemLoc.dma cc0_scratch10.sem,
    SemLoc.dma cc0_scratch11.sem, SemLoc.dma cc0_scratch12.sem, SemLoc.dma cc0_scratch13.sem, SemLoc.dma cc0_scratch14.sem,
    SemLoc.dma cc0_scratch15.sem, SemLoc.dma cc0_scratch16.sem}

def cells11 : Finset (GSem nD τ sig) := sems11.map ⟨fun s => (V d (cV L) (jV L), s), fun _ _ e => (Prod.mk.inj e).2⟩

theorem cells11_sub : cells11 d L ⊆ ownCells (V d (cV L) (jV L)) := by
  intro g hg
  obtain ⟨s, hs, rfl⟩ := Finset.mem_map.mp hg
  refine mem_ownCells.mpr ⟨rfl, ?_⟩
  show s.isScoped .scVector = true
  simp only [sems11, Finset.mem_insert, Finset.mem_singleton] at hs
  rcases hs with rfl | rfl | rfl | rfl | rfl | rfl | rfl | rfl | rfl | rfl | rfl <;> rfl

theorem ownSems0_V :
    (ownSems0 (V d (cV L) (jV L)) : sProp 𝕄)
      = iprop(sems (F := F) d L ∗ bigSep (ownCells (V d (cV L) (jV L)) \ cells11 d L) fun g => semVal g 0) := by
  unfold SparseCore.Cfg.ownSems0
  refine (SparseCore.bigSep_sdiff_split' (cells11_sub d L)).trans ?_
  congr 1
  unfold cells11
  rw [bigSep_map]
  unfold sems
  exact bigSep_eq_bigSepL_of_eq [SemLoc.dma cc0_scoped0.sem, SemLoc.dma cc0_scoped1.sem, SemLoc.dma cc0_scoped2.sem, SemLoc.dma cc0_scratch9.sem, SemLoc.dma cc0_scratch10.sem,
    SemLoc.dma cc0_scratch11.sem, SemLoc.dma cc0_scratch12.sem, SemLoc.dma cc0_scratch13.sem, SemLoc.dma cc0_scratch14.sem,
    SemLoc.dma cc0_scratch15.sem, SemLoc.dma cc0_scratch16.sem] (by decide) (by decide) _

end Own

/-! ## The two result arrays, block by block -/

def coordsV (c : Fin (grid0.bound 0)) (s : Fin (grid0.bound 1)) : grid0.Coords :=
  fun | 0 => c | 1 => s | ⟨_ + 2, h⟩ => absurd h (Nat.not_lt.2 (Nat.le_add_left _ _))

/-- Block `g` of a result array. -/
def pc (g : Fin 4096) : Finset S8388608.Idx := (Rect.unit (s := S8388608) ![2048 * g.val] S2048.size (dCh_inb g)).set

theorem mem_pc (g : Fin 4096) (x : S8388608.Idx) : x ∈ pc g ↔ 2048 * g.val ≤ (x 0).val ∧ (x 0).val < 2048 * g.val + 2048 := by
  unfold pc
  rw [Rect.mem_set_unit]
  exact ⟨fun h => h 0, fun h a => by fin_cases a; exact h⟩

def gx (p : Fin 2 × Fin 16 × Fin 64 × Fin 2) : Fin 4096 :=
  ⟨128 * (2 * p.2.1.val + p.1.val) + (2 * p.2.2.1.val + p.2.2.2.val), by
    have := p.1.isLt; have := p.2.1.isLt; have := p.2.2.1.isLt; have := p.2.2.2.isLt; omega⟩

theorem gx_disjoint : ∀ p ∈ (Finset.univ : Finset (Fin 2 × Fin 16 × Fin 64 × Fin 2)), ∀ q ∈ (Finset.univ : Finset (Fin 2 × Fin 16 × Fin 64 × Fin 2)),
    p ≠ q → Disjoint (pc (gx p)) (pc (gx q)) := by
  rintro ⟨c, i, j, e⟩ - ⟨c', i', j', e'⟩ - h
  rw [Finset.disjoint_left]
  intro x hx hy
  rw [mem_pc] at hx hy
  apply h
  have := c.isLt; have := i.isLt; have := j.isLt; have := e.isLt
  have := c'.isLt; have := i'.isLt; have := j'.isLt; have := e'.isLt
  simp only [gx] at hx hy
  have h1 : c = c' := Fin.ext (by omega)
  have h2 : i = i' := Fin.ext (by omega)
  have h3 : j = j' := Fin.ext (by omega)
  have h4 : e = e' := Fin.ext (by omega)
  rw [h1, h2, h3, h4]

theorem gx_cover : (Finset.univ : Finset (Fin 2 × Fin 16 × Fin 64 × Fin 2)).biUnion (fun p => pc (gx p)) = Finset.univ := by
  ext x
  have hx : (x 0).val < 8388608 := (x 0).isLt
  simp only [Finset.mem_biUnion, Finset.mem_univ, true_and, iff_true]
  refine ⟨(⟨(x 0).val / 262144 % 2, by omega⟩, ⟨(x 0).val / 524288, by omega⟩, ⟨(x 0).val / 4096 % 64, by omega⟩, ⟨(x 0).val / 2048 % 2, by omega⟩), (mem_pc _ _).mpr ?_⟩
  simp only [gx]
  omega

theorem two_eq (Φ : Fin 2 → sProp 𝕄) : bigSep Finset.univ Φ = iprop(Φ 0 ∗ Φ 1) :=
  bigSep_univ_eq_bigSepL [(0 : Fin 2), (1 : Fin 2)] (by decide) (by decide) Φ

abbrev aLoc (d : Dev nD) : Loc nD τ sig := (SparseCore.T d).loc main_v1_0
abbrev bLoc (d : Dev nD) : Loc nD τ sig := (SparseCore.T d).loc main_v1_1

theorem a_split (d : Dev nD) (f : Buf (Elt F) (aLoc d)) :
    (aLoc d ↦{fullShare} f : sProp 𝕄) = bigSep Finset.univ fun c : Fin 2 => bigSep Finset.univ fun i : Fin 16 => bigSep Finset.univ fun j : Fin 64 =>
      iprop((aLoc d ↦[pc (gx (c, i, j, 0))]{fullShare} f) ∗ aLoc d ↦[pc (gx (c, i, j, 1))]{fullShare} f) := by
  have h : (aLoc d ↦{fullShare} f : sProp 𝕄) = bigSep Finset.univ fun p => aLoc d ↦[pc (gx p)]{fullShare} f := by
    rw [← pointsTo_biUnion Finset.univ (ℓ := aLoc d) (fun p => pc (gx p)) gx_disjoint, gx_cover]
  rw [h, bigSep_univ_prod]
  refine bigSep_congr fun c _ => ?_
  rw [bigSep_univ_prod]
  refine bigSep_congr fun i _ => ?_
  rw [bigSep_univ_prod]
  refine bigSep_congr fun j _ => ?_
  rw [two_eq]

theorem b_split (d : Dev nD) (f : Buf (Elt F) (bLoc d)) :
    (bLoc d ↦{fullShare} f : sProp 𝕄) = bigSep Finset.univ fun c : Fin 2 => bigSep Finset.univ fun i : Fin 16 => bigSep Finset.univ fun j : Fin 64 =>
      iprop((bLoc d ↦[pc (gx (c, i, j, 0))]{fullShare} f) ∗ bLoc d ↦[pc (gx (c, i, j, 1))]{fullShare} f) := by
  have h : (bLoc d ↦{fullShare} f : sProp 𝕄) = bigSep Finset.univ fun p => bLoc d ↦[pc (gx p)]{fullShare} f := by
    rw [← pointsTo_biUnion Finset.univ (ℓ := bLoc d) (fun p => pc (gx p)) gx_disjoint, gx_cover]
  rw [h, bigSep_univ_prod]
  refine bigSep_congr fun c _ => ?_
  rw [bigSep_univ_prod]
  refine bigSep_congr fun i _ => ?_
  rw [bigSep_univ_prod]
  refine bigSep_congr fun j _ => ?_
  rw [two_eq]

theorem gix_gx (c : Fin 2) (i : Fin 16) (j : Fin 64) (e : Fin 2) : gix (coordsV c i) (2 * j.val + e.val) = gx (c, i, j, e) :=
  Fin.ext (by rw [gix_val _ _ (by have := j.isLt; have := e.isLt; omega)]; rfl)

theorem da_set (g : Fin 4096) : (dCh daV g).view.set = pc g := View.set_slice_whole _ _
theorem db_set (g : Fin 4096) : (dCh dbV g).view.set = pc g := View.set_slice_whole _ _

theorem done_a (d : Dev nD) (c : Fin 2) (i : Fin 16) (j : Fin 64) (e : Fin 2) (f : Buf (Elt F) (aLoc d)) :
    (done d (coordsV c i) daV f (gix (coordsV c i) (2 * j.val + e.val)) : sProp 𝕄) = aLoc d ↦[pc (gx (c, i, j, e))]{fullShare} f := by
  unfold done; rw [gix_gx, da_set]
theorem done_b (d : Dev nD) (c : Fin 2) (i : Fin 16) (j : Fin 64) (e : Fin 2) (f : Buf (Elt F) (bLoc d)) :
    (done d (coordsV c i) dbV f (gix (coordsV c i) (2 * j.val + e.val)) : sProp 𝕄) = bLoc d ↦[pc (gx (c, i, j, e))]{fullShare} f := by
  unfold done; rw [gix_gx, db_set]

theorem dones_all (d : Dev nD) (c : Fin 2) (i : Fin 16) (f : Buf (Elt F) (aLoc d)) (g : Buf (Elt F) (bLoc d)) :
    (dones d (coordsV c i) f g 65 : sProp 𝕄) = iprop(
      (bigSep Finset.univ fun j : Fin 64 => iprop((aLoc d ↦[pc (gx (c, i, j, 0))]{fullShare} f) ∗ aLoc d ↦[pc (gx (c, i, j, 1))]{fullShare} f))
      ∗ bigSep Finset.univ fun j : Fin 64 => iprop((bLoc d ↦[pc (gx (c, i, j, 0))]{fullShare} g) ∗ bLoc d ↦[pc (gx (c, i, j, 1))]{fullShare} g)) := by
  unfold dones
  rw [show (Finset.univ.filter fun j : Fin 64 => j.val + 1 < 65) = Finset.univ from by ext j; have := j.isLt; simp; omega, ← bigSep_sep']
  refine bigSep_congr fun j _ => ?_
  unfold done4
  have a0 := done_a d c i j 0 f
  have a1 := done_a d c i j 1 f
  have b0 := done_b d c i j 0 g
  have b1 := done_b d c i j 1 g
  refine anti ?_ ?_
  · iintro ⟨H0, H1, H2, H3⟩
    ihave H0 := (Entails.of_eq a0) $$ H0
    ihave H1 := (Entails.of_eq b0) $$ H1
    ihave H2 := (Entails.of_eq a1) $$ H2
    ihave H3 := (Entails.of_eq b1) $$ H3
    isplitl [H0 H2]
    · isplitl [H0]; · iexact H0
      iexact H2
    · isplitl [H1]; · iexact H1
      iexact H3
  · iintro ⟨⟨H0, H2⟩, H1, H3⟩
    isplitl [H0]; · iapply (Entails.of_eq a0.symm); iexact H0
    isplitl [H1]; · iapply (Entails.of_eq b0.symm); iexact H1
    isplitl [H2]; · iapply (Entails.of_eq a1.symm); iexact H2
    iapply (Entails.of_eq b1.symm); iexact H3

/-- Blocks held at some contents are blocks to be filled. -/
theorem blanks_of_dones (d : Dev nD) (L : grid0.Coords) (f : Buf (Elt F) (aLoc d)) (g : Buf (Elt F) (bLoc d)) :
    (dones d L f g 65 : sProp 𝕄) ⊢ blanks (F := F) d L 0 := by
  unfold dones blanks
  rw [show (Finset.univ.filter fun j : Fin 64 => j.val + 1 < 65) = Finset.univ from by ext j; have := j.isLt; simp; omega,
    show (Finset.univ.filter fun j : Fin 64 => 0 ≤ j.val) = Finset.univ from by ext j; simp]
  refine bigSep_mono' fun j _ => ?_
  unfold done4 blank4 done blank
  iintro ⟨H0, H1, H2, H3⟩
  isplitl [H0]; · iexists f; iexact H0
  isplitl [H1]; · iexists g; iexact H1
  isplitl [H2]; · iexists f; iexact H2
  iexists g; iexact H3

end Cert.Proof.KI

end
-- ==== Proof.KI.Obl.lean ====
/-
  The launch's obligation of a subcore: from its part of the arrays to its part of the results.
-/
module

public import proofs.«01_k».proof.Proof.KI.Peel

@[expose] public section

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves
open Idealize.ShloMosaic.ValueIdx

variable {F : FTy → Type} [FloatOps F] [Named F]

local notation "𝕄" => MT nD τ sig (HIx 1) (Elt F) ℕ UU ℕ

local notation "m1V" => (Memref.whole Cert.KernelIdeal.main_arg4_scv : Memref Cert.KernelIdeal.sig Kind.scVector Space.hbm Cert.KernelIdeal.S1000000x128 EltTy.f32)
local notation "m2V" => (Memref.whole Cert.KernelIdeal.main_arg5_scv : Memref Cert.KernelIdeal.sig Kind.scVector Space.hbm Cert.KernelIdeal.S1000000x128 EltTy.f32)
local notation "ixV" => (Memref.whole Cert.KernelIdeal.main_v0_scv : Memref Cert.KernelIdeal.sig Kind.scVector Space.hbm Cert.KernelIdeal.S524288 EltTy.i32)
local notation "ftV" => (Memref.whole Cert.KernelIdeal.main_arg1_scv : Memref Cert.KernelIdeal.sig Kind.scVector Space.hbm Cert.KernelIdeal.S1024x128 EltTy.f32)
local notation "fsV" => (Memref.whole Cert.KernelIdeal.main_arg0_scv : Memref Cert.KernelIdeal.sig Kind.scVector Space.hbm Cert.KernelIdeal.S1024x128 EltTy.f32)
local notation "daV" => (Memref.whole Cert.KernelIdeal.main_v1_0_scv : Memref Cert.KernelIdeal.sig Kind.scVector Space.hbm Cert.KernelIdeal.S8388608 EltTy.f32)
local notation "dbV" => (Memref.whole Cert.KernelIdeal.main_v1_1_scv : Memref Cert.KernelIdeal.sig Kind.scVector Space.hbm Cert.KernelIdeal.S8388608 EltTy.f32)
local notation "lV" => (Memref.whole Cert.KernelIdeal.cc0_scratch0 : Memref Cert.KernelIdeal.sig Kind.scVector Space.vmem Cert.KernelIdeal.S16384 EltTy.i32)
local notation "aV" => (Memref.whole Cert.KernelIdeal.cc0_scratch1 : Memref Cert.KernelIdeal.sig Kind.scVector Space.vmem Cert.KernelIdeal.S32x128 EltTy.f32)
local notation "bV" => (Memref.whole Cert.KernelIdeal.cc0_scratch2 : Memref Cert.KernelIdeal.sig Kind.scVector Space.vmem Cert.KernelIdeal.S32x128 EltTy.f32)
local notation "r1V" => (Memref.whole Cert.KernelIdeal.cc0_scratch3 : Memref Cert.KernelIdeal.sig Kind.scVector Space.vmem Cert.KernelIdeal.S2x128x128 EltTy.f32)
local notation "r2V" => (Memref.whole Cert.KernelIdeal.cc0_scratch4 : Memref Cert.KernelIdeal.sig Kind.scVector Space.vmem Cert.KernelIdeal.S2x128x128 EltTy.f32)
local notation "p1V" => (Memref.whole Cert.KernelIdeal.cc0_scratch5 : Memref Cert.KernelIdeal.sig Kind.scVector Space.vmem Cert.KernelIdeal.S2048 EltTy.f32)
local notation "p2V" => (Memref.whole Cert.KernelIdeal.cc0_scratch6 : Memref Cert.KernelIdeal.sig Kind.scVector Space.vmem Cert.KernelIdeal.S2048 EltTy.f32)
local notation "q1V" => (Memref.whole Cert.KernelIdeal.cc0_scratch7 : Memref Cert.KernelIdeal.sig Kind.scVector Space.vmem Cert.KernelIdeal.S2048 EltTy.f32)
local notation "q2V" => (Memref.whole Cert.KernelIdeal.cc0_scratch8 : Memref Cert.KernelIdeal.sig Kind.scVector Space.vmem Cert.KernelIdeal.S2048 EltTy.f32)

local notation "m1S" => (Memref.slice m1V (Rect.unit (s := S1000000x128) ![0, 0] S1000000x128.size inb_S1000000x128_S1000000x128_0_0) (fun _ => rfl) : Memref Cert.KernelIdeal.sig Kind.scVector Space.hbm Cert.KernelIdeal.S1000000x128 EltTy.f32)
local notation "m2S" => (Memref.slice m2V (Rect.unit (s := S1000000x128) ![0, 0] S1000000x128.size inb_S1000000x128_S1000000x128_0_0) (fun _ => rfl) : Memref Cert.KernelIdeal.sig Kind.scVector Space.hbm Cert.KernelIdeal.S1000000x128 EltTy.f32)

/-! ## The arrays a call is given, and each task's part of them -/

/-- The share a task has of each array it only reads. -/
def qs (c : Fin 2) (i : Fin 16) : PosShare TreeShare := leaf 4 (leaf 1 fullShare c) i

theorem share_split {ℓ : Loc nD τ sig} (f : Buf (Elt F) ℓ) :
    (ℓ ↦{fullShare} f : sProp 𝕄) = bigSep Finset.univ fun c : Fin 2 => bigSep Finset.univ fun i : Fin 16 => ℓ ↦{qs c i} f := by
  refine (pointsTo_leaves Finset.univ f 1 fullShare).trans (bigSep_congr fun c _ => ?_)
  exact pointsTo_leaves Finset.univ f 4 (leaf 1 fullShare c)

theorem split7 (A B C D E G H : Fin 2 → Fin 16 → sProp 𝕄) :
    (bigSep Finset.univ fun c : Fin 2 => bigSep Finset.univ fun i : Fin 16 => iprop((A c i ∗ B c i ∗ C c i ∗ D c i ∗ E c i) ∗ G c i ∗ H c i))
      = iprop(((bigSep Finset.univ fun c : Fin 2 => bigSep Finset.univ fun i : Fin 16 => A c i)
        ∗ (bigSep Finset.univ fun c : Fin 2 => bigSep Finset.univ fun i : Fin 16 => B c i)
        ∗ (bigSep Finset.univ fun c : Fin 2 => bigSep Finset.univ fun i : Fin 16 => C c i)
        ∗ (bigSep Finset.univ fun c : Fin 2 => bigSep Finset.univ fun i : Fin 16 => D c i)
        ∗ (bigSep Finset.univ fun c : Fin 2 => bigSep Finset.univ fun i : Fin 16 => E c i))
        ∗ (bigSep Finset.univ fun c : Fin 2 => bigSep Finset.univ fun i : Fin 16 => G c i)
        ∗ (bigSep Finset.univ fun c : Fin 2 => bigSep Finset.univ fun i : Fin 16 => H c i)) := by
  simp only [bigSep_sep']

section Parts

variable (X : (d : Dev nD) → Buf (Elt F) ((SparseCore.T d : Thread nD τ).loc main_v0)) (M1 : (d : Dev nD) → Buf (Elt F) ((SparseCore.T d : Thread nD τ).loc main_arg4)) (M2 : (d : Dev nD) → Buf (Elt F) ((SparseCore.T d : Thread nD τ).loc main_arg5))
  (FT : (d : Dev nD) → Buf (Elt F) ((SparseCore.T d : Thread nD τ).loc main_arg1)) (FS : (d : Dev nD) → Buf (Elt F) ((SparseCore.T d : Thread nD τ).loc main_arg0))
  (A0 : (d : Dev nD) → Buf (Elt F) (aLoc d)) (B0 : (d : Dev nD) → Buf (Elt F) (bLoc d))

/-- A task's part of the seven arrays, the results at given contents. -/
def part (d : Dev nD) (c : Fin 2) (i : Fin 16) (f : Buf (Elt F) (aLoc d)) (g : Buf (Elt F) (bLoc d)) : sProp 𝕄 :=
  iprop(hbm d (coordsV c i) (qs c i) (X d) (M1 d) (M2 d) (FT d) (FS d) ∗ dones d (coordsV c i) f g 65)

/-- The seven arrays whole. -/
def arrays (d : Dev nD) (f : Buf (Elt F) (aLoc d)) (g : Buf (Elt F) (bLoc d)) : sProp 𝕄 :=
  iprop(((SparseCore.T d : Thread nD τ).loc main_v0 ↦{fullShare} X d) ∗ ((SparseCore.T d : Thread nD τ).loc main_arg1 ↦{fullShare} FT d) ∗ ((SparseCore.T d : Thread nD τ).loc main_arg0 ↦{fullShare} FS d)
    ∗ ((SparseCore.T d : Thread nD τ).loc main_arg4 ↦{fullShare} M1 d) ∗ ((SparseCore.T d : Thread nD τ).loc main_arg5 ↦{fullShare} M2 d)
    ∗ (aLoc d ↦{fullShare} f) ∗ (bLoc d ↦{fullShare} g))

theorem parts_eq (d : Dev nD) (f : Buf (Elt F) (aLoc d)) (g : Buf (Elt F) (bLoc d)) :
    (bigSep Finset.univ fun c : Fin 2 => bigSep Finset.univ fun i : Fin 16 => part X M1 M2 FT FS d c i f g)
      = iprop((((SparseCore.T d : Thread nD τ).loc main_v0 ↦{fullShare} X d) ∗ ((SparseCore.T d : Thread nD τ).loc main_arg1 ↦{fullShare} FT d) ∗ ((SparseCore.T d : Thread nD τ).loc main_arg0 ↦{fullShare} FS d)
    ∗ ((SparseCore.T d : Thread nD τ).loc main_arg4 ↦{fullShare} M1 d) ∗ ((SparseCore.T d : Thread nD τ).loc main_arg5 ↦{fullShare} M2 d))
    ∗ (aLoc d ↦{fullShare} f) ∗ (bLoc d ↦{fullShare} g)) := by
  rw [a_split, b_split, share_split (X d), share_split (FT d), share_split (FS d), share_split (M1 d), share_split (M2 d)]
  refine Eq.trans (bigSep_congr fun c _ => bigSep_congr fun i _ => ?_) (split7 _ _ _ _ _ _ _)
  unfold part
  rw [dones_all]
  rfl

/-- What a SparseCore is given: its sixteen subcores' parts. -/
def parts (d : Dev nD) (c : Fin 2) (f : Buf (Elt F) (aLoc d)) (g : Buf (Elt F) (bLoc d)) : sProp 𝕄 :=
  bigSep Finset.univ fun i : Fin 16 => part X M1 M2 FT FS d c i f g

theorem parts_def (d : Dev nD) (c : Fin 2) (f : Buf (Elt F) (aLoc d)) (g : Buf (Elt F) (bLoc d)) :
    parts X M1 M2 FT FS d c f g = bigSep Finset.univ fun i : Fin 16 => part X M1 M2 FT FS d c i f g := rfl

/-- What the handshakes carry: a subcore its part of the arrays, and it back with the results. -/
def P : (K (F := F)).Pay (nD := nD) (Val := Elt F) (Name := ℕ) (U := UU) where
  st := fun q d c => match q with | 0 => parts X M1 M2 FT FS d (Fin.cast nCore_zero c) (A0 d) (B0 d)
  dn := fun q d c => match q with
    | 0 => parts X M1 M2 FT FS d (Fin.cast nCore_zero c) (OUT (M1 d) (X d) (FT d)) (OUT (M2 d) (X d) (FS d))
  go := fun q d c i => match q with | 0 => part X M1 M2 FT FS d (Fin.cast nCore_zero c) (Fin.cast nSub_zero i) (A0 d) (B0 d)
  td := fun q d c i => match q with
    | 0 => part X M1 M2 FT FS d (Fin.cast nCore_zero c) (Fin.cast nSub_zero i) (OUT (M1 d) (X d) (FT d)) (OUT (M2 d) (X d) (FS d))
  x := fun _ _ => iprop(emp)

instance part_storable (d : Dev nD) (c : Fin 2) (i : Fin 16) (f : Buf (Elt F) (aLoc d)) (g : Buf (Elt F) (bLoc d)) :
    BI.Storable (upEmb : UEmb _ 𝕄) (part X M1 M2 FT FS d c i f g) := by
  unfold part hbm
  rw [dones_all]
  infer_instance

instance parts_storable (d : Dev nD) (c : Fin 2) (f : Buf (Elt F) (aLoc d)) (g : Buf (Elt F) (bLoc d)) :
    BI.Storable (upEmb : UEmb _ 𝕄) (parts X M1 M2 FT FS d c f g) := by
  unfold parts
  infer_instance

instance P_storable : (P X M1 M2 FT FS A0 B0).IsStorable where
  st q d c := match q with
    | 0 => parts_storable X M1 M2 FT FS d (Fin.cast nCore_zero c) (A0 d) (B0 d)
  dn q d c := match q with
    | 0 => parts_storable X M1 M2 FT FS d (Fin.cast nCore_zero c) (OUT (M1 d) (X d) (FT d)) (OUT (M2 d) (X d) (FS d))
  go q d c i := match q with
    | 0 => part_storable X M1 M2 FT FS d (Fin.cast nCore_zero c) (Fin.cast nSub_zero i) (A0 d) (B0 d)
  td q d c i := match q with
    | 0 => part_storable X M1 M2 FT FS d (Fin.cast nCore_zero c) (Fin.cast nSub_zero i) (OUT (M1 d) (X d) (FT d)) (OUT (M2 d) (X d) (FS d))

/-! ## A task's run -/

theorem tile_body (hF : (K (F := F)).Facts) (hX : ∀ d x, (X d x : BitVec 32).toNat < 1000000) (d : Dev nD) (c : Fin 2) (i : Fin 16)
    (O : CellTallies nD τ sig (HIx 1)) (W : Waits sig (HIx 1)) (hO : ∀ g, O g none = 0) :
    iprop(levAts (K (F := F)).L (K (F := F)).lev ∗ emp ∗ part X M1 M2 FT FS d c i (A0 d) (B0 d)
        ∗ scopedBufs (V d (cV (coordsV c i)) (jV (coordsV c i))) ∗ scopedSems0 (V d (cV (coordsV c i)) (jV (coordsV c i))) ∗ owes (V d (cV (coordsV c i)) (jV (coordsV c i))) O W)
      ⊢ wp frame (wpE (defs₀ (F := F)) 𝒱₀ (V d (cV (coordsV c i)) (jV (coordsV c i))) none) Set.univ
          (cc0_body (coordsV c i) m1V (Memref.isWhole_whole _) m2V (Memref.isWhole_whole _) ixV (Memref.isWhole_whole _) ftV (Memref.isWhole_whole _) fsV (Memref.isWhole_whole _) daV (Memref.isWhole_whole _) dbV (Memref.isWhole_whole _) lV (Memref.isWhole_whole _) aV (Memref.isWhole_whole _) bV (Memref.isWhole_whole _) r1V (Memref.isWhole_whole _) r2V (Memref.isWhole_whole _) p1V (Memref.isWhole_whole _) p2V (Memref.isWhole_whole _) q1V (Memref.isWhole_whole _) q2V (Memref.isWhole_whole _) cc0_scratch9 cc0_scratch10 cc0_scratch11 cc0_scratch12 cc0_scratch13 cc0_scratch14 cc0_scratch15 cc0_scratch16 cc0_scoped0 cc0_scoped1 cc0_scoped2)
          fun _ => iprop(part X M1 M2 FT FS d c i (OUT (M1 d) (X d) (FT d)) (OUT (M2 d) (X d) (FS d))
            ∗ scopedBufs (V d (cV (coordsV c i)) (jV (coordsV c i))) ∗ scopedSems0 (V d (cV (coordsV c i)) (jV (coordsV c i)))
            ∗ ∃ W', ⌜∀ p ∈ W', p ∈ W ∨ p.2 = none⌝ ∗ owes (V d (cV (coordsV c i)) (jV (coordsV c i))) O W') := by
  rw [(K (F := F)).scopedBufs_V hF d (cV (coordsV c i)) (jV (coordsV c i)), SparseCore.Cfg.scopedSems0_V (Val := Elt F) d (cV (coordsV c i)) (jV (coordsV c i)), ownSems0_V, ownBufs_V]
  unfold part
  iintro ⟨#Hlv, -, ⟨Hh, Hd⟩, ⟨Hbufs, Hbr⟩, ⟨Hsems, Hsr⟩, HO⟩
  ihave Hmw := (show levAts (K (F := F)).L (K (F := F)).lev ⊢ Transfers.MayWaits (V d (cV (coordsV c i)) (jV (coordsV c i))) (default : HIx 1) O from
    (K (F := F)).mayWaits_none (thr := V d (cV (coordsV c i)) (jV (coordsV c i))) hO) $$ Hlv
  ihave Hbl := (blanks_of_dones d (coordsV c i) (A0 d) (B0 d)) $$ Hd
  iapply (tile_run d (coordsV c i) (qs c i) (X d) (M1 d) (M2 d) (FT d) (FS d) (hX d) O W _)
  isplitl [Hmw]; · iexact Hmw
  isplitl [Hh]; · iexact Hh
  isplitl [Hbl]; · iexact Hbl
  isplitl [Hbufs]; · iexact Hbufs
  isplitl [Hsems]; · iexact Hsems
  isplitl [HO]; · iexact HO
  iintro ⟨Hh, Hd, Hbufs, Hsems, HO⟩
  isplitl [Hh Hd]
  · isplitl [Hh]; · iexact Hh
    iexact Hd
  isplitl [Hbufs Hbr]
  · isplitl [Hbufs]; · iexact Hbufs
    iexact Hbr
  isplitl [Hsems Hsr]
  · isplitl [Hsems]; · iexact Hsems
    iexact Hsr
  iexact HO

theorem defs₀_vector (c : Fin τ.nSC) (s : Fin τ.nSub) :
    defs₀ (F := F) (.scVector c s) 0 ()
      = SparseCore.onTile hcore0 hsub0 (fun c s => cc0_body (coordsV c s) m1V (Memref.isWhole_whole _) m2V (Memref.isWhole_whole _) ixV (Memref.isWhole_whole _) ftV (Memref.isWhole_whole _) fsV (Memref.isWhole_whole _) daV (Memref.isWhole_whole _) dbV (Memref.isWhole_whole _) lV (Memref.isWhole_whole _) aV (Memref.isWhole_whole _) bV (Memref.isWhole_whole _) r1V (Memref.isWhole_whole _) r2V (Memref.isWhole_whole _) p1V (Memref.isWhole_whole _) p2V (Memref.isWhole_whole _) q1V (Memref.isWhole_whole _) q2V (Memref.isWhole_whole _) cc0_scratch9 cc0_scratch10 cc0_scratch11 cc0_scratch12 cc0_scratch13 cc0_scratch14 cc0_scratch15 cc0_scratch16 cc0_scoped0 cc0_scoped1 cc0_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hX : ∀ d x, (X d x : BitVec 32).toNat < 1000000) :
    (K (F := F)).TileObl (D (F := F)) 𝒱 (P X M1 M2 FT FS A0 B0) v₀ 0 := by
  intro d c i O W hO _ _
  simp only [show (P X M1 M2 FT FS A0 B0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X M1 M2 FT FS A0 B0 hF hX d ⟨_, hci.1⟩ ⟨_, hci.2⟩ O W hO).trans (wp_mono frame _ _ fun _ => obl_post)

theorem vec_id (A B : sProp 𝕄) : A ⊢ |={Set.univ}=> iprop(A ∗ (B -∗ B)) := by
  iintro H; imodintro
  isplitl [H]; · iexact H
  iintro H; iexact H

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

seal part OUT parts

theorem vecSplit : (K (F := F)).VecSplit' (P X M1 M2 FT FS A0 B0) 0 := by
  intro d c
  show parts X M1 M2 FT FS d (Fin.cast nCore_zero c) (A0 d) (B0 d) ⊢ |={Set.univ}=> iprop(
      (bigSep Finset.univ fun i : Fin ((K (F := F)).nSub 0) => part X M1 M2 FT FS d (Fin.cast nCore_zero c) (Fin.cast nSub_zero i) (A0 d) (B0 d))
      ∗ ((bigSep Finset.univ fun i : Fin ((K (F := F)).nSub 0) =>
          part X M1 M2 FT FS d (Fin.cast nCore_zero c) (Fin.cast nSub_zero i) (OUT (M1 d) (X d) (FT d)) (OUT (M2 d) (X d) (FS d)))
        -∗ parts X M1 M2 FT FS d (Fin.cast nCore_zero c) (OUT (M1 d) (X d) (FT d)) (OUT (M2 d) (X d) (FS d))))
  rw [parts_def, parts_def, bigSep_tasks (F := F) (fun i => part X M1 M2 FT FS d (Fin.cast nCore_zero c) i (A0 d) (B0 d)),
    bigSep_tasks (F := F) (fun i => part X M1 M2 FT FS d (Fin.cast nCore_zero c) i (OUT (M1 d) (X d) (FT d)) (OUT (M2 d) (X d) (FS d)))]
  exact vec_id _ _

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st_parts (d : Dev nD) : (bigSep Finset.univ fun c : Fin ((K (F := F)).nCore 0) => (P X M1 M2 FT FS A0 B0).st 0 d c)
    = bigSep Finset.univ fun c : Fin 2 => parts X M1 M2 FT FS d c (A0 d) (B0 d) :=
  bigSep_cores (fun c => parts X M1 M2 FT FS d c (A0 d) (B0 d))

theorem dn_parts (d : Dev nD) : (bigSep Finset.univ fun c : Fin ((K (F := F)).nCore 0) => (P X M1 M2 FT FS A0 B0).dn 0 d c)
    = bigSep Finset.univ fun c : Fin 2 => parts X M1 M2 FT FS d c (OUT (M1 d) (X d) (FT d)) (OUT (M2 d) (X d) (FS d)) :=
  bigSep_cores (fun c => parts X M1 M2 FT FS d c (OUT (M1 d) (X d) (FT d)) (OUT (M2 d) (X d) (FS d)))

end Parts

end Cert.Proof.KI

end
-- ==== Proof.KI.Blk.lean ====
/-
  The loss kernel's body.
-/
module

public import proofs.«01_k».proof.Proof.KI.Base
public import Idealize.ShloMosaic.Lib.WritesUnit
public import Idealize.ShloMosaic.Lib.VecWindow

@[expose] public section

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves
open Idealize.ShloMosaic.ValueIdx

variable {F : FTy → Type} [FloatOps F] [Named F]

local notation "𝕄" => MT nD τ sig (HIx 1) (Elt F) ℕ UU ℕ

local notation "m1V" => (Memref.whole Cert.KernelIdeal.main_arg4_scv : Memref Cert.KernelIdeal.sig Kind.scVector Space.hbm Cert.KernelIdeal.S1000000x128 EltTy.f32)
local notation "m2V" => (Memref.whole Cert.KernelIdeal.main_arg5_scv : Memref Cert.KernelIdeal.sig Kind.scVector Space.hbm Cert.KernelIdeal.S1000000x128 EltTy.f32)
local notation "ixV" => (Memref.whole Cert.KernelIdeal.main_v0_scv : Memref Cert.KernelIdeal.sig Kind.scVector Space.hbm Cert.KernelIdeal.S524288 EltTy.i32)
local notation "ftV" => (Memref.whole Cert.KernelIdeal.main_arg1_scv : Memref Cert.KernelIdeal.sig Kind.scVector Space.hbm Cert.KernelIdeal.S1024x128 EltTy.f32)
local notation "fsV" => (Memref.whole Cert.KernelIdeal.main_arg0_scv : Memref Cert.KernelIdeal.sig Kind.scVector Space.hbm Cert.KernelIdeal.S1024x128 EltTy.f32)
local notation "daV" => (Memref.whole Cert.KernelIdeal.main_v1_0_scv : Memref Cert.KernelIdeal.sig Kind.scVector Space.hbm Cert.KernelIdeal.S8388608 EltTy.f32)
local notation "dbV" => (Memref.whole Cert.KernelIdeal.main_v1_1_scv : Memref Cert.KernelIdeal.sig Kind.scVector Space.hbm Cert.KernelIdeal.S8388608 EltTy.f32)
local notation "lV" => (Memref.whole Cert.KernelIdeal.cc0_scratch0 : Memref Cert.KernelIdeal.sig Kind.scVector Space.vmem Cert.KernelIdeal.S16384 EltTy.i32)
local notation "aV" => (Memref.whole Cert.KernelIdeal.cc0_scratch1 : Memref Cert.KernelIdeal.sig Kind.scVector Space.vmem Cert.KernelIdeal.S32x128 EltTy.f32)
local notation "bV" => (Memref.whole Cert.KernelIdeal.cc0_scratch2 : Memref Cert.KernelIdeal.sig Kind.scVector Space.vmem Cert.KernelIdeal.S32x128 EltTy.f32)
local notation "r1V" => (Memref.whole Cert.KernelIdeal.cc0_scratch3 : Memref Cert.KernelIdeal.sig Kind.scVector Space.vmem Cert.KernelIdeal.S2x128x128 EltTy.f32)
local notation "r2V" => (Memref.whole Cert.KernelIdeal.cc0_scratch4 : Memref Cert.KernelIdeal.sig Kind.scVector Space.vmem Cert.KernelIdeal.S2x128x128 EltTy.f32)
local notation "p1V" => (Memref.whole Cert.KernelIdeal.cc0_scratch5 : Memref Cert.KernelIdeal.sig Kind.scVector Space.vmem Cert.KernelIdeal.S2048 EltTy.f32)
local notation "p2V" => (Memref.whole Cert.KernelIdeal.cc0_scratch6 : Memref Cert.KernelIdeal.sig Kind.scVector Space.vmem Cert.KernelIdeal.S2048 EltTy.f32)
local notation "q1V" => (Memref.whole Cert.KernelIdeal.cc0_scratch7 : Memref Cert.KernelIdeal.sig Kind.scVector Space.vmem Cert.KernelIdeal.S2048 EltTy.f32)
local notation "q2V" => (Memref.whole Cert.KernelIdeal.cc0_scratch8 : Memref Cert.KernelIdeal.sig Kind.scVector Space.vmem Cert.KernelIdeal.S2048 EltTy.f32)

local notation "m1S" => (Memref.slice m1V (Rect.unit (s := S1000000x128) ![0, 0] S1000000x128.size inb_S1000000x128_S1000000x128_0_0) (fun _ => rfl) : Memref Cert.KernelIdeal.sig Kind.scVector Space.hbm Cert.KernelIdeal.S1000000x128 EltTy.f32)
local notation "m2S" => (Memref.slice m2V (Rect.unit (s := S1000000x128) ![0, 0] S1000000x128.size inb_S1000000x128_S1000000x128_0_0) (fun _ => rfl) : Memref Cert.KernelIdeal.sig Kind.scVector Space.hbm Cert.KernelIdeal.S1000000x128 EltTy.f32)

/-! ## The body of the loss kernel at one grid point -/

/-- The memory the body works on: a buffer read through a memref, held whole. -/
abbrev holds (c : Dev nD) {sp : Space} {S : Shape} {e : EltTy} (M : Memref sig .tc sp S e)
    (f : Buf (Elt F) (M.view.loc (c : Thread nD τ))) : sProp 𝕄 :=
  M.view.loc (c : Thread nD τ) ↦{fullShare} f

/-- The two accumulators, as contents of the scalar memory. -/
def sc2 (p : F .f32 × F .f32) : S2.Idx → F .f32 := fun x => if (x 0).val = 0 then p.1 else p.2

/-- What a block of the second phase makes of the loss so far: the block's terms from the two normalisers, subtracted. -/
def fin1 (x2 x3 : Vec F S16384x128 .f32) (x4 : Vec F S128x128 .f32) (p : F .f32 × F .f32) (x5 : Vec F S1x1 .f32) : Vec F S1x1 .f32 :=
  k1_pay8 k1_pay13 k1_pay14 x3 x4 (k1_pay9 k1_pay13 k1_pay14 (k1_pay1 x2 x4) (k1_pay3 x2 x4) p.1) (k1_pay10 p.2)
    (k1_pay11 (k1_pay4 x3 x4) p.2) (k1_pay12 (k1_pay4 x3 x4) p.2) (Named.named κ "log_mpn" 0xC0F28853#32) x5

/-- What a block of the first phase makes of the two accumulators. -/
def acc1 (x2 x3 : Vec F S16384x128 .f32) (x4 : Vec F S128x128 .f32) (p : F .f32 × F .f32) : F .f32 × F .f32 :=
  (k1_pay6 x2 x4 p.1, k1_pay7 x3 x4 p.2)

/-- Two stores, one to each word, are read back as the pair. -/
theorem read_two (v : View sig .tc .smem S2 .f32) (f : v.ty.Contents (Elt F)) (a b : F .f32) (L : List (View.Piece (Elt F) S2 .f32)) :
    v.read (Elt F) (v.writes (Elt F) f (⟨Rect.unit (s := S2) ![1] ![1] inb_S2_S1_1, fun _ => b⟩ :: ⟨Rect.unit (s := S2) ![0] ![1] inb_S2_S1_0, fun _ => a⟩ :: L))
      = sc2 (a, b) := by
  funext x
  have hx : (x 0).val < 2 := (x 0).isLt
  unfold sc2
  rw [View.read_writes_cons_unit v f inb_S2_S1_1 _ _ x (off' := ![1]) rfl]
  by_cases h0 : (x 0).val = 0
  · rw [dif_neg (fun h => absurd (h 0).1 (by show ¬ (1 ≤ (x 0).val); omega)), View.read_writes_cons_unit v f inb_S2_S1_0 _ _ x (off' := ![0]) rfl,
      dif_pos (fun k => by fin_cases k; exact ⟨Nat.zero_le _, by show (x 0).val < 0 + 1; omega⟩), if_pos h0]
  · rw [dif_pos (fun k => by fin_cases k; exact ⟨by show 1 ≤ (x 0).val; omega, by show (x 0).val < 1 + 1; omega⟩), if_neg h0]

theorem body_first (c : Dev nD) (i : grid1.Coords) (hc1 : k1_cond1 i = 1#1)
    (hc2 : Scalar.cmpi .ne (Scalar.extui (Scalar.cmpi .eq (BitVec.ofNat 32 (i 0).val) 0#32) : BitVec 32) 0#32 = 1#1) (hc3 : ¬ k1_cond3 i = 1#1)
    (a2 : Memref sig .tc .vmem S16384x128 .f32) (h2 : a2.IsWhole) (a3 : Memref sig .tc .vmem S16384x128 .f32) (h3 : a3.IsWhole)
    (a4 : Memref sig .tc .vmem S128x128 .f32) (h4 : a4.IsWhole) (a5 : Memref sig .tc .vmem S1x1 .f32) (h5 : a5.IsWhole)
    (a6 : Memref sig .tc .smem S2 .f32) (h6 : a6.IsWhole)
    (f2 : Buf (Elt F) (a2.view.loc (c : Thread nD τ))) (f3 : Buf (Elt F) (a3.view.loc (c : Thread nD τ)))
    (f4 : Buf (Elt F) (a4.view.loc (c : Thread nD τ))) (f5 : Buf (Elt F) (a5.view.loc (c : Thread nD τ)))
    (f6 : Buf (Elt F) (a6.view.loc (c : Thread nD τ))) (x2 x3 : Vec F S16384x128 .f32) (x4 : Vec F S128x128 .f32)
    (x5 : Vec F S1x1 .f32) (p : F .f32 × F .f32) (e2 : a2.view.read (Elt F) f2 = x2) (e3 : a3.view.read (Elt F) f3 = x3)
    (e4 : a4.view.read (Elt F) f4 = x4) (e5 : a5.view.read (Elt F) f5 = x5) (e6 : a6.view.read (Elt F) f6 = sc2 p) (Q : PUnit → sProp 𝕄) :
    iprop(holds c a2 f2 ∗ holds c a3 f3 ∗ holds c a4 f4 ∗ holds c a5 f5 ∗ holds c a6 f6
        ∗ ((holds c a2 f2 ∗ holds c a3 f3 ∗ holds c a4 f4 ∗ (∃ f, ⌜a5.view.read (Elt F) f = k1_pay5⌝ ∗ holds c a5 f)
            ∗ (∃ f, ⌜a6.view.read (Elt F) f = sc2 (acc1 x2 x3 x4 (Scalar.ofBits .f32 0x00000000#32, Scalar.ofBits .f32 0x00000000#32))⌝ ∗ holds c a6 f)) -∗ Q ⟨⟩))
      ⊢ wp frame (wpE (defs₀ (F := F)) 𝒱₀ (c : Thread nD τ) none) Set.univ (cc1_body i a2 h2 a3 h3 a4 h4 a5 h5 a6 h6) Q := by
  iintro ⟨H2, H3, H4, H5, H6, Hk⟩
  sl_exec!
  sl_step
  iapply Hk
  isplitl [H2]; · iexact H2
  isplitl [H3]; · iexact H3
  isplitl [H4]; · iexact H4
  isplitl [H5]
  · iexists _
    isplitr; swap; · iexact H5
    ipureintro
    sl_unfold_words
    rw [View.read_writes_full]
  · iexists _
    isplitr; swap; · iexact H6
    ipureintro
    sl_unfold_words
    have r2 : a2.view.readAt (Elt F) (Rect.unit (s := S16384x128) ![0, 0] ![16384, 128] inb_S16384x128_S16384x128_0_0).toLoadRect f2 = x2 := (View.readAt_full _ _ _).trans e2
    have r3 : a3.view.readAt (Elt F) (Rect.unit (s := S16384x128) ![0, 0] ![16384, 128] inb_S16384x128_S16384x128_0_0).toLoadRect f3 = x3 := (View.readAt_full _ _ _).trans e3
    have r4 : a4.view.readAt (Elt F) (Rect.unit (s := S128x128) ![0, 0] ![128, 128] inb_S128x128_S128x128_0_0).toLoadRect f4 = x4 := (View.readAt_full _ _ _).trans e4
    have r5 : a5.view.readAt (Elt F) (Rect.unit (s := S1x1) ![0, 0] ![1, 1] inb_S1x1_S1x1_0_0).toLoadRect f5 = x5 := (View.readAt_full _ _ _).trans e5
    simp only [r2, r3, r4]
    exact read_two _ _ _ _ _

theorem body_acc (c : Dev nD) (i : grid1.Coords) (hc1 : ¬ k1_cond1 i = 1#1)
    (hc2 : Scalar.cmpi .ne (Scalar.extui (Scalar.cmpi .eq (BitVec.ofNat 32 (i 0).val) 0#32) : BitVec 32) 0#32 = 1#1) (hc3 : ¬ k1_cond3 i = 1#1)
    (a2 : Memref sig .tc .vmem S16384x128 .f32) (h2 : a2.IsWhole) (a3 : Memref sig .tc .vmem S16384x128 .f32) (h3 : a3.IsWhole)
    (a4 : Memref sig .tc .vmem S128x128 .f32) (h4 : a4.IsWhole) (a5 : Memref sig .tc .vmem S1x1 .f32) (h5 : a5.IsWhole)
    (a6 : Memref sig .tc .smem S2 .f32) (h6 : a6.IsWhole)
    (f2 : Buf (Elt F) (a2.view.loc (c : Thread nD τ))) (f3 : Buf (Elt F) (a3.view.loc (c : Thread nD τ)))
    (f4 : Buf (Elt F) (a4.view.loc (c : Thread nD τ))) (f5 : Buf (Elt F) (a5.view.loc (c : Thread nD τ)))
    (f6 : Buf (Elt F) (a6.view.loc (c : Thread nD τ))) (x2 x3 : Vec F S16384x128 .f32) (x4 : Vec F S128x128 .f32)
    (x5 : Vec F S1x1 .f32) (p : F .f32 × F .f32) (e2 : a2.view.read (Elt F) f2 = x2) (e3 : a3.view.read (Elt F) f3 = x3)
    (e4 : a4.view.read (Elt F) f4 = x4) (e5 : a5.view.read (Elt F) f5 = x5) (e6 : a6.view.read (Elt F) f6 = sc2 p) (Q : PUnit → sProp 𝕄) :
    iprop(holds c a2 f2 ∗ holds c a3 f3 ∗ holds c a4 f4 ∗ holds c a5 f5 ∗ holds c a6 f6
        ∗ ((holds c a2 f2 ∗ holds c a3 f3 ∗ holds c a4 f4 ∗ (∃ f, ⌜a5.view.read (Elt F) f = x5⌝ ∗ holds c a5 f)
            ∗ (∃ f, ⌜a6.view.read (Elt F) f = sc2 (acc1 x2 x3 x4 p)⌝ ∗ holds c a6 f)) -∗ Q ⟨⟩))
      ⊢ wp frame (wpE (defs₀ (F := F)) 𝒱₀ (c : Thread nD τ) none) Set.univ (cc1_body i a2 h2 a3 h3 a4 h4 a5 h5 a6 h6) Q := by
  iintro ⟨H2, H3, H4, H5, H6, Hk⟩
  sl_exec!
  sl_step
  iapply Hk
  isplitl [H2]; · iexact H2
  isplitl [H3]; · iexact H3
  isplitl [H4]; · iexact H4
  isplitl [H5]
  · iexists _
    isplitr; swap; · iexact H5
    ipureintro
    exact e5
  · iexists _
    isplitr; swap; · iexact H6
    ipureintro
    sl_unfold_words
    have r2 : a2.view.readAt (Elt F) (Rect.unit (s := S16384x128) ![0, 0] ![16384, 128] inb_S16384x128_S16384x128_0_0).toLoadRect f2 = x2 := (View.readAt_full _ _ _).trans e2
    have r3 : a3.view.readAt (Elt F) (Rect.unit (s := S16384x128) ![0, 0] ![16384, 128] inb_S16384x128_S16384x128_0_0).toLoadRect f3 = x3 := (View.readAt_full _ _ _).trans e3
    have r4 : a4.view.readAt (Elt F) (Rect.unit (s := S128x128) ![0, 0] ![128, 128] inb_S128x128_S128x128_0_0).toLoadRect f4 = x4 := (View.readAt_full _ _ _).trans e4
    have r5 : a5.view.readAt (Elt F) (Rect.unit (s := S1x1) ![0, 0] ![1, 1] inb_S1x1_S1x1_0_0).toLoadRect f5 = x5 := (View.readAt_full _ _ _).trans e5
    have q0 : ∀ x, a6.view.readAt (Elt F) (Rect.unit (s := S2) ![0] ![1] inb_S2_S1_0).toLoadRect f6 x = p.1 := fun x => (congrFun e6 _).trans (if_pos (by have := (x 0).isLt; change (x 0).val < 1 at this; change 0 + 1 * (x 0).val = 0; omega))
    have q1 : ∀ x, a6.view.readAt (Elt F) (Rect.unit (s := S2) ![1] ![1] inb_S2_S1_1).toLoadRect f6 x = p.2 := fun x => (congrFun e6 _).trans (if_neg (by change ¬ (1 + 1 * (x 0).val = 0); omega))
    simp only [r2, r3, r4, q0, q1]
    exact read_two _ _ _ _ _

theorem body_fin (c : Dev nD) (i : grid1.Coords) (hc1 : ¬ k1_cond1 i = 1#1)
    (hc2 : ¬ Scalar.cmpi .ne (Scalar.extui (Scalar.cmpi .eq (BitVec.ofNat 32 (i 0).val) 0#32) : BitVec 32) 0#32 = 1#1) (hc3 : k1_cond3 i = 1#1)
    (a2 : Memref sig .tc .vmem S16384x128 .f32) (h2 : a2.IsWhole) (a3 : Memref sig .tc .vmem S16384x128 .f32) (h3 : a3.IsWhole)
    (a4 : Memref sig .tc .vmem S128x128 .f32) (h4 : a4.IsWhole) (a5 : Memref sig .tc .vmem S1x1 .f32) (h5 : a5.IsWhole)
    (a6 : Memref sig .tc .smem S2 .f32) (h6 : a6.IsWhole)
    (f2 : Buf (Elt F) (a2.view.loc (c : Thread nD τ))) (f3 : Buf (Elt F) (a3.view.loc (c : Thread nD τ)))
    (f4 : Buf (Elt F) (a4.view.loc (c : Thread nD τ))) (f5 : Buf (Elt F) (a5.view.loc (c : Thread nD τ)))
    (f6 : Buf (Elt F) (a6.view.loc (c : Thread nD τ))) (x2 x3 : Vec F S16384x128 .f32) (x4 : Vec F S128x128 .f32)
    (x5 : Vec F S1x1 .f32) (p : F .f32 × F .f32) (e2 : a2.view.read (Elt F) f2 = x2) (e3 : a3.view.read (Elt F) f3 = x3)
    (e4 : a4.view.read (Elt F) f4 = x4) (e5 : a5.view.read (Elt F) f5 = x5) (e6 : a6.view.read (Elt F) f6 = sc2 p) (Q : PUnit → sProp 𝕄) :
    iprop(holds c a2 f2 ∗ holds c a3 f3 ∗ holds c a4 f4 ∗ holds c a5 f5 ∗ holds c a6 f6
        ∗ ((holds c a2 f2 ∗ holds c a3 f3 ∗ holds c a4 f4 ∗ (∃ f, ⌜a5.view.read (Elt F) f = (fin1 x2 x3 x4 p x5)⌝ ∗ holds c a5 f)
            ∗ (∃ f, ⌜a6.view.read (Elt F) f = sc2 p⌝ ∗ holds c a6 f)) -∗ Q ⟨⟩))
      ⊢ wp frame (wpE (defs₀ (F := F)) 𝒱₀ (c : Thread nD τ) none) Set.univ (cc1_body i a2 h2 a3 h3 a4 h4 a5 h5 a6 h6) Q := by
  iintro ⟨H2, H3, H4, H5, H6, Hk⟩
  sl_exec!
  sl_step
  iapply Hk
  isplitl [H2]; · iexact H2
  isplitl [H3]; · iexact H3
  isplitl [H4]; · iexact H4
  isplitl [H5]
  · iexists _
    isplitr; swap; · iexact H5
    ipureintro
    sl_unfold_words
    rw [View.read_writes_full]
    have r2 : a2.view.readAt (Elt F) (Rect.unit (s := S16384x128) ![0, 0] ![16384, 128] inb_S16384x128_S16384x128_0_0).toLoadRect f2 = x2 := (View.readAt_full _ _ _).trans e2
    have r3 : a3.view.readAt (Elt F) (Rect.unit (s := S16384x128) ![0, 0] ![16384, 128] inb_S16384x128_S16384x128_0_0).toLoadRect f3 = x3 := (View.readAt_full _ _ _).trans e3
    have r4 : a4.view.readAt (Elt F) (Rect.unit (s := S128x128) ![0, 0] ![128, 128] inb_S128x128_S128x128_0_0).toLoadRect f4 = x4 := (View.readAt_full _ _ _).trans e4
    have r5 : a5.view.readAt (Elt F) (Rect.unit (s := S1x1) ![0, 0] ![1, 1] inb_S1x1_S1x1_0_0).toLoadRect f5 = x5 := (View.readAt_full _ _ _).trans e5
    simp only [r2, r3, r4, r5]
    have q0 : ∀ x, a6.view.readAt (Elt F) (Rect.unit (s := S2) ![0] ![1] inb_S2_S1_0).toLoadRect f6 x = p.1 := fun x => (congrFun e6 _).trans (if_pos (by have := (x 0).isLt; change (x 0).val < 1 at this; change 0 + 1 * (x 0).val = 0; omega))
    have q1 : ∀ x, a6.view.readAt (Elt F) (Rect.unit (s := S2) ![1] ![1] inb_S2_S1_1).toLoadRect f6 x = p.2 := fun x => (congrFun e6 _).trans (if_neg (by change ¬ (1 + 1 * (x 0).val = 0); omega))
    simp only [q0, q1]
    rfl
  · iexists _
    isplitr; swap; · iexact H6
    ipureintro
    exact e6

end Cert.Proof.KI

end
-- ==== Proof.KI.Region.lean ====
/-
  The region of the loss kernel.
-/
module

public import proofs.«01_k».proof.Proof.KI.Blk
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.FrameBody

@[expose] public section

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves
open Idealize.ShloMosaic.ValueIdx

variable {F : FTy → Type} [FloatOps F] [Named F]

local notation "𝕄" => MT nD τ sig (HIx 1) (Elt F) ℕ UU ℕ

local notation "m1V" => (Memref.whole Cert.KernelIdeal.main_arg4_scv : Memref Cert.KernelIdeal.sig Kind.scVector Space.hbm Cert.KernelIdeal.S1000000x128 EltTy.f32)
local notation "m2V" => (Memref.whole Cert.KernelIdeal.main_arg5_scv : Memref Cert.KernelIdeal.sig Kind.scVector Space.hbm Cert.KernelIdeal.S1000000x128 EltTy.f32)
local notation "ixV" => (Memref.whole Cert.KernelIdeal.main_v0_scv : Memref Cert.KernelIdeal.sig Kind.scVector Space.hbm Cert.KernelIdeal.S524288 EltTy.i32)
local notation "ftV" => (Memref.whole Cert.KernelIdeal.main_arg1_scv : Memref Cert.KernelIdeal.sig Kind.scVector Space.hbm Cert.KernelIdeal.S1024x128 EltTy.f32)
local notation "fsV" => (Memref.whole Cert.KernelIdeal.main_arg0_scv : Memref Cert.KernelIdeal.sig Kind.scVector Space.hbm Cert.KernelIdeal.S1024x128 EltTy.f32)
local notation "daV" => (Memref.whole Cert.KernelIdeal.main_v1_0_scv : Memref Cert.KernelIdeal.sig Kind.scVector Space.hbm Cert.KernelIdeal.S8388608 EltTy.f32)
local notation "dbV" => (Memref.whole Cert.KernelIdeal.main_v1_1_scv : Memref Cert.KernelIdeal.sig Kind.scVector Space.hbm Cert.KernelIdeal.S8388608 EltTy.f32)
local notation "lV" => (Memref.whole Cert.KernelIdeal.cc0_scratch0 : Memref Cert.KernelIdeal.sig Kind.scVector Space.vmem Cert.KernelIdeal.S16384 EltTy.i32)
local notation "aV" => (Memref.whole Cert.KernelIdeal.cc0_scratch1 : Memref Cert.KernelIdeal.sig Kind.scVector Space.vmem Cert.KernelIdeal.S32x128 EltTy.f32)
local notation "bV" => (Memref.whole Cert.KernelIdeal.cc0_scratch2 : Memref Cert.KernelIdeal.sig Kind.scVector Space.vmem Cert.KernelIdeal.S32x128 EltTy.f32)
local notation "r1V" => (Memref.whole Cert.KernelIdeal.cc0_scratch3 : Memref Cert.KernelIdeal.sig Kind.scVector Space.vmem Cert.KernelIdeal.S2x128x128 EltTy.f32)
local notation "r2V" => (Memref.whole Cert.KernelIdeal.cc0_scratch4 : Memref Cert.KernelIdeal.sig Kind.scVector Space.vmem Cert.KernelIdeal.S2x128x128 EltTy.f32)
local notation "p1V" => (Memref.whole Cert.KernelIdeal.cc0_scratch5 : Memref Cert.KernelIdeal.sig Kind.scVector Space.vmem Cert.KernelIdeal.S2048 EltTy.f32)
local notation "p2V" => (Memref.whole Cert.KernelIdeal.cc0_scratch6 : Memref Cert.KernelIdeal.sig Kind.scVector Space.vmem Cert.KernelIdeal.S2048 EltTy.f32)
local notation "q1V" => (Memref.whole Cert.KernelIdeal.cc0_scratch7 : Memref Cert.KernelIdeal.sig Kind.scVector Space.vmem Cert.KernelIdeal.S2048 EltTy.f32)
local notation "q2V" => (Memref.whole Cert.KernelIdeal.cc0_scratch8 : Memref Cert.KernelIdeal.sig Kind.scVector Space.vmem Cert.KernelIdeal.S2048 EltTy.f32)

local notation "m1S" => (Memref.slice m1V (Rect.unit (s := S1000000x128) ![0, 0] S1000000x128.size inb_S1000000x128_S1000000x128_0_0) (fun _ => rfl) : Memref Cert.KernelIdeal.sig Kind.scVector Space.hbm Cert.KernelIdeal.S1000000x128 EltTy.f32)
local notation "m2S" => (Memref.slice m2V (Rect.unit (s := S1000000x128) ![0, 0] S1000000x128.size inb_S1000000x128_S1000000x128_0_0) (fun _ => rfl) : Memref Cert.KernelIdeal.sig Kind.scVector Space.hbm Cert.KernelIdeal.S1000000x128 EltTy.f32)

/-! ## The region of the loss kernel: eight grid points, two phases of four blocks -/

section Data

variable (V : (c : Dev nD) → (b : Ref sig .tc) → Buf (Elt F) ((c : Thread nD τ).loc b))

theorem lt_N1 (n : ℕ) : n % 8 < cfg1.N := by show n % 8 < grid1.N; rw [N_1]; omega

/-- The block of the first table's lanes at point `n`, of the second's, and the segment matrix. -/
def blkA (c : Dev nD) (n : ℕ) : Vec F S16384x128 .f32 := ((cfg1.win 0).blk ⟨n % 8, lt_N1 n⟩).view.read (Elt F) (V c main_v2)
def blkB (c : Dev nD) (n : ℕ) : Vec F S16384x128 .f32 := ((cfg1.win 1).blk ⟨n % 8, lt_N1 n⟩).view.read (Elt F) (V c main_v3)
def blkS (c : Dev nD) (n : ℕ) : Vec F S128x128 .f32 := ((cfg1.win 2).blk ⟨n % 8, lt_N1 n⟩).view.read (Elt F) (V c main_cst)

/-- The accumulators before point `n`. -/
def accAt (c : Dev nD) : ℕ → F .f32 × F .f32
  | 0 => (Scalar.ofBits .f32 0x00000000#32, Scalar.ofBits .f32 0x00000000#32)
  | n + 1 => if n < 4 then acc1 (blkA V c n) (blkB V c n) (blkS V c n) (accAt c n) else accAt c n

/-- The loss before point `n`, from point 1 on. -/
def outAt (c : Dev nD) : ℕ → Vec F S1x1 .f32
  | 0 => k1_pay5
  | n + 1 => if n < 4 then k1_pay5 else fin1 (blkA V c n) (blkB V c n) (blkS V c n) (accAt V c n) (outAt c n)

/-- The invariant: the accumulators at what the points so far made of them; before the first, at anything. -/
def Φ1 (c : Dev nD) (n : ℕ) : sProp 𝕄 :=
  if n = 0 then iprop(∃ f : Buf (Elt F) ((c : Thread nD τ).loc cc1_scratch0), (c : Thread nD τ).loc cc1_scratch0 ↦{fullShare} f)
  else (c : Thread nD τ).loc cc1_scratch0 ↦{fullShare} (sc2 (accAt V c n) : Buf (Elt F) ((c : Thread nD τ).loc cc1_scratch0))

/-- The pairs the core's waits have recorded when the region begins: all of them at or below the level of the one call made. -/
def rec1 (c : Dev nD) : Set (SemLoc sig × HIx 1) := {p | (K (F := F)).lev ((T c : Thread nD τ), p.1) p.2 ≤ 8}

def dat (c : Dev nD) : Pipeline.Dat τ (Elt F) (HIx 1) ℕ UU ℕ cfg1 c where
  A w := V c (Pipeline.arrRef spec1 w)
  after w t := match w with
    | ⟨0, _⟩ => blkA V c t.val
    | ⟨1, _⟩ => blkB V c t.val
    | ⟨2, _⟩ => blkS V c t.val
    | ⟨3, _⟩ => outAt V c (t.val + 1)
  Φ t := Φ1 V c t.val
  q _ := fullShare
  owed _ := 0
  recorded _ := rec1 (F := F) c

theorem val_mod (t : Fin cfg1.N) : (⟨t.val % 8, lt_N1 t.val⟩ : Fin cfg1.N) = t :=
  Fin.ext (Nat.mod_eq_of_lt (lt_of_lt_of_eq t.isLt N_1))

theorem before0 (c : Dev nD) (t : Fin cfg1.N) (d) : (dat V c).before 0 t d = blkA V c t.val := by
  rw [Pipeline.Dat.before_fetched _ _ _ (fetch1_0 t)]
  unfold blkA; rw [val_mod t]; rfl

theorem before1 (c : Dev nD) (t : Fin cfg1.N) (d) : (dat V c).before 1 t d = blkB V c t.val := by
  rw [Pipeline.Dat.before_fetched _ _ _ (fetch1_1 t)]
  unfold blkB; rw [val_mod t]; rfl

theorem before2 (c : Dev nD) (t : Fin cfg1.N) (d) : (dat V c).before 2 t d = blkS V c t.val := by
  rw [Pipeline.Dat.before_in_eq_fetched (dat V c) 2 rfl (fun _ => rfl) (fun _ _ _ => rfl)
    (fun t => show blkS V c t.val = _ by unfold blkS; rw [val_mod t]; rfl)]
  unfold blkS; rw [val_mod t]; rfl

theorem first_iff : ∀ t : Fin grid1.N, k1_cond1 (grid1.coords t) = 1#1 ↔ t.val = 0 := by decide
theorem phase_iff : ∀ t : Fin grid1.N, Scalar.cmpi .ne (Scalar.extui (Scalar.cmpi .eq (BitVec.ofNat 32 (grid1.coords t 0).val) 0#32) : BitVec 32) 0#32 = 1#1 ↔ t.val < 4 := by decide
theorem second_iff : ∀ t : Fin grid1.N, k1_cond3 (grid1.coords t) = 1#1 ↔ 4 ≤ t.val := by decide
theorem idle_iff : ∀ t : Fin grid1.N, idle1 3 (grid1.coords t) = true ↔ 1 ≤ t.val ∧ t.val < 4 := by decide

theorem left_live (c : Dev nD) (t : Fin cfg1.N) (h : idle1 3 (grid1.coords t) = false) (d) : (dat V c).left 3 t d = outAt V c (t.val + 1) := by
  unfold Pipeline.Dat.left
  rw [show cfg1.idle 3 (cfg1.grid.coords t) = false from h]
  rfl

theorem left_idle (c : Dev nD) (t : Fin cfg1.N) (h : idle1 3 (grid1.coords t) = true) (d) : (dat V c).left 3 t d = (dat V c).before 3 t d := by
  unfold Pipeline.Dat.left
  rw [show cfg1.idle 3 (cfg1.grid.coords t) = true from h]

theorem before3 (c : Dev nD) : ∀ (n : ℕ) (h : n + 1 < cfg1.N) (d), (dat V c).before 3 ⟨n + 1, h⟩ d = outAt V c (n + 1) := by
  intro n
  induction n with
  | zero =>
    intro h d
    rw [Pipeline.Dat.before_of_pos _ _ _ (Nat.succ_ne_zero 0) (Pipeline.Window.fetch_out _ rfl _)]
    rw [if_neg (by rw [flush1_3]; show ¬ ((0 + 1 - 1) % 8 = 7); omega)]
    exact left_live V c ⟨0, Nat.lt_of_succ_lt h⟩ (by decide +revert) d
  | succ n ih =>
    intro h d
    have h8 : n + 1 + 1 < 8 := lt_of_lt_of_eq h N_1
    rw [Pipeline.Dat.before_of_pos _ _ _ (Nat.succ_ne_zero _) (Pipeline.Window.fetch_out _ rfl _)]
    rw [if_neg (by rw [flush1_3]; show ¬ ((n + 1 + 1 - 1) % 8 = 7); omega)]
    by_cases hi : n + 1 < 4
    · refine (left_idle V c ⟨n + 1, Nat.lt_of_succ_lt h⟩ ((idle_iff _).mpr ⟨Nat.succ_le_succ (Nat.zero_le n), hi⟩) d).trans ?_
      refine (ih (Nat.lt_of_succ_lt h) d).trans ?_
      rw [outAt, outAt, if_pos hi, if_pos (by omega)]
    · exact left_live V c ⟨n + 1, Nat.lt_of_succ_lt h⟩ (by
        rw [← Bool.not_eq_true]; exact fun e => hi ((idle_iff _).mp e).2) d

theorem read_scratch (c : Dev nD) (f : Buf (Elt F) ((c : Thread nD τ).loc cc1_scratch0)) :
    (Memref.whole cc1_scratch0 : Memref sig .tc .smem S2 .f32).view.read (Elt F) f = f := View.read_whole _ _

theorem sc2_eta (f : S2.Idx → F .f32) : f = sc2 (f (ix1 (⟨0, by decide⟩ : Fin 2)), f (ix1 (⟨1, by decide⟩ : Fin 2))) := by
  refine funext fun (x : S2.Idx) => ?_
  have hx : (x 0).val < 2 := (x 0).isLt
  unfold sc2
  split
  · next h => exact congrArg f (Shape.idx1_ext h)
  · next h => exact congrArg f (Shape.idx1_ext (by show (x 0).val = 1; omega))

/-- A whole buffer read through a memref, as the loop holds it. -/
theorem owns_holds (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ holds c M f) := by
  unfold owns; rw [h.set_eq_univ]

theorem st0_holds (c : Dev nD) (t : Fin cfg1.N) (X) : (owns (c : Thread nD τ) (st1_0 t) fullShare X : sProp 𝕄) = iprop(∃ f, ⌜(st1_0 t).view.read (Elt F) f = X⌝ ∗ holds c (st1_0 t) f) :=
  owns_holds c _ (hstage1_0 ((cfg1.slots t 0).cast nbuf1_0)) X
theorem st1_holds (c : Dev nD) (t : Fin cfg1.N) (X) : (owns (c : Thread nD τ) (st1_1 t) fullShare X : sProp 𝕄) = iprop(∃ f, ⌜(st1_1 t).view.read (Elt F) f = X⌝ ∗ holds c (st1_1 t) f) :=
  owns_holds c _ (hstage1_1 ((cfg1.slots t 1).cast nbuf1_1)) X
theorem st2_holds (c : Dev nD) (t : Fin cfg1.N) (X) : (owns (c : Thread nD τ) (st1_2 t) fullShare X : sProp 𝕄) = iprop(∃ f, ⌜(st1_2 t).view.read (Elt F) f = X⌝ ∗ holds c (st1_2 t) f) :=
  owns_holds c _ (hstage1_2 ((cfg1.slots t 2).cast nbuf1_2)) X
theorem st3_holds (c : Dev nD) (t : Fin cfg1.N) (X) : (owns (c : Thread nD τ) (st1_3 t) fullShare X : sProp 𝕄) = iprop(∃ f, ⌜(st1_3 t).view.read (Elt F) f = X⌝ ∗ holds c (st1_3 t) f) :=
  owns_holds c _ (hstage1_3 ((cfg1.slots t 3).cast nbuf1_3)) X

set_option maxHeartbeats 1600000 in
theorem body_obligation (c : Dev nD) : Pipeline.BodyObligation (dat V c) (defs₀ (F := F)) 𝒱₀ (none : HIx 1) Set.univ := fun t => by
  have hN : t.val < 8 := lt_of_lt_of_eq t.isLt N_1
  rw [bigSep_W1, bigSep_W1]
  rw [show (dat V c).owesAt none t.succ = (dat V c).owesAt none t.castSucc from rfl,
    show (dat V c).Φ t.castSucc = Φ1 V c t.val from rfl, show (dat V c).Φ t.succ = Φ1 V c (t.val + 1) from rfl]
  have hs0 : ∀ n, Φ1 V c (n + 1) = ((c : Thread nD τ).loc cc1_scratch0 ↦{fullShare} (sc2 (accAt V c (n + 1)) : Buf (Elt F) ((c : Thread nD τ).loc cc1_scratch0))) :=
    fun n => if_neg (Nat.succ_ne_zero n)
  have hs1 : t.val = 0 → Φ1 V c t.val = iprop(∃ f : Buf (Elt F) ((c : Thread nD τ).loc cc1_scratch0), (c : Thread nD τ).loc cc1_scratch0 ↦{fullShare} f) :=
    fun h => if_pos h
  rw [hs0]
  have o0 := st0_holds (F := F) c t
  have o1 := st1_holds (F := F) c t
  have o2 := st2_holds (F := F) c t
  have o3 := st3_holds (F := F) c t
  by_cases h0 : t.val = 0
  · have hc1 := (first_iff t).mpr h0
    have hc2 := (phase_iff t).mpr (by omega)
    have hc3 : ¬ k1_cond3 (grid1.coords t) = 1#1 := fun e => by have := (second_iff t).mp e; omega
    have hid : cfg1.idle 3 (cfg1.grid.coords t) = false := by
      rw [← Bool.not_eq_true]; exact fun e => by have := (idle_iff t).mp e; omega
    rw [hid]
    rw [hs1 h0]
    iintro ⟨⟨%f6, H6⟩, Howes, ⟨%d0, H0⟩, ⟨%d1, H1⟩, ⟨%d2, H2⟩, ⟨%d3, H3⟩⟩
    ihave H0 := (Entails.of_eq (o0 _)) $$ H0
    ihave H1 := (Entails.of_eq (o1 _)) $$ H1
    ihave H2 := (Entails.of_eq (o2 _)) $$ H2
    ihave H3 := (Entails.of_eq (o3 _)) $$ H3
    icases H0 with ⟨%f0, %e0, H0⟩
    icases H1 with ⟨%f1, %e1, H1⟩
    icases H2 with ⟨%f2, %e2, H2⟩
    icases H3 with ⟨%f3, %e3, H3⟩
    rw [before0] at e0; rw [before1] at e1; rw [before2] at e2
    iapply (body_first (F := F) c (grid1.coords t) hc1 hc2 hc3 (st1_0 t) (hstage1_0 _) (st1_1 t) (hstage1_1 _) (st1_2 t) (hstage1_2 _) (st1_3 t) (hstage1_3 _)
      (Memref.whole cc1_scratch0) (Memref.isWhole_whole _) f0 f1 f2 f3 f6 _ _ _ _ _ e0 e1 e2 e3 ((read_scratch c f6).trans (sc2_eta f6)) _)
    isplitl [H0]; · iexact H0
    isplitl [H1]; · iexact H1
    isplitl [H2]; · iexact H2
    isplitl [H3]; · iexact H3
    isplitl [H6]; · iexact H6
    iintro ⟨H0, H1, H2, ⟨%g3, %e3', H3⟩, ⟨%g6, %e6', H6⟩⟩
    have e6 : g6 = sc2 (accAt V c (t.val + 1)) := by
      rw [← read_scratch c g6, e6', accAt, if_pos (by omega), h0]; rfl
    subst e6
    isplitl [H6]; · iexact H6
    isplitl [Howes]; · iexact Howes
    isplitl [H0]; · iapply (Entails.of_eq (o0 _).symm); iexists f0; isplitr; · ipureintro; exact e0
                    iexact H0
    isplitl [H1]; · iapply (Entails.of_eq (o1 _).symm); iexists f1; isplitr; · ipureintro; exact e1
                    iexact H1
    isplitl [H2]; · iapply (Entails.of_eq (o2 _).symm); iexists f2; isplitr; · ipureintro; exact e2
                    iexact H2
    iapply (Entails.of_eq (o3 _).symm); iexists g3; isplitr; swap; · iexact H3
    ipureintro
    exact e3'.trans (by show _ = outAt V c (t.val + 1); rw [outAt, if_pos (by omega)])
  obtain ⟨n, hn⟩ : ∃ n, t.val = n + 1 := ⟨t.val - 1, by omega⟩
  have hb3 : ∀ d, (dat V c).before 3 t d = outAt V c t.val := fun d => by
    have := before3 V c n (hn ▸ t.isLt) d
    rw [hn]; rw [show t = ⟨n + 1, hn ▸ t.isLt⟩ from Fin.ext hn]; exact this
  have hc1 : ¬ k1_cond1 (grid1.coords t) = 1#1 := fun e => h0 ((first_iff t).mp e)
  have hfl : (cfg1.win 3).flush t = decide (t.val = 7) := by
    have := flush1_3 t; rw [Bool.eq_iff_iff, this, decide_eq_true_iff]; omega
  rw [hn, hs0 n, ← hn]
  by_cases h4 : t.val < 4
  · have hc2 := (phase_iff t).mpr h4
    have hc3 : ¬ k1_cond3 (grid1.coords t) = 1#1 := fun e => by have := (second_iff t).mp e; omega
    have hid : cfg1.idle 3 (cfg1.grid.coords t) = true := (idle_iff t).mpr ⟨by omega, h4⟩
    rw [hid, hfl, decide_eq_false (by omega)]
    iintro ⟨H6, Howes, ⟨%d0, H0⟩, ⟨%d1, H1⟩, ⟨%d2, H2⟩, ⟨%d3, H3⟩⟩
    ihave H0 := (Entails.of_eq (o0 _)) $$ H0
    ihave H1 := (Entails.of_eq (o1 _)) $$ H1
    ihave H2 := (Entails.of_eq (o2 _)) $$ H2
    ihave H3 := (Entails.of_eq (o3 _)) $$ H3
    icases H0 with ⟨%f0, %e0, H0⟩
    icases H1 with ⟨%f1, %e1, H1⟩
    icases H2 with ⟨%f2, %e2, H2⟩
    icases H3 with ⟨%f3, %e3, H3⟩
    rw [before0] at e0; rw [before1] at e1; rw [before2] at e2
    iapply (body_acc (F := F) c (grid1.coords t) hc1 hc2 hc3 (st1_0 t) (hstage1_0 _) (st1_1 t) (hstage1_1 _) (st1_2 t) (hstage1_2 _) (st1_3 t) (hstage1_3 _)
      (Memref.whole cc1_scratch0) (Memref.isWhole_whole _) f0 f1 f2 f3 _ _ _ _ _ _ e0 e1 e2 e3 (read_scratch c _) _)
    isplitl [H0]; · iexact H0
    isplitl [H1]; · iexact H1
    isplitl [H2]; · iexact H2
    isplitl [H3]; · iexact H3
    isplitl [H6]; · iexact H6
    iintro ⟨H0, H1, H2, ⟨%g3, %e3', H3⟩, ⟨%g6, %e6', H6⟩⟩
    have e6 : g6 = sc2 (accAt V c (t.val + 1)) := by
      rw [← read_scratch c g6, e6', accAt, if_pos (by omega)]
    subst e6
    isplitl [H6]; · iexact H6
    isplitl [Howes]; · iexact Howes
    isplitl [H0]; · iapply (Entails.of_eq (o0 _).symm); iexists f0; isplitr; · ipureintro; exact e0
                    iexact H0
    isplitl [H1]; · iapply (Entails.of_eq (o1 _).symm); iexists f1; isplitr; · ipureintro; exact e1
                    iexact H1
    isplitl [H2]; · iapply (Entails.of_eq (o2 _).symm); iexists f2; isplitr; · ipureintro; exact e2
                    iexact H2
    iexists d3
    iapply (Entails.of_eq (o3 _).symm); iexists g3; isplitr; swap; · iexact H3
    ipureintro
    exact e3'
  · have hc2 : ¬ _ := fun e => h4 ((phase_iff t).mp e)
    have hc3 := (second_iff t).mpr (by omega)
    have hid : cfg1.idle 3 (cfg1.grid.coords t) = false := by
      rw [← Bool.not_eq_true]; exact fun e => h4 ((idle_iff t).mp e).2
    rw [hid]
    iintro ⟨H6, Howes, ⟨%d0, H0⟩, ⟨%d1, H1⟩, ⟨%d2, H2⟩, ⟨%d3, H3⟩⟩
    ihave H0 := (Entails.of_eq (o0 _)) $$ H0
    ihave H1 := (Entails.of_eq (o1 _)) $$ H1
    ihave H2 := (Entails.of_eq (o2 _)) $$ H2
    ihave H3 := (Entails.of_eq (o3 _)) $$ H3
    icases H0 with ⟨%f0, %e0, H0⟩
    icases H1 with ⟨%f1, %e1, H1⟩
    icases H2 with ⟨%f2, %e2, H2⟩
    icases H3 with ⟨%f3, %e3, H3⟩
    rw [before0] at e0; rw [before1] at e1; rw [before2] at e2; rw [hb3] at e3
    iapply (body_fin (F := F) c (grid1.coords t) hc1 hc2 hc3 (st1_0 t) (hstage1_0 _) (st1_1 t) (hstage1_1 _) (st1_2 t) (hstage1_2 _) (st1_3 t) (hstage1_3 _)
      (Memref.whole cc1_scratch0) (Memref.isWhole_whole _) f0 f1 f2 f3 _ _ _ _ _ _ e0 e1 e2 e3 (read_scratch c _) _)
    isplitl [H0]; · iexact H0
    isplitl [H1]; · iexact H1
    isplitl [H2]; · iexact H2
    isplitl [H3]; · iexact H3
    isplitl [H6]; · iexact H6
    iintro ⟨H0, H1, H2, ⟨%g3, %e3', H3⟩, ⟨%g6, %e6', H6⟩⟩
    have e6 : g6 = sc2 (accAt V c (t.val + 1)) := by
      rw [← read_scratch c g6, e6', accAt, if_neg h4]
    subst e6
    isplitl [H6]; · iexact H6
    isplitl [Howes]; · iexact Howes
    isplitl [H0]; · iapply (Entails.of_eq (o0 _).symm); iexists f0; isplitr; · ipureintro; exact e0
                    iexact H0
    isplitl [H1]; · iapply (Entails.of_eq (o1 _).symm); iexists f1; isplitr; · ipureintro; exact e1
                    iexact H1
    isplitl [H2]; · iapply (Entails.of_eq (o2 _).symm); iexists f2; isplitr; · ipureintro; exact e2
                    iexact H2
    iapply (Entails.of_eq (o3 _).symm); iexists g3; isplitr; swap; · iexact H3
    ipureintro
    exact e3'.trans (by show _ = outAt V c (t.val + 1); rw [outAt, if_neg h4])

/-! ## The region over the thread state -/

/-- The one admissible contents of a pipeline with no prefetched tables. -/
def adm : (p : Fin 1) → (pcfgs (F := F) p).Adm
  | ⟨0, _⟩ => ⟨fun k => k.elim0, trivial⟩

def pdats : (p : Fin 1) → (c : Dev nD) → Pipeline.Dat τ (Elt F) (HIx 1) ℕ UU ℕ (Pipeline.pin (pcfgs (F := F)) adm p) c
  | ⟨0, _⟩ => fun c => dat V c

/-- The loss the region leaves. -/
def lossAt (c : Dev nD) : Buf (Elt F) ((c : Thread nD τ).loc main_v4) := outAt V c 8

theorem one_idx (x y : S1x1.Idx) : x = y := funext fun a => by
  fin_cases a <;> exact Subsingleton.elim (α := Fin 1) _ _

theorem final_v4 (c : Dev nD) : (dat V c).arrAt 3 cfg1.N = lossAt V c :=
  (dat V c).arrAt_eq_of_cover 3 (lossAt V c) (fun t ht => by
    have h7 : t.val = 7 := by have := (flush1_3 t).mp ht; have := lt_of_lt_of_eq t.isLt N_1; omega
    refine funext fun (i : S1x1.Idx) => ?_
    refine (show _ = outAt V c (t.val + 1) i from rfl).trans ?_
    rw [h7]
    refine Eq.trans ?_ (View.read_apply _ _).symm
    refine Eq.trans ?_ (cast_eq _ _).symm
    exact congrArg (outAt V c 8) (one_idx _ _)) fun i => ⟨t1_7, (flush1_3 t1_7).mpr rfl, by
      show i ∈ ((View.whole main_v4).slice (win1_3.rect t1_7)).set
      rw [View.set_slice_whole, Rect.mem_set_unit]
      intro a
      fin_cases a
      · have h : (i (0 : Fin 2)).val < 1 := (i (0 : Fin 2)).isLt
        exact ⟨Nat.zero_le _, h⟩
      · have h : (i (1 : Fin 2)).val < 1 := (i (1 : Fin 2)).isLt
        exact ⟨Nat.zero_le _, h⟩⟩

variable (Vp : (c : Dev nD) → (b : Ref sig .tc) → Buf (Elt F) ((c : Thread nD τ).loc b))

set_option backward.isDefEq.respectTransparency.types false in
/-- The region, over every unscoped buffer at `V c` and what rides along: left with the loss in its buffer. -/
def reg (R : Dev nD → sProp 𝕄) (hVp_out : ∀ c, Vp c main_v4 = lossAt V c) (hVp_ne : ∀ c (b : Ref sig .tc), b ≠ main_v4 → Vp c b = V c b) :
    Pipeline.RegionSeg (pcfgs (F := F)) adm (pdats V) (none : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ R c ∗ ∃ W, ⌜(K (F := F)).WBelow (T c) W 8⌝ ∗ owes (c : Thread nD τ) (0 : CellTallies nD τ sig (HIx 1)) W)
  post c := iprop(unscopedBufs c (Vp c) ∗ R c ∗ ∃ W, ⌜(K (F := F)).WBelow (T c) W 8⌝ ∗ owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V) (launch1).win (launch1).arr_whole c
      ((pdats V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V 0 c).Φ 0 = Φ1 V c 0 from rfl, show Φ1 V c 0 = _ from if_pos rfl]
    iintro ⟨-, -, Hr⟩
    iapply (Entails.of_eq (scopedRest1_eq (Ix := HIx 1) (Val := Elt F) (Name := ℕ) (U := UU) (Lvl := ℕ) c)); iexact Hr
  hout c := by
    rw [Pipeline.ownSems0_none, show (pdats V 0 c).Φ (Fin.last _) = Φ1 V c (7 + 1) from congrArg (Φ1 V c) N_1, show Φ1 V c (7 + 1) = _ from if_neg (Nat.succ_ne_zero 7)]
    iintro Hr
    isplitr; · iempintro
    isplitr; · iempintro
    iapply (Entails.of_eq (scopedRest1_eq (Ix := HIx 1) (Val := Elt F) (Name := ℕ) (U := UU) (Lvl := ℕ) c).symm); iexists _; iexact Hr
  hexit c := by
    have hjoin := Pipeline.unscopedBufs_of_arrays (p := 0) (pcfgs (F := F)) adm (Ix := HIx 1) (Name := ℕ) (U := UU) (Lvl := ℕ) (launch1).win (launch1).arr_whole c
      (pdats V) ((pdats V 0 c).share_full fun _ => rfl) (V c) (Vp c) ((pdats V 0 c).arrAt · cfg1.N)
      (fun w => by
        fin_cases w
        · exact ((pdats V 0 c).arrAt_in 0 rfl _).trans (hVp_ne c main_v2 (by decide)).symm
        · exact ((pdats V 0 c).arrAt_in 1 rfl _).trans (hVp_ne c main_v3 (by decide)).symm
        · exact ((pdats V 0 c).arrAt_in 2 rfl _).trans (hVp_ne c main_cst (by decide)).symm
        · exact (final_v4 V c).trans (hVp_out c).symm)
      (fun b hb => hVp_ne c b fun h => hb (h ▸ Finset.mem_image.mpr ⟨3, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr; swap; · iexact HO
    ipureintro
    intro p hp
    rcases hW (Finset.mem_coe.mpr hp) with h | ⟨w, s, h⟩
    · exact h
    · have : p.2 = none := by rw [h]
      rw [this]; exact Nat.zero_le _

end Data

end Cert.Proof.KI

end
-- ==== Proof.KI.Main.lean ====
/-
  The arrays of the whole program step by step, and what the launch deals.
-/
module

public import proofs.«01_k».proof.Proof.KI.Obl
public import proofs.«01_k».proof.Proof.KI.Region

@[expose] public section

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves
open Idealize.ShloMosaic.ValueIdx

variable {F : FTy → Type} [FloatOps F] [Named F]

local notation "𝕄" => MT nD τ sig (HIx 1) (Elt F) ℕ UU ℕ

local notation "m1V" => (Memref.whole Cert.KernelIdeal.main_arg4_scv : Memref Cert.KernelIdeal.sig Kind.scVector Space.hbm Cert.KernelIdeal.S1000000x128 EltTy.f32)
local notation "m2V" => (Memref.whole Cert.KernelIdeal.main_arg5_scv : Memref Cert.KernelIdeal.sig Kind.scVector Space.hbm Cert.KernelIdeal.S1000000x128 EltTy.f32)
local notation "ixV" => (Memref.whole Cert.KernelIdeal.main_v0_scv : Memref Cert.KernelIdeal.sig Kind.scVector Space.hbm Cert.KernelIdeal.S524288 EltTy.i32)
local notation "ftV" => (Memref.whole Cert.KernelIdeal.main_arg1_scv : Memref Cert.KernelIdeal.sig Kind.scVector Space.hbm Cert.KernelIdeal.S1024x128 EltTy.f32)
local notation "fsV" => (Memref.whole Cert.KernelIdeal.main_arg0_scv : Memref Cert.KernelIdeal.sig Kind.scVector Space.hbm Cert.KernelIdeal.S1024x128 EltTy.f32)
local notation "daV" => (Memref.whole Cert.KernelIdeal.main_v1_0_scv : Memref Cert.KernelIdeal.sig Kind.scVector Space.hbm Cert.KernelIdeal.S8388608 EltTy.f32)
local notation "dbV" => (Memref.whole Cert.KernelIdeal.main_v1_1_scv : Memref Cert.KernelIdeal.sig Kind.scVector Space.hbm Cert.KernelIdeal.S8388608 EltTy.f32)
local notation "lV" => (Memref.whole Cert.KernelIdeal.cc0_scratch0 : Memref Cert.KernelIdeal.sig Kind.scVector Space.vmem Cert.KernelIdeal.S16384 EltTy.i32)
local notation "aV" => (Memref.whole Cert.KernelIdeal.cc0_scratch1 : Memref Cert.KernelIdeal.sig Kind.scVector Space.vmem Cert.KernelIdeal.S32x128 EltTy.f32)
local notation "bV" => (Memref.whole Cert.KernelIdeal.cc0_scratch2 : Memref Cert.KernelIdeal.sig Kind.scVector Space.vmem Cert.KernelIdeal.S32x128 EltTy.f32)
local notation "r1V" => (Memref.whole Cert.KernelIdeal.cc0_scratch3 : Memref Cert.KernelIdeal.sig Kind.scVector Space.vmem Cert.KernelIdeal.S2x128x128 EltTy.f32)
local notation "r2V" => (Memref.whole Cert.KernelIdeal.cc0_scratch4 : Memref Cert.KernelIdeal.sig Kind.scVector Space.vmem Cert.KernelIdeal.S2x128x128 EltTy.f32)
local notation "p1V" => (Memref.whole Cert.KernelIdeal.cc0_scratch5 : Memref Cert.KernelIdeal.sig Kind.scVector Space.vmem Cert.KernelIdeal.S2048 EltTy.f32)
local notation "p2V" => (Memref.whole Cert.KernelIdeal.cc0_scratch6 : Memref Cert.KernelIdeal.sig Kind.scVector Space.vmem Cert.KernelIdeal.S2048 EltTy.f32)
local notation "q1V" => (Memref.whole Cert.KernelIdeal.cc0_scratch7 : Memref Cert.KernelIdeal.sig Kind.scVector Space.vmem Cert.KernelIdeal.S2048 EltTy.f32)
local notation "q2V" => (Memref.whole Cert.KernelIdeal.cc0_scratch8 : Memref Cert.KernelIdeal.sig Kind.scVector Space.vmem Cert.KernelIdeal.S2048 EltTy.f32)

local notation "m1S" => (Memref.slice m1V (Rect.unit (s := S1000000x128) ![0, 0] S1000000x128.size inb_S1000000x128_S1000000x128_0_0) (fun _ => rfl) : Memref Cert.KernelIdeal.sig Kind.scVector Space.hbm Cert.KernelIdeal.S1000000x128 EltTy.f32)
local notation "m2S" => (Memref.slice m2V (Rect.unit (s := S1000000x128) ![0, 0] S1000000x128.size inb_S1000000x128_S1000000x128_0_0) (fun _ => rfl) : Memref Cert.KernelIdeal.sig Kind.scVector Space.hbm Cert.KernelIdeal.S1000000x128 EltTy.f32)

open Idealize.ShloMosaic.TcCoe

/-! ## The program's arrays, step by step -/

/-- An array of @main, as the device names it. -/
abbrev dr (r : Ref sig .tc) : DevRef τ sig := Proc.devRef .tc r

/-- @main's own arrays. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

section Steps

variable (m : (ℓ : Loc nD τ sig) → Buf (Elt F) ℓ) (ρ : Dev nD → PrngReg) (d : Dev nD)

/-- At launch. -/
def V0 : Valuation τ sig (Elt F) := fun b => m (d, b)
/-- The table of lanes and the list of indices written. -/
def V1 : Valuation τ sig (Elt F) :=
  (StableHlo.reshape (τ := τ) (Val := Elt F) main_arg3 main_v0 (rfl : (.i32 : EltTy) = .i32) shapeCasts_S1024x512_S524288).result
    ((StableHlo.nullary (τ := τ) main_cst (fun i => FloatOps.ofBits .f32 (lit0 (S128x128.rowMajor i)))).result (V0 m d))
/-- The two result arrays of the subcores' call. -/
def O1 : Buf (Elt F) (aLoc d) := OUT (V1 m d (dr main_arg4)) (V1 m d (dr main_v0)) (V1 m d (dr main_arg1))
def O2 : Buf (Elt F) (bLoc d) := OUT (V1 m d (dr main_arg5)) (V1 m d (dr main_v0)) (V1 m d (dr main_arg0))
/-- After the call. -/
def V2 : Valuation τ sig (Elt F) := Function.update (Function.update (V1 m d) (dr main_v1_0) (O1 m d)) (dr main_v1_1) (O2 m d)
/-- The results laid out in rows of 128. -/
def V3 : Valuation τ sig (Elt F) :=
  (StableHlo.reshape (τ := τ) (Val := Elt F) main_v1_1 main_v3 (rfl : (.f32 : EltTy) = .f32) shapeCasts_S8388608_S65536x128).result
    ((StableHlo.reshape (τ := τ) (Val := Elt F) main_v1_0 main_v2 (rfl : (.f32 : EltTy) = .f32) shapeCasts_S8388608_S65536x128).result (V2 m d))
/-- The loss. -/
def theLoss : Buf (Elt F) ((d : Thread nD τ).loc main_v4) := lossAt (fun c b => V3 m c (dr b)) d
def V4 : Valuation τ sig (Elt F) := Function.update (V3 m d) (dr main_v4) (theLoss m d)
/-- At the end. -/
def V5 : Valuation τ sig (Elt F) :=
  (StableHlo.reshape (τ := τ) (Val := Elt F) main_v4 main_v5 (rfl : (.f32 : EltTy) = .f32) shapeCasts_S1x1_S1).result (V4 m d)

theorem dr_ne {r s : Ref sig .tc} (h : r ≠ s) : dr r ≠ dr s := fun e => h (Proc.devRef_injective _ e)

theorem V4_v4 : V4 m d (dr main_v4) = theLoss m d := Function.update_self _ _ _
theorem V4_ne (r : Ref sig .tc) (h : r ≠ main_v4) : V4 m d (dr r) = V3 m d (dr r) := Function.update_of_ne (dr_ne h) _ _

theorem V1_arg (r : Ref sig .tc) (h0 : r ≠ main_v0) (h1 : r ≠ main_cst) : V1 m d (dr r) = m (d, dr r) := by
  unfold V1
  rw [StableHlo.reshape_result_ne _ _ _ _ _ _ _ h0, StableHlo.nullary_result_ne _ _ _ _ h1]
  rfl

theorem V2_ne (r : Ref sig .tc) (h0 : r ≠ main_v1_0) (h1 : r ≠ main_v1_1) : V2 m d (dr r) = V1 m d (dr r) := by
  unfold V2
  rw [Function.update_of_ne (dr_ne h1), Function.update_of_ne (dr_ne h0)]

theorem V3_ne (r : Ref sig .tc) (h0 : r ≠ main_v2) (h1 : r ≠ main_v3) : V3 m d (dr r) = V2 m d (dr r) := by
  unfold V3
  rw [StableHlo.reshape_result_ne _ _ _ _ _ _ _ h1, StableHlo.reshape_result_ne _ _ _ _ _ _ _ h0]

/-- An argument is never written. -/
theorem V5_arg (r : Ref sig .tc) (h : r ∉ [main_cst, main_v0, main_v1_0, main_v1_1, main_v2, main_v3, main_v4, main_v5]) :
    V5 m d (dr r) = m (d, dr r) := by
  simp only [List.mem_cons, List.not_mem_nil, or_false, not_or] at h
  obtain ⟨h0, h1, h2, h3, h4, h5, h6, h7⟩ := h
  unfold V5
  rw [StableHlo.reshape_result_ne _ _ _ _ _ _ _ h7, V4_ne m d r h6, V3_ne m d r h4 h5, V2_ne m d r h2 h3, V1_arg m d r h1 h0]

end Steps

/-! ## The seven arrays of the call, out of all and back -/

section Call

variable (m : (ℓ : Loc nD τ sig) → Buf (Elt F) ℓ) (ρ : Dev nD → PrngReg) (d : Dev nD)

def S7 : Finset (DevRef τ sig) := {dr main_v0, dr main_arg1, dr main_arg0, dr main_arg4, dr main_arg5, dr main_v1_0, dr main_v1_1}

theorem S7_sub : S7 ⊆ ucRefs := by decide

theorem held_S7 (W : Valuation τ sig (Elt F)) : (StableHlo.held (SparseCore.T d : Thread nD τ) S7 W : sProp 𝕄)
    = iprop(((SparseCore.T d : Thread nD τ).loc main_v0 ↦{fullShare} W (dr main_v0)) ∗ ((SparseCore.T d : Thread nD τ).loc main_arg1 ↦{fullShare} W (dr main_arg1))
      ∗ ((SparseCore.T d : Thread nD τ).loc main_arg0 ↦{fullShare} W (dr main_arg0)) ∗ ((SparseCore.T d : Thread nD τ).loc main_arg4 ↦{fullShare} W (dr main_arg4))
      ∗ ((SparseCore.T d : Thread nD τ).loc main_arg5 ↦{fullShare} W (dr main_arg5)) ∗ (aLoc d ↦{fullShare} W (dr main_v1_0)) ∗ (bLoc d ↦{fullShare} W (dr main_v1_1))) :=
  bigSep_eq_bigSepL_of_eq [dr main_v0, dr main_arg1, dr main_arg0, dr main_arg4, dr main_arg5, dr main_v1_0, dr main_v1_1] (by decide) (by decide) _

abbrev PP : (K (F := F)).Pay (nD := nD) (Val := Elt F) (Name := ℕ) (U := UU) :=
  P (fun d => V1 m d (dr main_v0)) (fun d => V1 m d (dr main_arg4)) (fun d => V1 m d (dr main_arg5)) (fun d => V1 m d (dr main_arg1)) (fun d => V1 m d (dr main_arg0))
    (fun d => V1 m d (dr main_v1_0)) (fun d => V1 m d (dr main_v1_1))

abbrev PQ (c : Fin 2) (f : Buf (Elt F) (aLoc d)) (g : Buf (Elt F) (bLoc d)) : sProp 𝕄 :=
  parts (fun d => V1 m d (dr main_v0)) (fun d => V1 m d (dr main_arg4)) (fun d => V1 m d (dr main_arg5)) (fun d => V1 m d (dr main_arg1)) (fun d => V1 m d (dr main_arg0))
    d c f g

theorem PQ_eq (f : Buf (Elt F) (aLoc d)) (g : Buf (Elt F) (bLoc d)) : (bigSep Finset.univ fun c : Fin 2 => PQ m d c f g)
    = iprop((((SparseCore.T d : Thread nD τ).loc main_v0 ↦{fullShare} V1 m d (dr main_v0)) ∗ ((SparseCore.T d : Thread nD τ).loc main_arg1 ↦{fullShare} V1 m d (dr main_arg1))
      ∗ ((SparseCore.T d : Thread nD τ).loc main_arg0 ↦{fullShare} V1 m d (dr main_arg0)) ∗ ((SparseCore.T d : Thread nD τ).loc main_arg4 ↦{fullShare} V1 m d (dr main_arg4))
      ∗ ((SparseCore.T d : Thread nD τ).loc main_arg5 ↦{fullShare} V1 m d (dr main_arg5))) ∗ (aLoc d ↦{fullShare} f) ∗ (bLoc d ↦{fullShare} g)) :=
  parts_eq (fun d => V1 m d (dr main_v0)) (fun d => V1 m d (dr main_arg4)) (fun d => V1 m d (dr main_arg5)) (fun d => V1 m d (dr main_arg1)) (fun d => V1 m d (dr main_arg0)) d f g

seal V1 OUT parts

theorem st_eq : (bigSep Finset.univ fun c : Fin ((K (F := F)).nCore 0) => (PP m).st 0 d c)
    = bigSep Finset.univ fun c : Fin 2 => PQ m d c (V1 m d (dr main_v1_0)) (V1 m d (dr main_v1_1)) :=
  st_parts (fun d => V1 m d (dr main_v0)) (fun d => V1 m d (dr main_arg4)) (fun d => V1 m d (dr main_arg5)) (fun d => V1 m d (dr main_arg1)) (fun d => V1 m d (dr main_arg0))
    (fun d => V1 m d (dr main_v1_0)) (fun d => V1 m d (dr main_v1_1)) d
theorem dn_eq : (bigSep Finset.univ fun c : Fin ((K (F := F)).nCore 0) => (PP m).dn 0 d c)
    = bigSep Finset.univ fun c : Fin 2 => PQ m d c (O1 m d) (O2 m d) :=
  dn_parts (fun d => V1 m d (dr main_v0)) (fun d => V1 m d (dr main_arg4)) (fun d => V1 m d (dr main_arg5)) (fun d => V1 m d (dr main_arg1)) (fun d => V1 m d (dr main_arg0))
    (fun d => V1 m d (dr main_v1_0)) (fun d => V1 m d (dr main_v1_1)) d

theorem enter : (StableHlo.held (SparseCore.T d : Thread nD τ) ucRefs (V1 m d) : sProp 𝕄)
    ⊢ iprop((bigSep Finset.univ fun c : Fin ((K (F := F)).nCore 0) => (PP m).st 0 d c) ∗ StableHlo.held (SparseCore.T d : Thread nD τ) (ucRefs \ S7) (V1 m d)) := by
  rw [st_eq, PQ_eq, StableHlo.held_sub_split _ S7_sub, held_S7]
  iintro ⟨⟨H1, H2, H3, H4, H5, H6, H7⟩, Hr⟩
  isplitr [Hr]
  · isplitr [H6 H7]
    · isplitl [H1]; · iexact H1
      isplitl [H2]; · iexact H2
      isplitl [H3]; · iexact H3
      isplitl [H4]; · iexact H4
      iexact H5
    · isplitl [H6]; · iexact H6
      iexact H7
  · iexact Hr

theorem rest_eq : (StableHlo.held (SparseCore.T d : Thread nD τ) (ucRefs \ S7) (V1 m d) : sProp 𝕄) = StableHlo.held (SparseCore.T d : Thread nD τ) (ucRefs \ S7) (V2 m d) :=
  StableHlo.held_congr _ fun b hb => by
    have h := (Finset.mem_sdiff.mp hb).2
    unfold V2
    rw [Function.update_of_ne (fun e : b = dr main_v1_1 => h (by rw [e]; decide)), Function.update_of_ne (fun e : b = dr main_v1_0 => h (by rw [e]; decide))]

theorem leave : iprop((bigSep Finset.univ fun c : Fin ((K (F := F)).nCore 0) => (PP m).dn 0 d c) ∗ StableHlo.held (SparseCore.T d : Thread nD τ) (ucRefs \ S7) (V1 m d))
    ⊢ (StableHlo.held (SparseCore.T d : Thread nD τ) ucRefs (V2 m d) : sProp 𝕄) := by
  rw [dn_eq, PQ_eq, StableHlo.held_sub_split _ S7_sub (V2 m d), held_S7, rest_eq,
    V2_ne m d main_v0 (by decide) (by decide), V2_ne m d main_arg1 (by decide) (by decide), V2_ne m d main_arg0 (by decide) (by decide),
    V2_ne m d main_arg4 (by decide) (by decide), V2_ne m d main_arg5 (by decide) (by decide),
    show V2 m d (dr main_v1_1) = O2 m d from Function.update_self _ _ _,
    show V2 m d (dr main_v1_0) = O1 m d from (Function.update_of_ne (dr_ne (by decide)) _ _).trans (Function.update_self _ _ _)]
  iintro ⟨⟨⟨H1, H2, H3, H4, H5⟩, H6, H7⟩, Hr⟩
  isplitr [Hr]
  · isplitl [H1]; · iexact H1
    isplitl [H2]; · iexact H2
    isplitl [H3]; · iexact H3
    isplitl [H4]; · iexact H4
    isplitl [H5]; · iexact H5
    isplitl [H6]; · iexact H6
    iexact H7
  · iexact Hr

end Call

/-! ## The launch's ghost state -/

abbrev pcells : Finset (GSem nD τ sig) := Pipeline.cells (Pipeline.pin (pcfgs (F := F)) adm) Gen.cellOf_inj
abbrev ptoks : Finset (GSem nD τ sig × ℕ × Unit) := Pipeline.launchToks (Pipeline.pin (pcfgs (F := F)) adm) Gen.cellOf_inj

def u₀ : UU := (initOf (K (F := F)).hsCells (K (F := F)).hsToks, (initOf (pcells (F := F)) (ptoks (F := F)), 1))

/-- What the TensorCore's region takes of it. -/
def G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

theorem bigSep_emp' {I : Type} (s : Finset I) : (bigSep s fun _ => iprop(emp)) = (iprop(emp) : sProp 𝕄) := bigSep_emp_const s

theorem one_pipe (Φ : Fin 1 → sProp 𝕄) : bigSep Finset.univ Φ = Φ 0 := bigSep_univ_of_subsingleton (0 : Fin 1)

theorem deal_G : iprop((bigSep Finset.univ fun c : Dev nD => bigSep Finset.univ fun p => Pipeline.cellsGhost (Pipeline.pin (pcfgs (F := F)) adm) (EP (F := F)) p c)
        ∗ (bigSep Finset.univ fun c : Dev nD => bigSep Finset.univ fun p => (Pipeline.toksInit (Pipeline.pin (pcfgs (F := F)) adm) (EP (F := F)) p c : sProp 𝕄)))
        ⊢ bigSep Finset.univ (G (F := F)) := by
  unfold G
  rw [bigSep_sep']
  simp only [one_pipe]
  iintro H
  iexact H

theorem hu₀ (m : (ℓ : Loc nD τ sig) → Buf (Elt F) ℓ) : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (PP m).x q thr) := by
  unfold u₀
  iintro Hu
  ihave H := (ownU_pair (initOf (K (F := F)).hsCells (K (F := F)).hsToks) ((initOf (pcells (F := F)) (ptoks (F := F)), 1) : UR sig nD τ × Counters)) $$ Hu
  icases H with ⟨HH, HP⟩
  ihave HP := (own_pair_emb embR (initOf (pcells (F := F)) (ptoks (F := F))) (1 : Counters)) $$ HP
  icases HP with ⟨HP, -⟩
  imod (Pipeline.fund_ghost (Pipeline.pin (pcfgs (F := F)) adm) (EP (F := F)) Gen.cellOf_inj) $$ [HP] with ⟨Hg, Ht⟩
  · unfold EP; iexact HP
  imodintro
  isplitl [HH]; · iexact HH
  isplitl [Hg Ht]
  · iapply (deal_G (F := F))
    isplitl [Hg]; · iexact Hg
    iexact Ht
  rw [show (bigSep Finset.univ fun thr : Thread nD τ => bigSep Finset.univ fun q : Fin 1 => (PP m).x q thr) = bigSep Finset.univ fun _ => iprop(emp) from
    bigSep_congr fun _ _ => bigSep_univ_of_subsingleton (0 : Fin 1), bigSep_emp']
  iempintro

end Cert.Proof.KI

end
-- ==== Proof.KI.Launch.lean ====
/-
  The program's run: every array at the end, and every semaphore at zero.
-/
module

public import proofs.«01_k».proof.Proof.KI.Main

@[expose] public section

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves
open Idealize.ShloMosaic.ValueIdx

variable {F : FTy → Type} [FloatOps F] [Named F]

local notation "𝕄" => MT nD τ sig (HIx 1) (Elt F) ℕ UU ℕ

local notation "m1V" => (Memref.whole Cert.KernelIdeal.main_arg4_scv : Memref Cert.KernelIdeal.sig Kind.scVector Space.hbm Cert.KernelIdeal.S1000000x128 EltTy.f32)
local notation "m2V" => (Memref.whole Cert.KernelIdeal.main_arg5_scv : Memref Cert.KernelIdeal.sig Kind.scVector Space.hbm Cert.KernelIdeal.S1000000x128 EltTy.f32)
local notation "ixV" => (Memref.whole Cert.KernelIdeal.main_v0_scv : Memref Cert.KernelIdeal.sig Kind.scVector Space.hbm Cert.KernelIdeal.S524288 EltTy.i32)
local notation "ftV" => (Memref.whole Cert.KernelIdeal.main_arg1_scv : Memref Cert.KernelIdeal.sig Kind.scVector Space.hbm Cert.KernelIdeal.S1024x128 EltTy.f32)
local notation "fsV" => (Memref.whole Cert.KernelIdeal.main_arg0_scv : Memref Cert.KernelIdeal.sig Kind.scVector Space.hbm Cert.KernelIdeal.S1024x128 EltTy.f32)
local notation "daV" => (Memref.whole Cert.KernelIdeal.main_v1_0_scv : Memref Cert.KernelIdeal.sig Kind.scVector Space.hbm Cert.KernelIdeal.S8388608 EltTy.f32)
local notation "dbV" => (Memref.whole Cert.KernelIdeal.main_v1_1_scv : Memref Cert.KernelIdeal.sig Kind.scVector Space.hbm Cert.KernelIdeal.S8388608 EltTy.f32)
local notation "lV" => (Memref.whole Cert.KernelIdeal.cc0_scratch0 : Memref Cert.KernelIdeal.sig Kind.scVector Space.vmem Cert.KernelIdeal.S16384 EltTy.i32)
local notation "aV" => (Memref.whole Cert.KernelIdeal.cc0_scratch1 : Memref Cert.KernelIdeal.sig Kind.scVector Space.vmem Cert.KernelIdeal.S32x128 EltTy.f32)
local notation "bV" => (Memref.whole Cert.KernelIdeal.cc0_scratch2 : Memref Cert.KernelIdeal.sig Kind.scVector Space.vmem Cert.KernelIdeal.S32x128 EltTy.f32)
local notation "r1V" => (Memref.whole Cert.KernelIdeal.cc0_scratch3 : Memref Cert.KernelIdeal.sig Kind.scVector Space.vmem Cert.KernelIdeal.S2x128x128 EltTy.f32)
local notation "r2V" => (Memref.whole Cert.KernelIdeal.cc0_scratch4 : Memref Cert.KernelIdeal.sig Kind.scVector Space.vmem Cert.KernelIdeal.S2x128x128 EltTy.f32)
local notation "p1V" => (Memref.whole Cert.KernelIdeal.cc0_scratch5 : Memref Cert.KernelIdeal.sig Kind.scVector Space.vmem Cert.KernelIdeal.S2048 EltTy.f32)
local notation "p2V" => (Memref.whole Cert.KernelIdeal.cc0_scratch6 : Memref Cert.KernelIdeal.sig Kind.scVector Space.vmem Cert.KernelIdeal.S2048 EltTy.f32)
local notation "q1V" => (Memref.whole Cert.KernelIdeal.cc0_scratch7 : Memref Cert.KernelIdeal.sig Kind.scVector Space.vmem Cert.KernelIdeal.S2048 EltTy.f32)
local notation "q2V" => (Memref.whole Cert.KernelIdeal.cc0_scratch8 : Memref Cert.KernelIdeal.sig Kind.scVector Space.vmem Cert.KernelIdeal.S2048 EltTy.f32)

local notation "m1S" => (Memref.slice m1V (Rect.unit (s := S1000000x128) ![0, 0] S1000000x128.size inb_S1000000x128_S1000000x128_0_0) (fun _ => rfl) : Memref Cert.KernelIdeal.sig Kind.scVector Space.hbm Cert.KernelIdeal.S1000000x128 EltTy.f32)
local notation "m2S" => (Memref.slice m2V (Rect.unit (s := S1000000x128) ![0, 0] S1000000x128.size inb_S1000000x128_S1000000x128_0_0) (fun _ => rfl) : Memref Cert.KernelIdeal.sig Kind.scVector Space.hbm Cert.KernelIdeal.S1000000x128 EltTy.f32)

open Idealize.ShloMosaic.TcCoe

section Main

variable (m : (ℓ : Loc nD τ sig) → Buf (Elt F) ℓ) (ρ : Dev nD → PrngReg) (d : Dev nD)

theorem sub_cst {v : (main_cst : Ref sig .tc).ty.Contents (Elt F)} {hy} : (StableHlo.nullary (τ := τ) main_cst v hy).bufs ⊆ ucRefs := by
  rw [StableHlo.nullary_bufs]; decide

theorem sub_reshape {x y : Ref sig .tc} {he hn hx hy} (h : ({dr x, dr y} : Finset (DevRef τ sig)) ⊆ ucRefs) :
    (StableHlo.reshape (τ := τ) (Val := Elt F) x y he hn hx hy).bufs ⊆ ucRefs := by
  rw [StableHlo.reshape_bufs]; exact h

/-- One operation of @main, from its arrays at some contents to them at the operation's. -/
theorem host_step (op : HloOp τ sig (Elt F)) (hS : op.bufs ⊆ ucRefs) (hf : op.fresh = ∅) (W : Valuation τ sig (Elt F)) (Q : PUnit → sProp 𝕄) :
    iprop(boundary (SparseCore.T d) ∗ StableHlo.held (SparseCore.T d : Thread nD τ) ucRefs W
        ∗ (iprop(boundary (SparseCore.T d) ∗ StableHlo.held (SparseCore.T d : Thread nD τ) ucRefs (op.result W)) -∗ Q ⟨⟩))
      ⊢ wp frame (wpE ((K (F := F)).defs (D (F := F))) 𝒱 (SparseCore.T d) none) Set.univ (hlo rfl op (fun _ => .ret ⟨⟩)) Q := by
  iintro ⟨Hb, Hh, HQ⟩
  iapply (StableHlo.wp_hlo_within 𝒱 (SparseCore.T d : Thread nD τ) none Set.univ hS (V := W) hf) $$ [Hb Hh]
  · isplitl [Hb]; · iexact Hb
    iexact Hh
  iintro H
  rw [wp_ret]
  imodintro
  iapply HQ
  iexact H

theorem Otc_one : (K (F := F)).Otc d 1 = 0 := by
  unfold SparseCore.Cfg.Otc
  exact Finset.sum_eq_zero fun q _ => if_neg (by have := q.isLt; omega)

/-- The region's call, under the program's own table of bodies. -/
def regionProg : Prog (TpuEff nD τ sig (Elt F) (ΛP (F := F)) .tc) PUnit := Prog.lift (.customCall (Pipeline.entry 0) ())

theorem region_prog : (Prog.lift (.customCall (SparseCore.inner (Pipeline.entry 0)) ()) : Prog (TpuEff nD τ sig (Elt F) (SparseCore.Sig (ΛP (F := F)) 1) .tc) PUnit)
    = SparseCore.liftProg (Q := 1) (regionProg (F := F)) := rfl

/-- The TensorCore's region: from the results laid out in rows, the loss. -/
theorem region_core [∀ e, Nonempty (Elt F e)] (κ : GSem nD τ sig → ℕ) (Q : PUnit → sProp 𝕄) :
    iprop((K (F := F)).ctx EH (PP m) κ ∗ (K (F := F)).tcSt EH d 1 ∗ G d ∗ boundary (SparseCore.T d)
        ∗ StableHlo.held (SparseCore.T d : Thread nD τ) ucRefs (V3 m d)
        ∗ (iprop((K (F := F)).tcSt EH d 1 ∗ boundary (SparseCore.T d) ∗ StableHlo.held (SparseCore.T d : Thread nD τ) ucRefs (V4 m d)) -∗ Q ⟨⟩))
      ⊢ wp frame (wpE (D (F := F)) 𝒱 (SparseCore.T d) none) Set.univ (regionProg (F := F)) Q := by
  unfold regionProg
  unfold SparseCore.Cfg.tcSt G
  rw [Otc_one]
  iintro ⟨#Hctx, ⟨HO, Hrest⟩, ⟨Hg, Ht⟩, Hb, Hh, HQ⟩
  ihave Hlev := (SparseCore.Cfg.ctx_levAts κ) $$ Hctx
  iapply (Pipeline.RegionSeg.wp (pcfgs (F := F)) adm (pdats fun c b => V3 m c (dr b)) (none : HIx 1) Gen.cellOf_inj EP defs₀ 𝒱₀ (K (F := F)).L (K (F := F)).lev
    (reg (fun c b => V3 m c (dr b)) (fun c b => V4 m c (dr b)) (fun _ => BI.emp) (fun c => V4_v4 m c) (fun c b hb => V4_ne m c b hb)) d none
    (fun _ h => absurd h (by simp)) (fun _ => .ret ⟨⟩) Q)
  isplitl [Hrest HQ]
  · iintro ⟨Hb, Hp⟩
    rw [wp_ret]
    imodintro
    iapply HQ
    unfold reg
    icases Hp with ⟨Hub, -, HO⟩
    isplitl [HO Hrest]
    · isplitl [HO]; · iexact HO
      iexact Hrest
    isplitl [Hb]; · iexact Hb
    iapply (Entails.of_eq (unscopedBufs_held d (V4 m d))); iexact Hub
  isplitl [Hb]; · iexact Hb
  isplitl [Hh HO]
  · unfold reg
    isplitl [Hh]
    · iapply (Entails.of_eq (unscopedBufs_held d (V3 m d)).symm); iexact Hh
    isplitr; · iempintro
    iexact HO
  isplitl [Hlev]; · iexact Hlev
  isplitl [Hg]; · iexact Hg
  iexact Ht

theorem region_step [∀ e, Nonempty (Elt F e)] (κ : GSem nD τ sig → ℕ) (Q : PUnit → sProp 𝕄) :
    iprop((K (F := F)).ctx EH (PP m) κ ∗ (K (F := F)).tcSt EH d 1 ∗ G d ∗ boundary (SparseCore.T d)
        ∗ StableHlo.held (SparseCore.T d : Thread nD τ) ucRefs (V3 m d)
        ∗ (iprop((K (F := F)).tcSt EH d 1 ∗ boundary (SparseCore.T d) ∗ StableHlo.held (SparseCore.T d : Thread nD τ) ucRefs (V4 m d)) -∗ Q ⟨⟩))
      ⊢ wp frame (wpE ((K (F := F)).defs (D (F := F))) 𝒱 (SparseCore.T d) none) Set.univ
          (Prog.lift (.customCall (SparseCore.inner (Pipeline.entry 0)) ())) Q := by
  rw [region_prog]
  exact (region_core m d κ Q).trans ((K (F := F)).wp_liftProg (D (F := F)) 𝒱 (SparseCore.T d : Thread nD τ) Set.univ none regionProg Q)

theorem enter' : (StableHlo.held (SparseCore.T d : Thread nD τ) ucRefs ((StableHlo.reshape (τ := τ) (Val := Elt F) main_arg3 main_v0 (rfl : (.i32 : EltTy) = .i32) shapeCasts_S1024x512_S524288).result
    ((StableHlo.nullary (τ := τ) main_cst (fun i => FloatOps.ofBits .f32 (lit0 (S128x128.rowMajor i)))).result (V0 m d))) : sProp 𝕄)
    ⊢ iprop((bigSep Finset.univ fun c : Fin ((K (F := F)).nCore 0) => (PP m).st 0 d c) ∗ StableHlo.held (SparseCore.T d : Thread nD τ) (ucRefs \ S7) (V1 m d)) :=
  enter m d

abbrev FIN (d : Dev nD) : sProp 𝕄 := StableHlo.held (SparseCore.T d : Thread nD τ) ucRefs (V5 m d)

/-- @main on a device's TensorCore. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d : Thread nD τ).loc b)) : sProp 𝕄) = StableHlo.held (SparseCore.T d : Thread nD τ) ucRefs (V0 m d) from
    unscopedBufs_held d (V0 m d)]
  simp only [main, wp_bind, wp_pure]
  iintro ⟨#Hctx, Hst, ⟨Hb, Hh, Hts, -⟩, HG⟩
  iapply (host_step d _ sub_cst rfl (V0 m d) _)
  isplitl [Hb]; · iexact Hb
  isplitl [Hh]; · iexact Hh
  iintro ⟨Hb, Hh⟩
  iapply (host_step d _ (sub_reshape (by decide)) rfl _ _)
  isplitl [Hb]; · iexact Hb
  isplitl [Hh]; · iexact Hh
  iintro ⟨Hb, Hh⟩
  ihave Hh := (enter' m d) $$ Hh
  icases Hh with ⟨Hs, Hr⟩
  iapply ((K (F := F)).wp_run (D (F := F)) 𝒱 (EH := EH) (P := PP m) κ d 0)
  isplitr; · iexact Hctx
  isplitl [Hst]; · iexact Hst
  isplitl [Hs]; · iexact Hs
  iintro ⟨Hst, Hdn⟩
  ihave Hh := (leave m d) $$ [Hdn Hr]
  · isplitl [Hdn]; · iexact Hdn
    iexact Hr
  iapply (host_step d _ (sub_reshape (by decide)) rfl (V2 m d) _)
  isplitl [Hb]; · iexact Hb
  isplitl [Hh]; · iexact Hh
  iintro ⟨Hb, Hh⟩
  iapply (host_step d _ (sub_reshape (by decide)) rfl _ _)
  isplitl [Hb]; · iexact Hb
  isplitl [Hh]; · iexact Hh
  iintro ⟨Hb, Hh⟩
  iapply (region_step m d κ _)
  isplitr; · iexact Hctx
  isplitl [Hst]; · iexact Hst
  isplitl [HG]; · iexact HG
  isplitl [Hb]; · iexact Hb
  isplitl [Hh]; · iexact Hh
  iintro ⟨Hst, Hb, Hh⟩
  iapply (host_step d _ (sub_reshape (by decide)) rfl (V4 m d) _)
  isplitl [Hb]; · iexact Hb
  isplitl [Hh]; · iexact Hh
  iintro ⟨Hb, Hh⟩
  imodintro
  isplitl [Hst]; · iexact Hst
  isplitl [Hh]; · iexact Hh
  isplitl [Hb] <;> iassumption

/-! ## The program's run -/

def fq (d : Dev nD) (s' : Phys nD τ sig (Elt F)) : Prop := ∀ r : Ref sig .tc, dr r ∈ ucRefs → s'.mem.mem (d, dr r) = V5 m d (dr r)

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) ucRefs) $$ [HSI H]
  · isplitl [HSI]; · iexact HSI
    iexact H
  ipureintro
  exact fun r hr => h _ hr

/-- What the run leaves: every array of @main at its final contents, every semaphore at zero. -/
def QC : PUnit × MemSt nD τ sig (Elt F) → Prop :=
  fun r => (∀ (c : Dev nD) (b : Ref sig .tc), dr b ∈ ucRefs → r.2.mem (c, dr b) = V5 m c (dr b)) ∧ r.2.sem = fun _ => 0

theorem run_main [∀ e, Nonempty (Elt F e)] (hX : ∀ d x, (V1 m d (dr main_v0) x : BitVec 32).toNat < 1000000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ _ _ _ _ facts hX)
    (fun q _ => match q with | 0 => SparseCore.Cfg.VecSplit.of_plain (vecSplit _ _ _ _ _ _ _))
    m ρ main (G (F := F)) (FIN m) (u₀ (F := F)) (sep_elim_left.trans (hu₀ m)) (hmain m ρ) (fq m) (hfin m) (QC m) (fun _ h hz => ⟨h, hz⟩)

end Main

end Cert.Proof.KI

end
-- ==== Proof.KI.Frame.lean ====
/-
  The run of the program under the stated precondition: every argument array ends as it began and every semaphore at zero.
-/
module

public import proofs.«01_k».proof.Defs
public import proofs.«01_k».proof.Proof.Gen.Pre_rows_named
public import proofs.«01_k».proof.Proof.KI.Launch

@[expose] public section

noncomputable section

namespace Cert.Proof.KI

open Cert.KernelIdeal Cert.KernelIdeal.Gen
open Idealize.ShloMosaic Idealize.ShloMosaic.TcCoe Idealize.SL.Sem

/-- The precondition, elementwise: a word that is non-negative and below a million as a signed word is its own value. -/
theorem word_lt (v : BitVec 32) (e : IntOp.andi (IntOp.cmpi .sge v 0#32) (IntOp.cmpi .slt v 1000000#32) = 1#1) : v.toNat < 1000000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem rows_lt (m : (ℓ : Loc nD τ sig) → Buf (Elt Ideal) ℓ) (h : Cert.Pre_KernelIdeal m) (d : Dev nD) (j : S1024x512.Idx) :
    (m (d, dr main_arg3) j : BitVec 32).toNat < 1000000 := by
  have e := congrFun (h d) j
  simp only [Pre_rows_named.fn, andi, cmpi, broadcastInDim, constantI] at e
  exact word_lt _ e

/-- The flattened index array as the launch's host step leaves it. -/
theorem V1_v0 {F : FTy → Type} [FloatOps F] (m : (ℓ : Loc nD τ sig) → Buf (Elt F) ℓ) (d : Dev nD) :
    V1 m d (dr main_v0) = (shapeCast S524288 (m (d, dr main_arg3) : S1024x512.Idx → BitVec 32) shapeCasts_S1024x512_S524288 : S524288.Idx → BitVec 32) := by
  unfold V1
  rw [StableHlo.reshape_result, StableHlo.nullary_result_ne _ _ _ _ (by decide)]
  rfl

theorem ok_of_pre (m : (ℓ : Loc nD τ sig) → Buf (Elt Ideal) ℓ) (h : Cert.Pre_KernelIdeal m) :
    ∀ d x, (V1 m d (dr main_v0) x : BitVec 32).toNat < 1000000 := by
  intro d x
  rw [V1_v0]
  exact rows_lt m h d _

/-- The launch's run with the contents of every array named. -/
theorem run_pre (m : (ℓ : Loc nD τ sig) → Buf (Elt Ideal) ℓ) (ρ : Dev nD → PrngReg) (h : Cert.Pre_KernelIdeal m) :
    θ_run (Cert.KernelIdeal.defs (F := Ideal)) (Cert.KernelIdeal.threads (F := Ideal)) ⟨m, fun _ => 0, ρ⟩ (QC m) :=
  haveI : ∀ e, Nonempty (Elt Ideal e) := fun e => by
    cases e <;> first | exact ⟨(0 : BitVec _)⟩ | exact ⟨FloatOps.ofBits (F := Ideal) .f32 0⟩ | exact ⟨FloatOps.ofBits (F := Ideal) .bf16 0⟩ | exact ⟨FloatOps.ofBits (F := Ideal) .f16 0⟩ | exact ⟨FloatOps.ofBits (F := Ideal) .fp8e4m3 0⟩ | exact ⟨FloatOps.ofBits (F := Ideal) .fp8e5m2 0⟩
  run_main m ρ (ok_of_pre m h)

theorem arg_mem {m : (ℓ : Loc nD τ sig) → Buf (Elt Ideal) ℓ} {r} (h : QC m r) (c : Dev nD) (b : Ref sig .tc) (hb : dr b ∈ ucRefs)
    (hn : b ∉ [main_cst, main_v0, main_v1_0, main_v1_1, main_v2, main_v3, main_v4, main_v5]) : r.2.mem (c, dr b) = m (c, dr b) :=
  (h.1 c b hb).trans (V5_arg m c b hn)

theorem frame : Cert.quiescent_KernelIdeal := fun m ρ hpre =>
  (θ_run Cert.KernelIdeal.defs _ _).mono (fun _ h =>
    ⟨fun c => ⟨arg_mem h c main_arg0 (by decide) (by decide), arg_mem h c main_arg1 (by decide) (by decide),
      arg_mem h c main_arg2 (by decide) (by decide), arg_mem h c main_arg3 (by decide) (by decide),
      arg_mem h c main_arg4 (by decide) (by decide), arg_mem h c main_arg5 (by decide) (by decide)⟩, h.2⟩) (run_pre m ρ hpre)

end Cert.Proof.KI

end
-- ==== Proof.Sides.lean ====
/-
  The reference's frame and the named constants' statements.
-/
module

public import proofs.«01_k».proof.Defs
public import proofs.«01_k».proof.Proof.Gen.Pre_rows_named
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof.Sides

open Idealize.ShloMosaic Idealize.SL.Sem

/-- The reference is straight-line host code: its generated run leaves the arguments, and it has no semaphores. -/
theorem frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The table gives each of the kernel's three named constants the value its statement names. -/
theorem preserves : Cert.preserves_Kernel_KernelIdeal :=
  ⟨IdealRules.named_const.statement Cert.KernelIdeal.κ "inv_t" .f32 0x41649249#32 ((134217728 / 9395241 : ℝ) : EReal) rfl,
    IdealRules.named_const.statement Cert.KernelIdeal.κ "c" .f32 0x3A05FB57#32 ((71930929045 / 140737488355328 : ℝ) : EReal) rfl,
    IdealRules.named_const.statement Cert.KernelIdeal.κ "log_mpn" .f32 0xC0F28853#32 ((Real.log (8778913 / 17179869184) : ℝ) : EReal) rfl⟩

end Cert.Proof.Sides

end
-- ==== Proof.Math.lean ====
/-
  The loss over the extended reals: one term of a block, then the sums of a block and of the whole array.
-/
module

public import Idealize.ShloMosaic.PureOps.Ideal
public import Idealize.ShloMosaic.Lib.Pointwise

@[expose] public section

noncomputable section

namespace Cert.Proof.Math

open Idealize.ShloMosaic
open scoped BigOperators

/-! ## One term -/

/-- The constants, as the words of the reference hold them: the number of negatives over the number of rows, the small number, their sum
    and the logarithm of the first. -/
abbrev mpn : EReal := ((8778913 / 17179869184 : ℝ) : EReal)
abbrev eps : EReal := ((14073749 / 140737488355328 : ℝ) : EReal)
abbrev cc : EReal := ((71930929045 / 140737488355328 : ℝ) : EReal)
abbrev lm : EReal := ((Real.log (8778913 / 17179869184) : ℝ) : EReal)

/-- The kernel's two terms of a product `x` at the normaliser `z`, and the reference's. -/
def K1 (z x : EReal) : EReal :=
  (if Ideal.div (Ideal.exp x) z = 0 then ⊥ else x - Ideal.log z) - Ideal.log (Ideal.div (Ideal.exp x) z + cc)
def K0 (z x : EReal) : EReal := lm - Ideal.log (Ideal.div (Ideal.exp x) z + cc)
def L1 (z x : EReal) : EReal :=
  Ideal.log (Ideal.div (Ideal.div (Ideal.exp x) z) (Ideal.div (Ideal.exp x) z + mpn + eps))
def L0 (z x : EReal) : EReal := Ideal.log (Ideal.div mpn (Ideal.div (Ideal.exp x) z + mpn + eps))

theorem exp_nonneg (x : EReal) : 0 ≤ Ideal.exp x := by
  induction x with
  | bot => simp
  | top => simp
  | coe r => rw [Ideal.exp_coe]; exact_mod_cast (Real.exp_pos r).le

theorem exp_eq_zero {x : EReal} (h : Ideal.exp x = 0) : x = ⊥ := by
  induction x with
  | bot => rfl
  | top => simp at h
  | coe r => rw [Ideal.exp_coe] at h; exact absurd (by exact_mod_cast h) (Real.exp_ne_zero r)

theorem mpn_eps (o : EReal) : o + mpn + eps = o + cc := by
  rw [add_assoc]; congr 1; rw [← EReal.coe_add]; norm_num

/-- A quotient that is a non-negative real. -/
theorem L0_real {z x : EReal} {o : ℝ} (ho : 0 ≤ o) (e : Ideal.div (Ideal.exp x) z = (o : EReal)) :
    K0 z x = L0 z x ∧ ∃ r : ℝ, L0 z x = r := by
  have hp : 0 < o + 71930929045 / 140737488355328 := by positivity
  unfold K0 L0
  rw [mpn_eps, e, ← EReal.coe_add, Ideal.log_coe, if_neg (not_le.mpr hp), Ideal.div_coe hp.ne', ← EReal.coe_mul, Ideal.log_coe,
    if_neg (not_le.mpr (by positivity)), ← EReal.coe_sub]
  refine ⟨?_, _, rfl⟩
  rw [Real.log_mul (by norm_num) (by positivity), one_div, Real.log_inv]
  rfl

theorem L1_real {z x : EReal} {o : ℝ} (ho : 0 ≤ o) (e : Ideal.div (Ideal.exp x) z = (o : EReal))
    (hl : 0 < o → x - Ideal.log z = ((Real.log o : ℝ) : EReal)) : K1 z x = L1 z x ∧ L1 z x ≠ ⊤ := by
  have hp : 0 < o + 71930929045 / 140737488355328 := by positivity
  unfold K1 L1
  rw [mpn_eps, e, ← EReal.coe_add, Ideal.log_coe, if_neg (not_le.mpr hp), Ideal.div_coe hp.ne', ← EReal.coe_mul, Ideal.log_coe]
  by_cases h0 : o = 0
  · subst h0
    simp
  · have hpos : 0 < o := lt_of_le_of_ne ho (Ne.symm h0)
    rw [if_neg (by exact_mod_cast h0), if_neg (not_le.mpr (by positivity)), hl hpos, ← EReal.coe_sub]
    refine ⟨?_, EReal.coe_ne_top _⟩
    rw [Real.log_mul h0 (by positivity), one_div, Real.log_inv]
    rfl

/-- The normaliser is not zero, and where it is a real every exponential is: the kernel's terms are the reference's. -/
theorem terms {z x : EReal} (hz : 0 ≤ z) (h0 : z ≠ 0) (hx : z ≠ ⊤ → Ideal.exp x ≠ ⊤) :
    K1 z x = L1 z x ∧ L1 z x ≠ ⊤ ∧ K0 z x = L0 z x ∧ ∃ r : ℝ, L0 z x = r := by
  obtain ⟨o, ho, e, hl⟩ : ∃ o : ℝ, 0 ≤ o ∧ Ideal.div (Ideal.exp x) z = (o : EReal) ∧
      (0 < o → x - Ideal.log z = ((Real.log o : ℝ) : EReal)) := by
    induction z with
    | bot => exact absurd hz (by simp)
    | top =>
      refine ⟨0, le_rfl, ?_, fun h => absurd h (lt_irrefl _)⟩
      rw [Ideal.div, if_neg (by simp), EReal.inv_top, mul_zero]; rfl
    | coe s =>
      have hs : 0 < s := lt_of_le_of_ne (by exact_mod_cast hz) (fun h => h0 (by rw [← h]; rfl))
      have hxt := hx (EReal.coe_ne_top s)
      rw [Ideal.div_coe hs.ne']
      induction x with
      | bot => exact ⟨0, le_rfl, by simp, fun h => absurd h (lt_irrefl _)⟩
      | top => exact absurd rfl hxt
      | coe t =>
        refine ⟨Real.exp t * (1 / s), by positivity, by rw [Ideal.exp_coe, ← EReal.coe_mul], fun _ => ?_⟩
        rw [Ideal.log_coe, if_neg (not_le.mpr hs), ← EReal.coe_sub, Real.log_mul (Real.exp_ne_zero t) (by positivity), Real.log_exp,
          one_div, Real.log_inv]
        rfl
  obtain ⟨a, b⟩ := L1_real ho e hl
  obtain ⟨c, d⟩ := L0_real ho e
  exact ⟨a, b, c, d⟩

/-- Every exponential is zero, so the normaliser is. -/
theorem terms_zero : K1 0 ⊥ = ⊥ ∧ L1 0 ⊥ = ⊥ ∧ L0 0 ⊥ = ⊥ := by
  have e : Ideal.div (Ideal.exp ⊥) 0 = ⊥ := by simp [Ideal.div]
  refine ⟨?_, ?_, ?_⟩
  · unfold K1; rw [e]; simp
  · unfold L1; rw [e]; simp [Ideal.div, show Ideal.log 0 = ⊥ from by rw [← EReal.coe_zero, Ideal.log_coe]; simp]
  · unfold L0; rw [e]; simp [Ideal.div, show Ideal.log 0 = ⊥ from by rw [← EReal.coe_zero, Ideal.log_coe]; simp]

/-! ## A block -/

theorem sum_ne_top {ι : Type} (s : Finset ι) (f : ι → EReal) (h : ∀ i ∈ s, f i ≠ ⊤) : ∑ i ∈ s, f i ≠ ⊤ := by
  classical
  induction s using Finset.induction_on with
  | empty => simp
  | insert a s ha ih =>
    rw [Finset.sum_insert ha]
    exact EReal.add_ne_top (h a (Finset.mem_insert_self ..)) (ih fun i hi => h i (Finset.mem_insert_of_mem hi))

theorem sum_bot {ι : Type} (s : Finset ι) (f : ι → EReal) (i : ι) (hi : i ∈ s) (h : f i = ⊥) : ∑ i ∈ s, f i = ⊥ := by
  classical
  rw [← Finset.add_sum_erase s f hi, h, EReal.bot_add]

theorem sum_real {ι : Type} (s : Finset ι) (f : ι → EReal) (h : ∀ i ∈ s, ∃ r : ℝ, f i = r) : ∃ r : ℝ, ∑ i ∈ s, f i = r := by
  classical
  induction s using Finset.induction_on with
  | empty => exact ⟨0, rfl⟩
  | insert a s ha ih =>
    obtain ⟨r, hr⟩ := h a (Finset.mem_insert_self ..)
    obtain ⟨q, hq⟩ := ih fun i hi => h i (Finset.mem_insert_of_mem hi)
    exact ⟨r + q, by rw [Finset.sum_insert ha, hr, hq, EReal.coe_add]⟩

/-- What the kernel makes of a block's products, and what the reference makes of them. -/
def blkK {n : ℕ} (z : EReal) (x : Fin n → Fin 512 → EReal) : EReal :=
  ((∑ b, K1 z (x b 0)) + ∑ b, ∑ k, K0 z (x b k)) - ∑ b, K0 z (x b 0)
def blkL {n : ℕ} (z : EReal) (x : Fin n → Fin 512 → EReal) : EReal :=
  (∑ b, L1 z (x b 0)) + ∑ b, ∑ k : Fin 511, L0 z (x b k.succ)

theorem blk_eq {n : ℕ} (hn : 0 < n) (z : EReal) (x : Fin n → Fin 512 → EReal) (hz : 0 ≤ z) (h0 : z = 0 → ∀ b k, x b k = ⊥)
    (hx : z ≠ ⊤ → ∀ b k, Ideal.exp (x b k) ≠ ⊤) : blkK z x = blkL z x ∧ blkL z x ≠ ⊤ := by
  by_cases hz0 : z = 0
  · have hb := h0 hz0
    subst hz0
    have e1 : ∑ b, K1 0 (x b 0) = ⊥ := sum_bot _ _ ⟨0, hn⟩ (Finset.mem_univ _) (by rw [hb]; exact terms_zero.1)
    have e2 : ∑ b, L1 0 (x b 0) = ⊥ := sum_bot _ _ ⟨0, hn⟩ (Finset.mem_univ _) (by rw [hb]; exact terms_zero.2.1)
    unfold blkK blkL
    rw [e1, e2, EReal.bot_add, EReal.bot_add, EReal.bot_sub]
    exact ⟨rfl, by simp⟩
  · have t := fun b k => terms hz hz0 (fun h => hx h b k)
    have hK1 : ∑ b, K1 z (x b 0) = ∑ b, L1 z (x b 0) := Finset.sum_congr rfl fun b _ => (t b 0).1
    have hK0 : ∑ b, ∑ k, K0 z (x b k) = ∑ b, (L0 z (x b 0) + ∑ k : Fin 511, L0 z (x b k.succ)) := Finset.sum_congr rfl fun b _ => by
      rw [Fin.sum_univ_succ]; exact congrArg₂ (· + ·) (t b 0).2.2.1 (Finset.sum_congr rfl fun k _ => (t b _).2.2.1)
    have hK : ∑ b, K0 z (x b 0) = ∑ b, L0 z (x b 0) := Finset.sum_congr rfl fun b _ => (t b 0).2.2.1
    obtain ⟨r, hr⟩ := sum_real Finset.univ (fun b => L0 z (x b 0)) fun b _ => (t b 0).2.2.2
    obtain ⟨q, hq⟩ := sum_real Finset.univ (fun b => ∑ k : Fin 511, L0 z (x b k.succ)) fun b _ => sum_real _ _ fun k _ => (t b _).2.2.2
    have hS := sum_ne_top Finset.univ (fun b => L1 z (x b 0)) fun b _ => (t b 0).2.1
    unfold blkK blkL
    rw [hK1, hK0, hK, Finset.sum_add_distrib, hr, hq]
    refine ⟨?_, EReal.add_ne_top hS (EReal.coe_ne_top _)⟩
    rw [add_comm (r : EReal), ← add_assoc, EReal.add_sub_cancel_right]

/-! ## Sums over the coordinates -/

/-- A sum over `m·n` places is a sum over `m` groups of `n`. -/
theorem sum_groups {M : Type} [AddCommMonoid M] {m n N : ℕ} (h : m * n = N) (g : Fin N → M) :
    ∑ i, g i = ∑ a : Fin m, ∑ b : Fin n, g ⟨n * a.val + b.val, by
      have := a.isLt; have := b.isLt; rw [← h]; calc n * a.val + b.val < n * a.val + n := by omega
        _ = n * (a.val + 1) := by ring
        _ ≤ n * m := Nat.mul_le_mul_left _ (by omega)
        _ = m * n := Nat.mul_comm ..⟩ := by
  subst h
  rw [← Equiv.sum_comp finProdFinEquiv, Fintype.sum_prod_type]
  refine Finset.sum_congr rfl fun a _ => Finset.sum_congr rfl fun b _ => congrArg g (Fin.ext ?_)
  simp [finProdFinEquiv, add_comm]

end Cert.Proof.Math

end
-- ==== Proof.Sums.lean ====
/-
  A block of the loss holds 256 × 512 products in 16384 × 128 words, one word in sixteen: sums over the words are sums over the products.
-/
module

public import proofs.«01_k».proof.Proof.Math

@[expose] public section

noncomputable section

namespace Cert.Proof.Math

open Idealize.ShloMosaic
open scoped BigOperators

/-- The word of a block that holds product `k` of batch row `b`. -/
def wr (b : Fin 256) (k : Fin 512) : Fin 16384 := ⟨64 * b.val + k.val / 8, by omega⟩
def wl (k : Fin 512) : Fin 128 := ⟨16 * (k.val % 8), by omega⟩

/-- The words of a block, the rows grouped by batch row and the lanes by product. -/
theorem words {M : Type} [AddCommMonoid M] (f : Fin 16384 → Fin 128 → M) :
    ∑ r, ∑ l, f r l = ∑ b : Fin 256, ∑ k : Fin 512, ∑ i : Fin 16, f (wr b k) ⟨16 * (k.val % 8) + i.val, by omega⟩ := by
  rw [sum_groups (m := 256) (n := 64) (by norm_num)]
  refine Finset.sum_congr rfl fun b _ => ?_
  rw [sum_groups (m := 64) (n := 8) (N := 512) (by norm_num)]
  refine Finset.sum_congr rfl fun q _ => ?_
  rw [sum_groups (m := 8) (n := 16) (by norm_num)]
  refine Finset.sum_congr rfl fun j _ => Finset.sum_congr rfl fun i _ => ?_
  have h1 : (8 * q.val + j.val) / 8 = q.val := by omega
  have h2 : (8 * q.val + j.val) % 8 = j.val := by omega
  simp only [wr, h1, h2]

theorem words_seg (f : Fin 16384 → Fin 128 → EReal) (h : ∀ r (l : Fin 128), l.val % 16 ≠ 0 → f r l = 0) :
    ∑ r, ∑ l, f r l = ∑ b : Fin 256, ∑ k : Fin 512, f (wr b k) (wl k) := by
  rw [words]
  refine Finset.sum_congr rfl fun b _ => Finset.sum_congr rfl fun k _ => ?_
  rw [Finset.sum_eq_single (0 : Fin 16)]
  · rfl
  · intro i _ hi
    refine h _ _ ?_
    have : i.val ≠ 0 := fun e => hi (Fin.ext e)
    simp only; omega
  · intro hh; exact absurd (Finset.mem_univ _) hh

theorem words_pos (f : Fin 16384 → Fin 128 → EReal) (h : ∀ (r : Fin 16384) (l : Fin 128), ¬ (l.val = 0 ∧ r.val % 64 = 0) → f r l = 0) :
    ∑ r, ∑ l, f r l = ∑ b : Fin 256, f (wr b 0) (wl 0) := by
  rw [words_seg f (fun r l hl => h r l (by omega))]
  refine Finset.sum_congr rfl fun b _ => ?_
  rw [Finset.sum_eq_single (0 : Fin 512)]
  · intro k _ hk
    refine h _ _ ?_
    have : k.val ≠ 0 := fun e => hk (Fin.ext e)
    simp only [wr, wl]; omega
  · intro hh; exact absurd (Finset.mem_univ _) hh

theorem sum_sixteen (g : Fin 16 → EReal) (h : ∀ i : Fin 16, i ≠ 0 → g i = 1) : ∑ i, g i = g 0 + ((15 : ℝ) : EReal) := by
  rw [Fin.sum_univ_succ, Finset.sum_congr rfl (fun i _ => h (Fin.succ i) (Fin.succ_ne_zero i)), Finset.sum_const, Finset.card_univ,
    Fintype.card_fin, ← EReal.coe_one, ← EReal.coe_nsmul]
  norm_num

/-- The words that hold no product are ones: 1966080 of them. -/
theorem words_one (f : Fin 16384 → Fin 128 → EReal) (h : ∀ r (l : Fin 128), l.val % 16 ≠ 0 → f r l = 1) :
    ∑ r, ∑ l, f r l = (∑ b : Fin 256, ∑ k : Fin 512, f (wr b k) (wl k)) + ((1966080 : ℝ) : EReal) := by
  rw [words]
  have e : ∀ (b : Fin 256) (k : Fin 512),
      ∑ i : Fin 16, f (wr b k) ⟨16 * (k.val % 8) + i.val, by omega⟩ = f (wr b k) (wl k) + ((15 : ℝ) : EReal) := fun b k => by
    rw [sum_sixteen]
    · rfl
    · intro i hi
      refine h _ _ ?_
      have : i.val ≠ 0 := fun e => hi (Fin.ext e)
      simp only; omega
  simp only [e, Finset.sum_add_distrib, Finset.sum_const, Finset.card_univ, Fintype.card_fin, ← EReal.coe_nsmul]
  norm_num

theorem add_sub_real (x : EReal) (r : ℝ) : x + (r : EReal) - (r : EReal) = x := by
  induction x with
  | bot => simp
  | top => rw [EReal.top_add_coe, EReal.top_sub_coe]
  | coe a => rw [← EReal.coe_add, ← EReal.coe_sub]; simp

/-- The share of the loss a sum of logarithms is: its negation over the batch. -/
def share (x : EReal) : EReal := Ideal.div (-x) ((1024 : ℝ) : EReal)

theorem share_add {x y : EReal} (hx : x ≠ ⊤) (hy : y ≠ ⊤) : share (x + y) = share x + share y := by
  unfold share
  rw [Ideal.div_coe (by norm_num), Ideal.div_coe (by norm_num), Ideal.div_coe (by norm_num), EReal.neg_add (Or.inr hy) (Or.inl hx),
    sub_eq_add_neg, mul_comm, mul_comm (-x), mul_comm (-y)]
  exact EReal.left_distrib_of_nonneg_of_ne_top (by exact_mod_cast (by norm_num : (0:ℝ) ≤ 1/1024)) (EReal.coe_ne_top _) _ _

theorem share_sum {n : ℕ} (f : Fin n → EReal) (h : ∀ i, f i ≠ ⊤) : share (∑ i, f i) = ∑ i, share (f i) := by
  induction n with
  | zero => simp [share, Ideal.div_coe (by norm_num : (1024:ℝ) ≠ 0)]
  | succ n ih =>
    rw [Fin.sum_univ_succ, Fin.sum_univ_succ, share_add (h 0) (sum_ne_top _ _ fun i _ => h _), ih _ fun i => h _]

/-- The rows of a block. -/
def part (x : Fin 1024 → Fin 512 → EReal) (t : Fin 4) : Fin 256 → Fin 512 → EReal := fun b => x ⟨256 * t.val + b.val, by omega⟩

theorem parts {M : Type} [AddCommMonoid M] (g : Fin 1024 → M) :
    ∑ b, g b = ∑ t : Fin 4, ∑ b : Fin 256, g ⟨256 * t.val + b.val, by omega⟩ := sum_groups (by norm_num) g

end Cert.Proof.Math

end
-- ==== Proof.Loss.lean ====
/-
  The loss of the two arrays of products: what the kernel adds up block by block is what the reference adds up at once.
-/
module

public import proofs.«01_k».proof.Proof.Sums

@[expose] public section

noncomputable section

namespace Cert.Proof.Math

open Idealize.ShloMosaic
open scoped BigOperators

/-- The normaliser: the mean of the exponentials times the number of rows of the table. -/
def zed (x : Fin 1024 → Fin 512 → EReal) : EReal := (∑ b, ∑ k, Ideal.exp (x b k)) * ((1000000 / 524288 : ℝ) : EReal)

theorem zed_nonneg (x : Fin 1024 → Fin 512 → EReal) : 0 ≤ zed x :=
  mul_nonneg (Finset.sum_nonneg fun _ _ => Finset.sum_nonneg fun _ _ => exp_nonneg _) (by exact_mod_cast (by norm_num : (0:ℝ) ≤ 1000000 / 524288))

theorem exp_le_sum (x : Fin 1024 → Fin 512 → EReal) (b : Fin 1024) (k : Fin 512) : Ideal.exp (x b k) ≤ ∑ b, ∑ k, Ideal.exp (x b k) :=
  le_trans (Finset.single_le_sum (f := fun k => Ideal.exp (x b k)) (fun _ _ => exp_nonneg _) (Finset.mem_univ k))
    (Finset.single_le_sum (f := fun b => ∑ k, Ideal.exp (x b k)) (fun _ _ => Finset.sum_nonneg fun _ _ => exp_nonneg _) (Finset.mem_univ b))

theorem zed_zero {x : Fin 1024 → Fin 512 → EReal} (h : zed x = 0) (b : Fin 1024) (k : Fin 512) : x b k = ⊥ := by
  have hs : ∑ b, ∑ k, Ideal.exp (x b k) = 0 := by
    rcases mul_eq_zero.mp h with h | h
    · exact h
    · exact absurd (by exact_mod_cast h) (by norm_num : ¬ (1000000 / 524288 : ℝ) = 0)
  exact exp_eq_zero (le_antisymm (hs ▸ exp_le_sum x b k) (exp_nonneg _))

theorem zed_top {x : Fin 1024 → Fin 512 → EReal} (h : zed x ≠ ⊤) (b : Fin 1024) (k : Fin 512) : Ideal.exp (x b k) ≠ ⊤ := fun e => by
  have hs : ∑ b, ∑ k, Ideal.exp (x b k) = ⊤ := top_le_iff.mp (e ▸ exp_le_sum x b k)
  refine h ?_
  unfold zed
  rw [hs, EReal.top_mul_coe_of_pos (by norm_num)]

theorem part_eq (x : Fin 1024 → Fin 512 → EReal) (t : Fin 4) :
    blkK (zed x) (part x t) = blkL (zed x) (part x t) ∧ blkL (zed x) (part x t) ≠ ⊤ :=
  blk_eq (by norm_num) _ _ (zed_nonneg x) (fun h _ _ => zed_zero h _ _) fun h _ _ => zed_top h _ _

theorem blkL_parts (z : EReal) (x : Fin 1024 → Fin 512 → EReal) : blkL z x = ∑ t, blkL z (part x t) := by
  unfold blkL
  rw [Finset.sum_add_distrib, parts, parts]
  rfl

/-- One block's step of the output word. -/
def step (z w : EReal) (x y : Fin 1024 → Fin 512 → EReal) (t : Fin 4) (o : EReal) : EReal :=
  o + Ideal.div (0 - (blkK z (part x t) + blkK w (part y t))) ((1024 : ℝ) : EReal)

theorem loss (x y : Fin 1024 → Fin 512 → EReal) :
    step (zed x) (zed y) x y 3 (step (zed x) (zed y) x y 2 (step (zed x) (zed y) x y 1 (step (zed x) (zed y) x y 0 0))) =
      share (blkL (zed x) x) + share (blkL (zed y) y) := by
  have e : ∀ t o, step (zed x) (zed y) x y t o = o + (share (blkL (zed x) (part x t)) + share (blkL (zed y) (part y t))) := fun t o => by
    unfold step
    rw [(part_eq x t).1, (part_eq y t).1, zero_sub]
    exact congrArg (o + ·) (share_add (part_eq x t).2 (part_eq y t).2)
  rw [e, e, e, e, blkL_parts, blkL_parts (zed y), share_sum _ fun t => (part_eq x t).2, share_sum _ fun t => (part_eq y t).2,
    Fin.sum_univ_four, Fin.sum_univ_four]
  abel

end Cert.Proof.Math

end
-- ==== Proof.Consts.lean ====
/-
  The constants the two programs spell as words, as the extended reals the words denote.
-/
module

public import Idealize.ShloMosaic.PureOps.Ideal

@[expose] public section

noncomputable section

namespace Cert.Proof.Consts

open Idealize.ShloMosaic

theorem ofBits_z : Ideal.ofBits .f32 0x3FF42400#32 = ((1000000 / 524288 : ℝ) : EReal) := by
  simp [Ideal.ofBits, Ideal.ieee, -EReal.coe_mul]; norm_num
theorem ofBits_g : Ideal.ofBits .f32 0x49F00000#32 = ((1966080 : ℝ) : EReal) := by
  simp [Ideal.ofBits, Ideal.ieee, -EReal.coe_mul]; norm_num
theorem ofBits_bsz : Ideal.ofBits .f32 0x44800000#32 = ((1024 : ℝ) : EReal) := by
  simp [Ideal.ofBits, Ideal.ieee, -EReal.coe_mul]; norm_num
theorem ofBits_bot : Ideal.ofBits .f32 0xFF800000#32 = ⊥ := by
  simp [Ideal.ofBits, Ideal.ieee]
theorem ofBits_t : Ideal.ofBits .f32 0x3D8F5C29#32 = ((9395241 / 134217728 : ℝ) : EReal) := by
  simp [Ideal.ofBits, Ideal.ieee, -EReal.coe_mul]; norm_num
theorem ofBits_mpn : Ideal.ofBits .f32 0x3A05F4A1#32 = ((8778913 / 17179869184 : ℝ) : EReal) := by
  simp [Ideal.ofBits, Ideal.ieee, -EReal.coe_mul]; norm_num
theorem ofBits_eps : Ideal.ofBits .f32 0x33D6BF95#32 = ((14073749 / 140737488355328 : ℝ) : EReal) := by
  simp [Ideal.ofBits, Ideal.ieee, -EReal.coe_mul]; norm_num
theorem ofBits_n : Ideal.ofBits .f32 0x49000000#32 = ((524288 : ℝ) : EReal) := by
  simp [Ideal.ofBits, Ideal.ieee, -EReal.coe_mul]; norm_num
theorem ofBits_rows : Ideal.ofBits .f32 0x49742400#32 = ((1000000 : ℝ) : EReal) := by
  simp [Ideal.ofBits, Ideal.ieee, -EReal.coe_mul]; norm_num

end Cert.Proof.Consts

end
-- ==== Proof.Pay.lean ====
/-
  The loss kernel's arithmetic over the extended reals, read word by word.
-/
module

public import proofs.«01_k».proof.Proof.Gen.KernelIdeal.Skeleton
public import proofs.«01_k».proof.Proof.Loss
public import proofs.«01_k».proof.Proof.Consts
public import Idealize.ShloMosaic.Lib.Pointwise

@[expose] public section

set_option maxRecDepth 16384

noncomputable section

namespace Cert.Proof.Pay

open Cert.KernelIdeal Cert.KernelIdeal.Gen Cert.Proof.Math Cert.Proof.Consts
open Idealize.ShloMosaic Idealize.ShloMosaic.Pointwise
open scoped BigOperators

theorem inv_t : Named.named (F := Ideal) κ "inv_t" (φ := .f32) 0x41649249#32 = ((134217728 / 9395241 : ℝ) : EReal) :=
  IdealRules.named_const.ideal_named_scalar _ _ _ _ rfl
theorem c_at : Named.named (F := Ideal) κ "c" (φ := .f32) 0x3A05FB57#32 = cc := IdealRules.named_const.ideal_named_scalar _ _ _ _ rfl
theorem lm_at : Named.named (F := Ideal) κ "log_mpn" (φ := .f32) 0xC0F28853#32 = lm := IdealRules.named_const.ideal_named_scalar _ _ _ _ rfl

theorem pay1_at (x : Vec Ideal S16384x128 .f32) (s : Vec Ideal S128x128 .f32) (r : Fin 16384) (l : Fin 128) :
    k1_pay1 x s (ix2 r l) = (∑ k : Fin 128, x (ix2 r k) * s (ix2 k l)) * ((134217728 / 9395241 : ℝ) : EReal) := by
  pointwise [k1_pay1, inv_t]

theorem pay2_at (x : Vec Ideal S16384x128 .f32) (s : Vec Ideal S128x128 .f32) (r : Fin 16384) (l : Fin 128) :
    k1_pay2 x s (ix2 r l) = (∑ k : Fin 128, x (ix2 r k) * s (ix2 k l)) * ((134217728 / 9395241 : ℝ) : EReal) := by
  pointwise [k1_pay2, inv_t]

theorem pay3_at (x : Vec Ideal S16384x128 .f32) (s : Vec Ideal S128x128 .f32) (r : Fin 16384) (l : Fin 128) :
    k1_pay3 x s (ix2 r l) = Ideal.exp (k1_pay1 x s (ix2 r l)) := by
  pointwise [k1_pay3]

theorem pay4_at (x : Vec Ideal S16384x128 .f32) (s : Vec Ideal S128x128 .f32) (r : Fin 16384) (l : Fin 128) :
    k1_pay4 x s (ix2 r l) = Ideal.exp (k1_pay2 x s (ix2 r l)) := by
  pointwise [k1_pay4]

theorem pay6_at (x : Vec Ideal S16384x128 .f32) (s : Vec Ideal S128x128 .f32) (a : EReal) :
    k1_pay6 (F := Ideal) x s a = a + ((∑ r : Fin 16384, ∑ l : Fin 128, Ideal.exp (k1_pay1 x s (ix2 r l))) - ((1966080 : ℝ) : EReal)) := by
  pointwise [k1_pay6, k1_pay3, ofBits_g]

theorem pay7_at (x : Vec Ideal S16384x128 .f32) (s : Vec Ideal S128x128 .f32) (a : EReal) :
    k1_pay7 (F := Ideal) x s a = a + ((∑ r : Fin 16384, ∑ l : Fin 128, Ideal.exp (k1_pay2 x s (ix2 r l))) - ((1966080 : ℝ) : EReal)) := by
  pointwise [k1_pay7, k1_pay4, ofBits_g]

theorem slog (x : EReal) : Scalar.log (F := Ideal) (φ := .f32) x = Ideal.log x := rfl

/-- The block's sum of one table's terms, the two masks given. -/
def tot (p q : IVec S16384x128 1) (d : Fin 16384 → Fin 128 → EReal) (z : EReal) : EReal :=
  ((∑ r : Fin 16384, ∑ l : Fin 128, Scalar.select (q (ix2 r l)) (K1 z (d r l)) 0) +
    ∑ r : Fin 16384, ∑ l : Fin 128, Scalar.select (p (ix2 r l)) (K0 z (d r l)) 0) -
    ∑ r : Fin 16384, ∑ l : Fin 128, Scalar.select (q (ix2 r l)) (K0 z (d r l)) 0

theorem pay9_at (p q : IVec S16384x128 1) (x : Vec Ideal S16384x128 .f32) (s : Vec Ideal S128x128 .f32) (a : EReal) :
    k1_pay9 (F := Ideal) p q (k1_pay1 x s) (k1_pay3 x s) a =
      tot p q (fun r l => k1_pay1 x s (ix2 r l)) (a * ((1000000 / 524288 : ℝ) : EReal)) := by
  unfold tot K1 K0
  pointwise [k1_pay9, k1_pay3, c_at, lm_at, ofBits_z, ofBits_bot, slog]

theorem pay8_at (p q : IVec S16384x128 1) (x : Vec Ideal S16384x128 .f32) (s : Vec Ideal S128x128 .f32) (w a : EReal)
    (o : Vec Ideal S1x1 .f32) (i j : Fin 1) :
    k1_pay8 (F := Ideal) p q x s w (k1_pay10 a) (k1_pay11 (k1_pay4 x s) a) (k1_pay12 (k1_pay4 x s) a)
        (Named.named κ "log_mpn" 0xC0F28853#32) o (ix2 i j) =
      o (ix2 i j) + Ideal.div (0 - (w + tot p q (fun r l => k1_pay2 x s (ix2 r l)) (a * ((1000000 / 524288 : ℝ) : EReal)))) ((1024 : ℝ) : EReal) := by
  unfold tot K1 K0
  pointwise [k1_pay8, k1_pay10, k1_pay11, k1_pay12, k1_pay4, c_at, lm_at, ofBits_z, ofBits_bot, ofBits_bsz, slog]

theorem pay5_at (i j : Fin 1) : k1_pay5 (F := Ideal) (ix2 i j) = 0 := by
  pointwise [k1_pay5]

theorem seg_at (r : Fin 16384) (l : Fin 128) : k1_pay13 (ix2 r l) = BitVec.ofBool (decide (l.val % 16 = 0)) := by
  pointwise [k1_pay13]
  revert l
  decide +kernel

theorem row_mask : ∀ a b : Fin 128, IntOp.cmpi CmpIPredicate.eq
        (Scalar.select
          (IntOp.andi
            (IntOp.xori
              (IntOp.cmpi CmpIPredicate.slt
                (IntOp.remsi ArithUnit.vector (BitVec.ofNat 32 (128 * a.val + b.val))
                  (Scalar.select (Scalar.cmpi CmpIPredicate.eq 64#32 0#32) 1#32 64#32))
                0#32)
              (Scalar.cmpi CmpIPredicate.slt (Scalar.select (Scalar.cmpi CmpIPredicate.eq 64#32 0#32) 1#32 64#32) 0#32))
            (IntOp.cmpi CmpIPredicate.ne
              (IntOp.remsi ArithUnit.vector (BitVec.ofNat 32 (128 * a.val + b.val))
                (Scalar.select (Scalar.cmpi CmpIPredicate.eq 64#32 0#32) 1#32 64#32))
              0#32))
          (IntOp.addi
            (IntOp.remsi ArithUnit.vector (BitVec.ofNat 32 (128 * a.val + b.val))
              (Scalar.select (Scalar.cmpi CmpIPredicate.eq 64#32 0#32) 1#32 64#32))
            (Scalar.select (Scalar.cmpi CmpIPredicate.eq 64#32 0#32) 1#32 64#32))
          (IntOp.remsi ArithUnit.vector (BitVec.ofNat 32 (128 * a.val + b.val))
            (Scalar.select (Scalar.cmpi CmpIPredicate.eq 64#32 0#32) 1#32 64#32)))
        0#32 = BitVec.ofBool (decide (b.val % 64 = 0)) := by
  decide +kernel

theorem lane_mask : ∀ l : Fin 128, IntOp.cmpi CmpIPredicate.eq (BitVec.ofNat 32 l.val) 0#32 = BitVec.ofBool (decide (l.val = 0)) := by
  decide +kernel

theorem pos_at (r : Fin 16384) (l : Fin 128) : k1_pay14 (ix2 r l) = BitVec.ofBool (decide (l.val = 0 ∧ r.val % 64 = 0)) := by
  pointwise [k1_pay14]
  have h := row_mask ⟨r.val / 128, by omega⟩ ⟨r.val % 128, by omega⟩
  rw [show 128 * (r.val / 128) + r.val % 128 = r.val from by omega, show r.val % 128 % 64 = r.val % 64 from by omega] at h
  rw [h, lane_mask]
  by_cases h1 : l.val = 0 <;> by_cases h2 : r.val % 64 = 0 <;> simp [h1, h2] <;> rfl

end Cert.Proof.Pay

end
-- ==== Proof.Lanes.lean ====
/-
  The lanes: the segment matrix adds a product's sixteen partial sums, and what a block then holds.
-/
module

public import proofs.«01_k».proof.Proof.KI.Tile
public import proofs.«01_k».proof.Proof.Pay

@[expose] public section

set_option maxRecDepth 16384

noncomputable section

namespace Cert.Proof.Lanes

open Cert.KernelIdeal Cert.KernelIdeal.Gen Cert.Proof.Math Cert.Proof.Pay Cert.Proof.KI
open Idealize.ShloMosaic
open scoped BigOperators

abbrev invT : EReal := ((134217728 / 9395241 : ℝ) : EReal)

/-- The matrix whose column `16·j` is one at the sixteen rows from `16·j`. -/
def Seg (s : Vec Ideal S128x128 .f32) : Prop :=
  ∀ k l : Fin 128, s (ix2 k l) = if l.val % 16 = 0 ∧ k.val / 16 = l.val / 16 then (1 : EReal) else 0

theorem lanes (x : Fin 128 → EReal) (l : Fin 128) :
    (∑ k : Fin 128, x k * (if l.val % 16 = 0 ∧ k.val / 16 = l.val / 16 then (1 : EReal) else 0)) =
      if l.val % 16 = 0 then ∑ i : Fin 16, x ⟨16 * (l.val / 16) + i.val, by omega⟩ else 0 := by
  by_cases h : l.val % 16 = 0
  · rw [if_pos h, sum_groups (m := 8) (n := 16) (by norm_num), Finset.sum_eq_single (⟨l.val / 16, by omega⟩ : Fin 8)]
    · refine Finset.sum_congr rfl fun i _ => ?_
      rw [if_pos ⟨h, by simp only; omega⟩, mul_one]
    · intro j _ hj
      refine Finset.sum_eq_zero fun i _ => ?_
      have : j.val ≠ l.val / 16 := fun e => hj (Fin.ext e)
      rw [if_neg (by simp only; omega), mul_zero]
    · intro hh; exact absurd (Finset.mem_univ _) hh
  · rw [if_neg h]
    refine Finset.sum_eq_zero fun k _ => ?_
    rw [if_neg (fun e => h e.1), mul_zero]

/-- A row's product with a vector, and its sixteen partial sums. -/
theorem dots (r f : Fin 128 → EReal) : (∑ i : Fin 16, dot8 (F := Ideal) r f i) = ∑ a, r a * f a := by
  rw [sum_groups (m := 8) (n := 16) (by norm_num) (fun a => r a * f a), Finset.sum_comm]
  refine Finset.sum_congr rfl fun i _ => ?_
  rw [Fin.sum_univ_eight]
  unfold dot8
  simp only [Ideal.addf_def, Ideal.mulf_def]
  congr 8 <;> (congr 1 <;> (congr 1; first | (apply Fin.ext; simp) | simp))

/-- The products over the temperature: batch row `b` against the `k`-th row named for it. -/
def DD (T : S1000000x128.Idx → EReal) (X : S524288.Idx → BitVec 32) (A : S1024x128.Idx → EReal) (b : Fin 1024) (k : Fin 512) : EReal :=
  (∑ a : Fin 128, T (ix2 (rowOf (X (ix1 (⟨512 * b.val + k.val, by omega⟩ : Fin 524288)))) a) * A (ix2 b a)) * invT

theorem OUT_at (T : S1000000x128.Idx → EReal) (X : S524288.Idx → BitVec 32) (A : S1024x128.Idx → EReal) (b : Fin 1024) (k : Fin 512) (i : Fin 16)
    (n : Fin 8388608) (hn : n.val = 16 * (512 * b.val + k.val) + i.val) :
    OUT (F := Ideal) T X A (ix1 n) = dot8 (F := Ideal) (fun a => T (ix2 (rowOf (X (ix1 (⟨512 * b.val + k.val, by omega⟩ : Fin 524288)))) a))
      (fun a => A (ix2 b a)) i := by
  have h1 : n.val / 16 % 524288 = 512 * b.val + k.val := by omega
  have h2 : n.val / 8192 % 1024 = b.val := by omega
  have h3 : n.val % 16 = i.val := by omega
  unfold OUT
  have e1 : (⟨(ix1 n 0).val / 16 % 524288, Nat.mod_lt _ (by omega)⟩ : Fin 524288) = ⟨512 * b.val + k.val, by omega⟩ := Fin.ext h1
  have e2 : (⟨(ix1 n 0).val / 8192 % 1024, Nat.mod_lt _ (by omega)⟩ : Fin 1024) = b := Fin.ext h2
  have e3 : (⟨(ix1 n 0).val % 16, Nat.mod_lt _ (by omega)⟩ : Fin 16) = i := Fin.ext h3
  rw [e2, e3]
  congr 1
  · funext a
    rw [ix2_eq_valueIdx, ix1_eq_valueIdx, ← e1]
    rfl

/-- The block's word over the temperature. -/
def dw (x : Vec Ideal S16384x128 .f32) (s : Vec Ideal S128x128 .f32) (r : Fin 16384) (l : Fin 128) : EReal :=
  (∑ k : Fin 128, x (ix2 r k) * s (ix2 k l)) * invT

theorem dw_eq (x : Vec Ideal S16384x128 .f32) (s : Vec Ideal S128x128 .f32) (hs : Seg s) (r : Fin 16384) (l : Fin 128) :
    dw x s r l = (if l.val % 16 = 0 then ∑ i : Fin 16, x (ix2 r (⟨16 * (l.val / 16) + i.val, by omega⟩ : Fin 128)) else 0) * invT := by
  unfold dw
  rw [← lanes (fun k => x (ix2 r k)) l]
  congr 1
  exact Finset.sum_congr rfl fun k _ => by rw [hs k l]

theorem dw_off (x : Vec Ideal S16384x128 .f32) (s : Vec Ideal S128x128 .f32) (hs : Seg s) (r : Fin 16384) (l : Fin 128) (hl : l.val % 16 ≠ 0) :
    dw x s r l = 0 := by rw [dw_eq x s hs, if_neg hl, zero_mul]

/-- Block `t` of an array of partial sums. -/
def IsBlk (T : S1000000x128.Idx → EReal) (X : S524288.Idx → BitVec 32) (A : S1024x128.Idx → EReal) (t : Fin 4) (x : Vec Ideal S16384x128 .f32) : Prop :=
  ∀ (r : Fin 16384) (l : Fin 128), x (ix2 r l) = OUT (F := Ideal) T X A (ix1 (⟨128 * (16384 * t.val + r.val) + l.val, by omega⟩ : Fin 8388608))

theorem dw_at {T : S1000000x128.Idx → EReal} {X : S524288.Idx → BitVec 32} {A : S1024x128.Idx → EReal} {t : Fin 4} {x : Vec Ideal S16384x128 .f32}
    (hx : IsBlk T X A t x) (s : Vec Ideal S128x128 .f32) (hs : Seg s) (b : Fin 256) (k : Fin 512) :
    dw x s (wr b k) (wl k) = part (DD T X A) t b k := by
  rw [dw_eq x s hs, if_pos (by simp only [wl]; omega)]
  unfold part DD
  rw [← dots]
  congr 1
  refine Finset.sum_congr rfl fun i _ => ?_
  rw [hx]
  refine OUT_at T X A ⟨256 * t.val + b.val, by omega⟩ k i _ ?_
  simp only [wr, wl]; omega

/-- The block's exponentials, the words that hold no product counted out. -/
theorem exps {T : S1000000x128.Idx → EReal} {X : S524288.Idx → BitVec 32} {A : S1024x128.Idx → EReal} {t : Fin 4} {x : Vec Ideal S16384x128 .f32}
    (hx : IsBlk T X A t x) (s : Vec Ideal S128x128 .f32) (hs : Seg s) :
    (∑ r : Fin 16384, ∑ l : Fin 128, Ideal.exp (dw x s r l)) - ((1966080 : ℝ) : EReal) =
      ∑ b, ∑ k, Ideal.exp (part (DD T X A) t b k) := by
  rw [words_one (fun r l => Ideal.exp (dw x s r l)) fun r l hl => by
    rw [dw_off x s hs r l hl, ← EReal.coe_zero, Ideal.exp_coe, Real.exp_zero, EReal.coe_one], add_sub_real]
  exact Finset.sum_congr rfl fun b _ => Finset.sum_congr rfl fun k _ => by rw [dw_at hx s hs]

theorem sel (p : Prop) [Decidable p] (a b : EReal) : Scalar.select (BitVec.ofBool (decide p)) a b = if p then a else b := by
  by_cases h : p <;> simp [h, Scalar.select]

/-- The block's sum of terms. -/
theorem tots {T : S1000000x128.Idx → EReal} {X : S524288.Idx → BitVec 32} {A : S1024x128.Idx → EReal} {t : Fin 4} {x : Vec Ideal S16384x128 .f32}
    (hx : IsBlk T X A t x) (s : Vec Ideal S128x128 .f32) (hs : Seg s) (z : EReal) :
    tot k1_pay13 k1_pay14 (dw x s) z = blkK z (part (DD T X A) t) := by
  unfold tot blkK
  have hq : ∀ g : EReal → EReal, (∑ r : Fin 16384, ∑ l : Fin 128, Scalar.select (k1_pay14 (ix2 r l)) (g (dw x s r l)) 0) =
      ∑ b, g (part (DD T X A) t b 0) := fun g => by
    simp only [pos_at, sel]
    rw [words_pos (fun r l => if l.val = 0 ∧ r.val % 64 = 0 then g (dw x s r l) else 0) fun r l h => if_neg h]
    refine Finset.sum_congr rfl fun b _ => ?_
    rw [if_pos ⟨by simp [wl], by simp [wr]⟩, dw_at hx s hs]
  have hp : ∀ g : EReal → EReal, (∑ r : Fin 16384, ∑ l : Fin 128, Scalar.select (k1_pay13 (ix2 r l)) (g (dw x s r l)) 0) =
      ∑ b, ∑ k, g (part (DD T X A) t b k) := fun g => by
    simp only [seg_at, sel]
    rw [words_seg (fun r l => if l.val % 16 = 0 then g (dw x s r l) else 0) fun r l h => if_neg h]
    refine Finset.sum_congr rfl fun b _ => Finset.sum_congr rfl fun k _ => ?_
    rw [if_pos (by simp only [wl]; omega), dw_at hx s hs]
  rw [hq (K1 z), hq (K0 z), hp (K0 z)]

end Cert.Proof.Lanes

end
-- ==== Proof.Lit.lean ====
/-
  The constant matrix of the loss kernel: its entries are ones and zeros, and where the ones are.
-/
module

public import proofs.«01_k».proof.KernelIdeal

@[expose] public section

noncomputable section

namespace Cert.Proof.Lit

open Cert.KernelIdeal

/-- Row by row: column `16·j` sums the sixteen rows from `16·j`; the other columns are zero. -/
theorem lit_at : ∀ r c : Fin 128,
    lit0t (128 * r.val + c.val) = if c.val % 16 = 0 ∧ r.val / 16 = c.val / 16 then 0x3F800000#32 else 0x00000000#32 := by
  decide +kernel

end Cert.Proof.Lit

end
-- ==== Proof.Ker.lean ====
/-
  The kernel's loss as the sum over the products: the blocks the loss kernel reads, its accumulators and its output word.
-/
module

public import proofs.«01_k».proof.Proof.KI.Main
public import proofs.«01_k».proof.Proof.Lanes
public import proofs.«01_k».proof.Proof.Lit
public import Idealize.ShloMosaic.Lib.Pipeline.Value

@[expose] public section

set_option maxRecDepth 16384

noncomputable section

namespace Cert.Proof.Ker

open Cert.KernelIdeal Cert.KernelIdeal.Gen Cert.Proof.Math Cert.Proof.Pay Cert.Proof.KI Cert.Proof.Lanes
open Idealize.ShloMosaic Idealize.ShloMosaic.TcCoe
open scoped BigOperators

/-! ## The blocks -/

section Blocks

variable (V : (c : Dev nD) → (b : Ref sig .tc) → Buf (Elt Ideal) ((c : Thread nD τ).loc b))

theorem index_0 : ∀ t : Fin grid1.N, win1_0.index t = ![t.val % 4, 0] := by decide
theorem index_1 : ∀ t : Fin grid1.N, win1_1.index t = ![t.val % 4, 0] := by decide
theorem index_2 : ∀ t : Fin grid1.N, win1_2.index t = ![0, 0] := by decide

theorem blkA_at (c : Dev nD) (n : ℕ) (hn : n < 8) (r : Fin 16384) (l : Fin 128) :
    blkA V c n (ix2 r l) = V c main_v2 (ix2 (⟨16384 * (n % 4) + r.val, by omega⟩ : Fin 65536) l) := by
  refine (View.read_apply _ _).trans ((cast_eq _ _).trans (congrArg (V c main_v2) ?_))
  funext a
  apply Fin.ext
  refine (win1_0.rect_emb_val ⟨n % 8, lt_N1 n⟩ (ix2 r l) a).trans ?_
  rw [index_0]
  fin_cases a
  · show n % 8 % 4 * 16384 + r.val = 16384 * (n % 4) + r.val
    omega
  · show 0 * 128 + l.val = l.val
    omega

theorem blkB_at (c : Dev nD) (n : ℕ) (hn : n < 8) (r : Fin 16384) (l : Fin 128) :
    blkB V c n (ix2 r l) = V c main_v3 (ix2 (⟨16384 * (n % 4) + r.val, by omega⟩ : Fin 65536) l) := by
  refine (View.read_apply _ _).trans ((cast_eq _ _).trans (congrArg (V c main_v3) ?_))
  funext a
  apply Fin.ext
  refine (win1_1.rect_emb_val ⟨n % 8, lt_N1 n⟩ (ix2 r l) a).trans ?_
  rw [index_1]
  fin_cases a
  · show n % 8 % 4 * 16384 + r.val = 16384 * (n % 4) + r.val
    omega
  · show 0 * 128 + l.val = l.val
    omega

theorem blkS_at (c : Dev nD) (n : ℕ) (r : Fin 128) (l : Fin 128) : blkS V c n (ix2 r l) = V c main_cst (ix2 r l) := by
  refine (View.read_apply _ _).trans ((cast_eq _ _).trans (congrArg (V c main_cst) ?_))
  funext a
  apply Fin.ext
  refine (win1_2.rect_emb_val ⟨n % 8, lt_N1 n⟩ (ix2 r l) a).trans ?_
  rw [index_2]
  fin_cases a
  · show 0 * 128 + r.val = r.val
    omega
  · show 0 * 128 + l.val = l.val
    omega

/-! ## The accumulators and the output word -/

variable (c : Dev nD) (T1 T2 : S1000000x128.Idx → EReal) (X : S524288.Idx → BitVec 32) (A1 A2 : S1024x128.Idx → EReal)
  (hA : ∀ r l, V c main_v2 (ix2 r l) = OUT (F := Ideal) T1 X A1 (ix1 (⟨128 * r.val + l.val, by omega⟩ : Fin 8388608)))
  (hB : ∀ r l, V c main_v3 (ix2 r l) = OUT (F := Ideal) T2 X A2 (ix1 (⟨128 * r.val + l.val, by omega⟩ : Fin 8388608)))
  (hS : Seg (V c main_cst))

include hA in
theorem isA (n : ℕ) (hn : n < 8) : IsBlk T1 X A1 ⟨n % 4, Nat.mod_lt _ (by norm_num)⟩ (blkA V c n) := fun r l => by
  rw [blkA_at V c n hn, hA]
include hB in
theorem isB (n : ℕ) (hn : n < 8) : IsBlk T2 X A2 ⟨n % 4, Nat.mod_lt _ (by norm_num)⟩ (blkB V c n) := fun r l => by
  rw [blkB_at V c n hn, hB]
include hS in
theorem isS (n : ℕ) : Seg (blkS V c n) := fun k l => by rw [blkS_at, hS]

/-- One block's exponentials. -/
def ex (x : Fin 1024 → Fin 512 → EReal) (t : Fin 4) : EReal := ∑ b, ∑ k, Ideal.exp (part x t b k)

include hA hB hS in
theorem acc_succ (n : ℕ) (hn : n < 4) : accAt (F := Ideal) V c (n + 1) =
    ((accAt (F := Ideal) V c n).1 + ex (DD T1 X A1) ⟨n % 4, Nat.mod_lt _ (by norm_num)⟩,
      (accAt (F := Ideal) V c n).2 + ex (DD T2 X A2) ⟨n % 4, Nat.mod_lt _ (by norm_num)⟩) := by
  have e : accAt (F := Ideal) V c (n + 1) = acc1 (blkA V c n) (blkB V c n) (blkS V c n) (accAt V c n) := if_pos hn
  rw [e]
  unfold acc1
  have s := isS V c hS n
  rw [pay6_at, pay7_at]
  simp only [pay1_at, pay2_at]
  have h1 := exps (isA V c T1 X A1 hA n (by omega)) _ s
  have h2 := exps (isB V c T2 X A2 hB n (by omega)) _ s
  unfold dw at h1 h2
  rw [h1, h2]
  rfl

include hA hB hS in
theorem acc_four : accAt (F := Ideal) V c 4 =
    (∑ b, ∑ k, Ideal.exp (DD T1 X A1 b k), ∑ b, ∑ k, Ideal.exp (DD T2 X A2 b k)) := by
  have z : accAt (F := Ideal) V c 0 = ((0 : EReal), (0 : EReal)) := by
    show (Scalar.ofBits (F := Ideal) .f32 0x00000000#32, Scalar.ofBits (F := Ideal) .f32 0x00000000#32) = _
    rw [show Scalar.ofBits (F := Ideal) .f32 0x00000000#32 = (0 : EReal) from Ideal.ofBits_zero_f32]
  rw [acc_succ V c T1 T2 X A1 A2 hA hB hS 3 (by omega), acc_succ V c T1 T2 X A1 A2 hA hB hS 2 (by omega),
    acc_succ V c T1 T2 X A1 A2 hA hB hS 1 (by omega), acc_succ V c T1 T2 X A1 A2 hA hB hS 0 (by omega), z, Math.parts, Math.parts,
    Fin.sum_univ_four, Fin.sum_univ_four, zero_add, zero_add]
  rfl

theorem acc_hold (n : ℕ) (hn : 4 ≤ n) : accAt (F := Ideal) V c n = accAt (F := Ideal) V c 4 := by
  induction n, hn using Nat.le_induction with
  | base => rfl
  | succ n hn ih => exact (if_neg (by omega)).trans ih

include hA hB hS in
theorem out_succ (n : ℕ) (h4 : 4 ≤ n) (h8 : n < 8) (i j : Fin 1) : outAt (F := Ideal) V c (n + 1) (ix2 i j) =
    step (zed (DD T1 X A1)) (zed (DD T2 X A2)) (DD T1 X A1) (DD T2 X A2) ⟨n % 4, Nat.mod_lt _ (by norm_num)⟩ (outAt (F := Ideal) V c n (ix2 i j)) := by
  have e : outAt (F := Ideal) V c (n + 1) = fin1 (blkA V c n) (blkB V c n) (blkS V c n) (accAt V c n) (outAt V c n) := if_neg (by omega)
  rw [e, acc_hold V c n h4, acc_four V c T1 T2 X A1 A2 hA hB hS]
  unfold fin1
  have s := isS V c hS n
  rw [pay8_at, pay9_at]
  simp only [pay1_at, pay2_at]
  have h1 := tots (isA V c T1 X A1 hA n (by omega)) _ s (zed (DD T1 X A1))
  have h2 := tots (isB V c T2 X A2 hB n (by omega)) _ s (zed (DD T2 X A2))
  unfold step
  rw [← h1, ← h2]
  rfl

include hA hB hS in
theorem loss_at (i j : Fin 1) : lossAt (F := Ideal) V c (ix2 i j) =
    share (blkL (zed (DD T1 X A1)) (DD T1 X A1)) + share (blkL (zed (DD T2 X A2)) (DD T2 X A2)) := by
  rw [← loss]
  have z : outAt (F := Ideal) V c 4 (ix2 i j) = 0 := pay5_at i j
  show outAt (F := Ideal) V c 8 (ix2 i j) = _
  rw [out_succ V c T1 T2 X A1 A2 hA hB hS 7 (by omega) (by omega), out_succ V c T1 T2 X A1 A2 hA hB hS 6 (by omega) (by omega),
    out_succ V c T1 T2 X A1 A2 hA hB hS 5 (by omega) (by omega), out_succ V c T1 T2 X A1 A2 hA hB hS 4 (by omega) (by omega), z]
  rfl

end Blocks

/-! ## The launch's arrays -/

variable (m : (ℓ : Loc nD τ sig) → Buf (Elt Ideal) ℓ) (c : Dev nD)

/-- The indices, listed. -/
def idx : S524288.Idx → BitVec 32 := shapeCast S524288 (m (c, dr main_arg3)) shapeCasts_S1024x512_S524288

theorem V1_v0 : V1 m c (dr main_v0) = idx m c := by
  unfold V1 idx
  rw [StableHlo.reshape_result]
  rw [StableHlo.nullary_result_ne _ _ _ _ (by decide)]
  rfl

theorem V1_cst : V1 m c (dr main_cst) = fun i => FloatOps.ofBits (F := Ideal) .f32 (lit0 (S128x128.rowMajor i)) := by
  unfold V1
  rw [StableHlo.reshape_result_ne _ _ _ _ _ _ _ (by decide), StableHlo.nullary_result]
  rfl

theorem seg : Seg (V3 m c (dr main_cst)) := fun k l => by
  rw [V3_ne m c _ (by decide) (by decide), V2_ne m c _ (by decide) (by decide), V1_cst]
  show Ideal.ofBits .f32 (lit0t (S128x128.rowMajor (ix2 k l)).val) = _
  rw [show (S128x128.rowMajor (ix2 k l)).val = 128 * k.val + l.val from by
    rw [rowMajor_val2 (ix2 k l) 128 rfl]; show k.val * 128 + l.val = _; omega]
  rw [Lit.lit_at]
  split
  · exact Ideal.ofBits_one_f32
  · exact Ideal.ofBits_zero_f32

theorem v2_at (r : Fin 65536) (l : Fin 128) : V3 m c (dr main_v2) (ix2 r l) =
    OUT (F := Ideal) (m (c, dr main_arg4)) (idx m c) (m (c, dr main_arg1)) (ix1 (⟨128 * r.val + l.val, by omega⟩ : Fin 8388608)) := by
  have e : V3 m c (dr main_v2) = shapeCast S65536x128 (O1 m c) shapeCasts_S8388608_S65536x128 := by
    unfold V3
    rw [StableHlo.reshape_result_ne _ _ _ _ _ _ _ (by decide), StableHlo.reshape_result]
    unfold V2
    rw [Function.update_of_ne (dr_ne (by decide)), Function.update_self]
    rfl
  rw [e]
  unfold O1
  rw [V1_v0, V1_arg m c _ (by decide) (by decide), V1_arg m c _ (by decide) (by decide)]
  pointwise []
  exact congrArg _ (congrArg ix1 (Fin.ext (by simp only; omega)))

theorem v3_at (r : Fin 65536) (l : Fin 128) : V3 m c (dr main_v3) (ix2 r l) =
    OUT (F := Ideal) (m (c, dr main_arg5)) (idx m c) (m (c, dr main_arg0)) (ix1 (⟨128 * r.val + l.val, by omega⟩ : Fin 8388608)) := by
  have e : V3 m c (dr main_v3) = shapeCast S65536x128 (O2 m c) shapeCasts_S8388608_S65536x128 := by
    unfold V3
    rw [StableHlo.reshape_result, StableHlo.reshape_result_ne _ _ _ _ _ _ _ (by decide)]
    unfold V2
    rw [Function.update_self]
    rfl
  rw [e]
  unfold O2
  rw [V1_v0, V1_arg m c _ (by decide) (by decide), V1_arg m c _ (by decide) (by decide)]
  pointwise []
  exact congrArg _ (congrArg ix1 (Fin.ext (by simp only; omega)))

/-- The products of the two tables. -/
def da : Fin 1024 → Fin 512 → EReal := DD (m (c, dr main_arg4)) (idx m c) (m (c, dr main_arg1))
def db : Fin 1024 → Fin 512 → EReal := DD (m (c, dr main_arg5)) (idx m c) (m (c, dr main_arg0))

/-- The result word. -/
theorem result (i : Fin 1) : V5 m c (dr main_v5) (ix1 i) = share (blkL (zed (da m c)) (da m c)) + share (blkL (zed (db m c)) (db m c)) := by
  have e : V5 m c (dr main_v5) = shapeCast S1 (theLoss m c) shapeCasts_S1x1_S1 := by
    unfold V5
    rw [StableHlo.reshape_result, V4_v4]
    rfl
  rw [e]
  have h := loss_at (fun c b => V3 m c (dr b)) c _ _ _ _ _ (v2_at m c) (v3_at m c) (seg m c)
  unfold theLoss
  pointwise []
  exact h _ _

end Cert.Proof.Ker

end
-- ==== Proof.Ref.lean ====
/-
  The reference's result as the sum over the products.
-/
module

public import proofs.«01_k».proof.Proof.Gen.ReferenceIdeal
public import proofs.«01_k».proof.Proof.Gen.ReferenceIdeal.Run
public import proofs.«01_k».proof.Proof.Loss
public import proofs.«01_k».proof.Proof.Consts
public import proofs.«01_k».proof.Proof.Lanes
public import Idealize.ShloMosaic.Lib.Pointwise
public import Idealize.ShloMosaic.Lib.ReduceAll
public import Idealize.ShloMosaic.Lib.Routing.Ops
public import Idealize.ShloMosaic.Lib.Routing.OpsPair

@[expose] public section

set_option maxRecDepth 16384

noncomputable section

namespace Cert.Proof.Ref

open Cert.ReferenceIdeal Cert.ReferenceIdeal.Gen Cert.Proof.Math Cert.Proof.Consts
open Cert.Proof.KI (rowOf)
open Idealize.ShloMosaic Idealize.ShloMosaic.TcCoe
open scoped BigOperators

/-! ## The reference's term, in parts -/

/-- The indices, listed, a negative one wrapped. -/
def wrap (X : IVec S1024x512 32) : IVec S524288x1 32 :=
  broadcastInDim S524288x1 ![0] bcast_S524288_S524288x1_0 (select (cmpi .slt (shapeCast _ X shapeCasts_S1024x512_S524288) (broadcastInDim S524288 ![] bcast_S_S524288 (constantI S_ 32 0#32))) (addi (shapeCast _ X shapeCasts_S1024x512_S524288) (broadcastInDim S524288 ![] bcast_S_S524288 (constantI S_ 32 1000000#32))) (shapeCast _ X shapeCasts_S1024x512_S524288))

/-- Which of them name a row. -/
def inside (W : IVec S524288x1 32) : IVec S524288 1 :=
  Host.reduce IntOp.andi (andi (cmpi .sge W (broadcastInDim S524288x1 ![] bcast_S_S524288x1 (constantI S_ 32 0#32))) (cmpi .sle W (broadcastInDim S524288x1 ![0, 1] bcast_S1x1_S524288x1_0_1 (broadcastInDim S1x1 ![1] bcast_S1_S1x1_1 (constantI S1 32 999999#32))))) (constantI S_ 1 1#1) reducesTo_S524288x1_S524288_d1 h_S_

/-- The rows taken. -/
def rows (T : FVec Ideal S1000000x128 .f32) (X : IVec S1024x512 32) : FVec Ideal S524288x128 .f32 :=
  select (broadcastInDim S524288x128 ![0] bcast_S524288_S524288x128_0 (inside (wrap X))) (Host.gather gather_S1000000x128_S524288x1_S524288x128_1_0_n_n_0_1_1128 T (wrap X)) (broadcastInDim S524288x128 ![] bcast_S_S524288x128 (constant S_ .f32 0x7FC00000#32))

/-- The exponentials of the products over the temperature. -/
def exs (R : FVec Ideal S524288x128 .f32) (A : FVec Ideal S1024x128 .f32) : FVec Ideal S1024x512x1 .f32 :=
  Host.exp (Host.divf (broadcastInDim S1024x512x1 ![0, 1] bcast_S1024x512_S1024x512x1_0_1 (Host.dotGeneral dot_S1024x512x128_S1024x128_S1024x512_2_1_1_n_0_0 none (shapeCast _ R shapeCasts_S524288x128_S1024x512x128) A)) (broadcastInDim S1024x512x1 ![] bcast_S_S1024x512x1 (constant S_ .f32 0x3D8F5C29#32)))

/-- Over the normaliser. -/
def norm (E : FVec Ideal S1024x512x1 .f32) : FVec Ideal S1024x512x1 .f32 :=
  Host.divf E (broadcastInDim S1024x512x1 ![] bcast_S_S1024x512x1 (mulf (Host.divf (Host.reduceAdd E (constant S_ .f32 0x00000000#32) reducesTo_S1024x512x1_S_d0_1_2 h_S_) (constant S_ .f32 0x49000000#32)) (constant S_ .f32 0x49742400#32)))

/-- The criterion. -/
def crit (N : FVec Ideal S1024x512x1 .f32) : FVec Ideal S1 .f32 :=
  Host.divf (Host.negf (addf (Host.reduceAdd (Host.log (Host.divf (shapeCast _ (extractStridedSlice S1024x1x1 ![0, 0, 0] N slices_S1024x512x1_S1024x1x1_0_0_0) shapeCasts_S1024x1x1_S1024x1) (addf (addf (shapeCast _ (extractStridedSlice S1024x1x1 ![0, 0, 0] N slices_S1024x512x1_S1024x1x1_0_0_0) shapeCasts_S1024x1x1_S1024x1) (broadcastInDim S1024x1 ![] bcast_S_S1024x1 (constant S_ .f32 0x3A05F4A1#32))) (broadcastInDim S1024x1 ![] bcast_S_S1024x1 (constant S_ .f32 0x33D6BF95#32))))) (constant S_ .f32 0x00000000#32) reducesTo_S1024x1_S1_d0 h_S_) (Host.reduceAdd (shapeCast _ (Host.log (Host.divf (broadcastInDim S1024x511x1 ![] bcast_S_S1024x511x1 (constant S_ .f32 0x3A05F4A1#32)) (addf (addf (extractStridedSlice S1024x511x1 ![0, 1, 0] N slices_S1024x512x1_S1024x511x1_0_1_0) (broadcastInDim S1024x511x1 ![] bcast_S_S1024x511x1 (constant S_ .f32 0x3A05F4A1#32))) (broadcastInDim S1024x511x1 ![] bcast_S_S1024x511x1 (constant S_ .f32 0x33D6BF95#32))))) shapeCasts_S1024x511x1_S523264x1) (constant S_ .f32 0x00000000#32) reducesTo_S523264x1_S1_d0 h_S_))) (broadcastInDim S1 ![] bcast_S_S1 (constant S_ .f32 0x44800000#32))

theorem res_eq (m : (ℓ : Loc nD τ sig) → Buf (Elt Ideal) ℓ) (c : Dev nD) : Value.res_main_v71 (F := Ideal) m c =
    addf (crit (norm (exs (rows (m ((c.tc : Thread nD τ).loc main_arg5)) (m ((c.tc : Thread nD τ).loc main_arg3))) (m ((c.tc : Thread nD τ).loc main_arg0)))))
      (crit (norm (exs (rows (m ((c.tc : Thread nD τ).loc main_arg4)) (m ((c.tc : Thread nD τ).loc main_arg3))) (m ((c.tc : Thread nD τ).loc main_arg1))))) := rfl

/-! ## The rows -/

section Rows

variable (X : IVec S1024x512 32) (h : ∀ j, (X j).toNat < 1000000)

include h in
theorem wrap_at (n : Fin 524288) (j : Fin 1) : wrap X (ix2 n j) = shapeCast S524288 X shapeCasts_S1024x512_S524288 (ix1 n) := by
  unfold wrap
  pointwise []
  exact Routing.wrap_of_lt _ _ (lt_trans (h _) (by norm_num))

include h in
theorem wrap_lt (j : S524288x1.Idx) : (wrap X j).toNat < 1000000 := by
  idx_vars j
  rw [wrap_at X h]
  exact h _

theorem inside_one (W : IVec S524288x1 32) (hW : ∀ j, (W j).toNat < 1000000) (j : S524288.Idx) : inside W j = 1#1 := by
  refine Host.reduce_andi_one _ _ _ _ j rfl fun i => ?_
  idx_vars i
  pointwise []
  have hw := hW (ix2 i0 i1)
  generalize W (ix2 i0 i1) = w at hw
  have e1 : IntOp.cmpi .sge w 0#32 = 1#1 := by
    rw [WordCmp.cmpi_sge_of_lt (by omega) (by decide)]
    simp
  have e2 : IntOp.cmpi .sle w 999999#32 = 1#1 := by
    have hle : w.toNat ≤ (999999#32 : BitVec 32).toNat := (Nat.le_of_lt_succ hw : w.toNat ≤ 999999)
    rw [WordCmp.cmpi_sle_of_lt (by omega) (by decide), decide_eq_true hle]
    rfl
  rw [e1, e2]
  rfl

include h in
theorem rows_at (T : FVec Ideal S1000000x128 .f32) (n : Fin 524288) (a : Fin 128) (w : BitVec 32)
    (hw : w = shapeCast S524288 X shapeCasts_S1024x512_S524288 (ix1 n)) : rows T X (ix2 n a) = T (ix2 (rowOf w) a) := by
  have hlt : w.toNat < 1000000 := hw ▸ h _
  have hb : wrap X (ix2 n 0) = BitVec.ofNat 32 (rowOf w).val := by
    rw [wrap_at X h, ← hw]
    apply BitVec.eq_of_toNat_eq
    show w.toNat = (BitVec.ofNat 32 (w.toNat % 1000000)).toNat
    rw [BitVec.toNat_ofNat, Nat.mod_eq_of_lt hlt, Nat.mod_eq_of_lt w.isLt]
  have hg : Host.gather gather_S1000000x128_S524288x1_S524288x128_1_0_n_n_0_1_1128 T (wrap X) (ix2 n a) = T (ix2 (rowOf w) a) := by
    simp only [ix2_eq_valueIdx] at hb ⊢
    exact Routing.gather_row _ rfl rfl rfl rfl rfl T (wrap X) n a (rowOf w) hb (by norm_num)
  unfold rows
  pointwise []
  rw [inside_one _ (wrap_lt X h), hg]
  rfl

end Rows

/-! ## The sums -/

theorem exs_at (R : FVec Ideal S524288x128 .f32) (A : FVec Ideal S1024x128 .f32) (b : Fin 1024) (k : Fin 512) (i : Fin 1) :
    exs R A (ix3 b k i) = Ideal.exp (Ideal.div (∑ x : Fin 128, R (ix2 (⟨b.val * 512 + k.val, by omega⟩ : Fin 524288) x) * A (ix2 b x)) ((9395241 / 134217728 : ℝ) : EReal)) := by
  unfold exs
  pointwise [ofBits_t]

theorem norm_at (E : FVec Ideal S1024x512x1 .f32) (x : Fin 1024 → Fin 512 → EReal) (hE : ∀ b k i, E (ix3 b k i) = Ideal.exp (x b k))
    (b : Fin 1024) (k : Fin 512) (i : Fin 1) : norm E (ix3 b k i) = Ideal.div (Ideal.exp (x b k)) (zed x) := by
  have hz : Ideal.div (∑ b, ∑ k, Ideal.exp (x b k)) ((524288 : ℝ) : EReal) * ((1000000 : ℝ) : EReal) = zed x := by
    unfold zed
    rw [Ideal.div_coe (by norm_num), mul_assoc, ← EReal.coe_mul]
    congr 2
    norm_num
  unfold norm
  pointwise [ofBits_n, ofBits_rows]
  simp only [hE]
  rw [← hz]
  simp

theorem crit_at (N : FVec Ideal S1024x512x1 .f32) (z : EReal) (x : Fin 1024 → Fin 512 → EReal)
    (hN : ∀ b k i, N (ix3 b k i) = Ideal.div (Ideal.exp (x b k)) z) (i : Fin 1) : crit N (ix1 i) = share (blkL z x) := by
  unfold crit
  pointwise [ofBits_mpn, ofBits_eps, ofBits_bsz]
  simp only [hN]
  unfold share blkL
  refine congrArg (fun s => Ideal.div (-s) _) (congrArg₂ (· + ·) rfl ?_)
  rw [sum_groups (m := 1024) (n := 511) (by norm_num)]
  refine Finset.sum_congr rfl fun b _ => Finset.sum_congr rfl fun k _ => ?_
  have e1 : (511 * b.val + k.val) / 511 = b.val := by omega
  have e2 : (511 * b.val + k.val) % 511 = k.val := by omega
  unfold L0
  simp only [e1, e2]
  rw [show (⟨1 + k.val, by omega⟩ : Fin 512) = k.succ from Fin.ext (Nat.add_comm ..)]

/-! ## The result -/

/-- One table's and one batch's part of the result is the share of its products. -/
theorem side (X : IVec S1024x512 32) (h : ∀ j, (X j).toNat < 1000000) (T : FVec Ideal S1000000x128 .f32) (A : FVec Ideal S1024x128 .f32)
    (x : Fin 1024 → Fin 512 → EReal) (hx : x = Lanes.DD T (shapeCast S524288 X shapeCasts_S1024x512_S524288) A) (i : Fin 1) :
    crit (norm (exs (rows T X) A)) (ix1 i) = share (blkL (zed x) x) := by
  refine crit_at _ _ _ (norm_at _ _ fun b k i => ?_) i
  rw [exs_at, Ideal.div_coe (by norm_num), hx]
  unfold Lanes.DD Lanes.invT
  refine congrArg Ideal.exp (congrArg₂ (· * ·) (Finset.sum_congr rfl fun a _ => ?_) (congrArg _ (by norm_num)))
  rw [rows_at X h T _ a _ rfl]
  have e : (⟨b.val * 512 + k.val, by omega⟩ : Fin 524288) = ⟨512 * b.val + k.val, by omega⟩ := Fin.ext (by simp only; omega)
  rw [e]

end Cert.Proof.Ref

end
-- ==== Proof.Value.lean ====
/-
  The kernel's and the reference's results are equal.
-/
module

public import proofs.«01_k».proof.Proof.KI.Frame
public import proofs.«01_k».proof.Proof.Sides
public import proofs.«01_k».proof.Proof.Ker
public import proofs.«01_k».proof.Proof.Ref

@[expose] public section

set_option maxRecDepth 16384

noncomputable section

namespace Cert.Proof.Value

open Idealize.ShloMosaic Idealize.SL.Sem Idealize.ShloMosaic.TcCoe
open Cert.Proof.KI

/-- What the reference computes from the kernel's arguments is what the kernel's result word holds. -/
theorem equal (m : (ℓ : Loc Cert.KernelIdeal.nD Cert.KernelIdeal.τ Cert.KernelIdeal.sig) → Buf (Elt Ideal) ℓ) (h : Cert.Pre_KernelIdeal m)
    (c : Dev Cert.KernelIdeal.nD) :
    addf (Ref.crit (Ref.norm (Ref.exs (Ref.rows (m (c, dr Cert.KernelIdeal.main_arg5)) (m (c, dr Cert.KernelIdeal.main_arg3))) (m (c, dr Cert.KernelIdeal.main_arg0)))))
      (Ref.crit (Ref.norm (Ref.exs (Ref.rows (m (c, dr Cert.KernelIdeal.main_arg4)) (m (c, dr Cert.KernelIdeal.main_arg3))) (m (c, dr Cert.KernelIdeal.main_arg1)))))
      = V5 m c (dr Cert.KernelIdeal.main_v5) := by
  funext i
  obtain ⟨i, rfl⟩ : ∃ k : Fin 1, i = ix1 k := ⟨i 0, by funext a; fin_cases a; rfl⟩
  refine Eq.trans ?_ (Ker.result m c i).symm
  refine Eq.trans ?_ (add_comm _ _)
  exact congrArg₂ (· + ·) (Ref.side _ (rows_lt m h c) _ _ (Ker.db m c) rfl i) (Ref.side _ (rows_lt m h c) _ _ (Ker.da m c) rfl i)

theorem algebraic : Cert.algebraic_KernelIdeal_ReferenceIdeal := by
  intro m ρ m' ρ' hpre hagree
  refine ⟨fun c => V5 m c (dr Cert.KernelIdeal.main_v5), ?_, ?_⟩
  · refine (θ_run Cert.KernelIdeal.defs _ _).mono (fun _ h c => ?_) (run_pre m ρ hpre)
    exact ⟨h.1 c _ (by decide), arg_mem h c Cert.KernelIdeal.main_arg0 (by decide) (by decide), arg_mem h c Cert.KernelIdeal.main_arg1 (by decide) (by decide),
      arg_mem h c Cert.KernelIdeal.main_arg2 (by decide) (by decide), arg_mem h c Cert.KernelIdeal.main_arg3 (by decide) (by decide),
      arg_mem h c Cert.KernelIdeal.main_arg4 (by decide) (by decide), arg_mem h c Cert.KernelIdeal.main_arg5 (by decide) (by decide)⟩
  · refine (θ_run Cert.ReferenceIdeal.defs _ _).mono (fun _ h c => ⟨(h c).1.trans ?_, (h c).2⟩) (Cert.ReferenceIdeal.Value.run (F := Ideal) m' ρ')
    obtain ⟨h0, h1, _, h3, h4, h5⟩ := hagree c
    rw [Ref.res_eq, h0, h1, h3, h4, h5]
    exact equal m hpre c

end Cert.Proof.Value

end
-- ==== Proof.lean ====
/-
  The certificate's claim, put together from the proofs of its parts.
-/
module

public import proofs.«01_k».proof.Defs
public import proofs.«01_k».proof.Proof.K.Frame
public import proofs.«01_k».proof.Proof.KI.Frame
public import proofs.«01_k».proof.Proof.Sides
public import proofs.«01_k».proof.Proof.Value

@[expose] public section

noncomputable section

namespace Cert.Proof

theorem claim : Cert.Claim := ⟨Cert.Kernel.Gen.facts, Cert.KernelIdeal.Gen.facts, Cert.ReferenceIdeal.Gen.facts, Cert.Pre_rows_named.Gen.facts,
  K.frame, KI.frame, Sides.frame, Sides.preserves, Value.algebraic⟩

end Cert.Proof

end
